-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_mod [hPre_finite_mod : Cert.Pre_finite_mod.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_mod.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_mod [hPre_finite_mod : Cert.Pre_finite_mod.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_mod.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_shift [hPre_finite_shift : Cert.Pre_finite_shift.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_shift.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_shift [hPre_finite_shift : Cert.Pre_finite_shift.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_shift.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite_mod [hKernel14Ideal : Cert.Kernel14Ideal.Facts] [hPre_finite_mod : Cert.Pre_finite_mod.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_mod m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite_mod [hReference14Ideal : Cert.Reference14Ideal.Facts] [hPre_finite_mod : Cert.Pre_finite_mod.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_mod m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Kernel15Ideal_pre_finite_shift [hKernel15Ideal : Cert.Kernel15Ideal.Facts] [hPre_finite_shift : Cert.Pre_finite_shift.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_shift m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Reference15Ideal_pre_finite_shift [hReference15Ideal : Cert.Reference15Ideal.Facts] [hPre_finite_shift : Cert.Pre_finite_shift.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_shift m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v11) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v7_0)) (v1 : (c : Dev Cert.Kernel12Ideal.nD) → Buf (Elt Ideal) ((c.tc : Thread Cert.Kernel12Ideal.nD Cert.Kernel12Ideal.τ).loc Cert.Kernel12Ideal.main_v7_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7_0) = v0 c
          ∧ r.2.mem ((c.tc : Thread Cert.Kernel12Ideal.nD Cert.Kernel12Ideal.τ).loc Cert.Kernel12Ideal.main_v7_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v29) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_finite_mod [hKernel14Ideal : Cert.Kernel14Ideal.Facts] [hReference14Ideal : Cert.Reference14Ideal.Facts] [hPre_finite_mod : Cert.Pre_finite_mod.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_mod m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v30) = v0 c
          ∧ r.2.mem ((c.tc : Thread Cert.Reference14Ideal.nD Cert.Reference14Ideal.τ).loc Cert.Reference14Ideal.main_v31) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite_shift [hKernel15Ideal : Cert.Kernel15Ideal.Facts] [hReference15Ideal : Cert.Reference15Ideal.Facts] [hPre_finite_shift : Cert.Pre_finite_shift.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_shift m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)) (v6 : (c : Dev Cert.Kernel15Ideal.nD) → Buf (Elt Ideal) ((c.tc : Thread Cert.Kernel15Ideal.nD Cert.Kernel15Ideal.τ).loc Cert.Kernel15Ideal.main_v0_6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_v0_6) = v6 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v82) = v0 c
          ∧ r.2.mem ((c.tc : Thread Cert.Reference15Ideal.nD Cert.Reference15Ideal.τ).loc Cert.Reference15Ideal.main_v41) = v1 c
          ∧ r.2.mem ((c.tc : Thread Cert.Reference15Ideal.nD Cert.Reference15Ideal.τ).loc Cert.Reference15Ideal.main_v49) = v2 c
          ∧ r.2.mem ((c.tc : Thread Cert.Reference15Ideal.nD Cert.Reference15Ideal.τ).loc Cert.Reference15Ideal.main_v57) = v3 c
          ∧ r.2.mem ((c.tc : Thread Cert.Reference15Ideal.nD Cert.Reference15Ideal.τ).loc Cert.Reference15Ideal.main_v65) = v4 c
          ∧ r.2.mem ((c.tc : Thread Cert.Reference15Ideal.nD Cert.Reference15Ideal.τ).loc Cert.Reference15Ideal.main_v73) = v5 c
          ∧ r.2.mem ((c.tc : Thread Cert.Reference15Ideal.nD Cert.Reference15Ideal.τ).loc Cert.Reference15Ideal.main_v81) = v6 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_mod : Cert.Pre_finite_mod.Facts) (hPre_finite_shift : Cert.Pre_finite_shift.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_mod (hKernel14Ideal := hKernel14Ideal) (hPre_finite_mod := hPre_finite_mod)
    ∧ quiescent_Reference14Ideal (hReference14Ideal := hReference14Ideal)
    ∧ quiescent_Reference14Ideal_pre_finite_mod (hReference14Ideal := hReference14Ideal) (hPre_finite_mod := hPre_finite_mod)
    ∧ quiescent_Kernel15 (hKernel15 := hKernel15)
    ∧ quiescent_Kernel15Ideal (hKernel15Ideal := hKernel15Ideal)
    ∧ quiescent_Kernel15Ideal_pre_finite_shift (hKernel15Ideal := hKernel15Ideal) (hPre_finite_shift := hPre_finite_shift)
    ∧ quiescent_Reference15Ideal (hReference15Ideal := hReference15Ideal)
    ∧ quiescent_Reference15Ideal_pre_finite_shift (hReference15Ideal := hReference15Ideal) (hPre_finite_shift := hPre_finite_shift)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_mod (hKernel14Ideal := hKernel14Ideal) (hReference14Ideal := hReference14Ideal) (hPre_finite_mod := hPre_finite_mod)
    ∧ preserves_Kernel15_Kernel15Ideal
    ∧ algebraic_Kernel15Ideal_Reference15Ideal_pre_finite_shift (hKernel15Ideal := hKernel15Ideal) (hReference15Ideal := hReference15Ideal) (hPre_finite_shift := hPre_finite_shift)
-- ==== Pre_finite_mod.lean ====
abbrev S8192x4096 : Shape := ⟨2, ![8192, 4096]⟩
abbrev S1x4096 : Shape := ⟨2, ![1, 4096]⟩
abbrev S2x1x4096 : Shape := ⟨3, ![2, 1, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S2x1x4096 : S_.BroadcastsInDim S2x1x4096 (![] : Fin 0 → Fin S2x1x4096.rank)
  reducesTo_S2x1x4096_S_d0_1_2 : S2x1x4096.ReducesTo [0, 1, 2] S_

variable [Facts]

def fn {F : FTy → Type} [FloatOps F] (main_arg0 : FVec F S8192x4096 .f32) (main_arg1 : FVec F S1x4096 .f32) (main_arg2 : FVec F S1x4096 .f32) (main_arg3 : FVec F S2x1x4096 .f32) (main_arg4 : FVec F S2x1x4096 .f32) : IVec S_ 1 :=
  let main_v0 : FVec F S1x4096 .f32 := Host.absf main_arg2
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S2x1x4096 .f32 := Host.absf main_arg3
  let main_cst_0 : FVec F S_ .f32 := constant S_ .f32 0x7F800000#32
  let main_v5 : FVec F S2x1x4096 .f32 := broadcastInDim S2x1x4096 ![] bcast_S_S2x1x4096 main_cst_0
  let main_v6 : IVec S2x1x4096 1 := cmpf .olt main_v4 main_v5
  let main_c_1 : IVec S_ 1 := constantI S_ 1 1#1
  let main_v7 : IVec S_ 1 := (fun x v => Host.reduce IntOp.andi x v reducesTo_S2x1x4096_S_d0_1_2 h_S_) main_v6 main_c_1
  let main_v8 : IVec S_ 1 := andi main_v3 main_v7
  main_v8
-- ==== Pre_finite_shift.lean ====
abbrev S8192x4096 : Shape := ⟨2, ![8192, 4096]⟩
abbrev S1x4096 : Shape := ⟨2, ![1, 4096]⟩
abbrev S2x1x4096 : Shape := ⟨3, ![2, 1, 4096]⟩
abbrev S6x4096 : Shape := ⟨2, ![6, 4096]⟩
abbrev S_ : Shape := ⟨0, ![]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  bcast_S_S2x1x4096 : S_.BroadcastsInDim S2x1x4096 (![] : Fin 0 → Fin S2x1x4096.rank)
  reducesTo_S2x1x4096_S_d0_1_2 : S2x1x4096.ReducesTo [0, 1, 2] S_

variable [Facts]

def fn {F : FTy → Type} [FloatOps F] (main_arg0 : FVec F S8192x4096 .f32) (main_arg1 : FVec F S1x4096 .f32) (main_arg2 : FVec F S1x4096 .f32) (main_arg3 : FVec F S2x1x4096 .f32) (main_arg4 : FVec F S2x1x4096 .f32) (main_arg5 : FVec F S6x4096 .f32) : IVec S_ 1 :=
  let main_v0 : FVec F S1x4096 .f32 := Host.absf main_arg2
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S2x1x4096 .f32 := Host.absf main_arg3
  let main_cst_0 : FVec F S_ .f32 := constant S_ .f32 0x7F800000#32
  let main_v5 : FVec F S2x1x4096 .f32 := broadcastInDim S2x1x4096 ![] bcast_S_S2x1x4096 main_cst_0
  let main_v6 : IVec S2x1x4096 1 := cmpf .olt main_v4 main_v5
  let main_c_1 : IVec S_ 1 := constantI S_ 1 1#1
  let main_v7 : IVec S_ 1 := (fun x v => Host.reduce IntOp.andi x v reducesTo_S2x1x4096_S_d0_1_2 h_S_) main_v6 main_c_1
  let main_v8 : IVec S_ 1 := andi main_v3 main_v7
  main_v8
-- ==== Kernel.lean ====
abbrev S8192x12288 : Shape := ⟨2, ![8192, 12288]⟩
abbrev S8192x128 : Shape := ⟨2, ![8192, 128]⟩
abbrev S1x4096 : Shape := ⟨2, ![1, 4096]⟩
abbrev S1x4096x4096 : Shape := ⟨3, ![1, 4096, 4096]⟩
abbrev S8192x16 : Shape := ⟨2, ![8192, 16]⟩
abbrev S2x4096x16 : Shape := ⟨3, ![2, 4096, 16]⟩
abbrev S2x16x4096 : Shape := ⟨3, ![2, 16, 4096]⟩
abbrev S2x8x4096 : Shape := ⟨3, ![2, 8, 4096]⟩
abbrev S2x8x32x1x128 : Shape := ⟨5, ![2, 8, 32, 1, 128]⟩
abbrev S8192x4096 : Shape := ⟨2, ![8192, 4096]⟩
abbrev S4096x4096 : Shape := ⟨2, ![4096, 4096]⟩
abbrev S128x2048 : Shape := ⟨2, ![128, 2048]⟩
abbrev S128x4096 : Shape := ⟨2, ![128, 4096]⟩
abbrev S128x128 : Shape := ⟨2, ![128, 128]⟩
abbrev S1x8x1x1x128 : Shape := ⟨5, ![1, 8, 1, 1, 128]⟩
abbrev S1x64x4096 : Shape := ⟨3, ![1, 64, 4096]⟩
abbrev S64x4096 : Shape := ⟨2, ![64, 4096]⟩
abbrev S8x256x512 : Shape := ⟨3, ![8, 256, 512]⟩
abbrev S8x1x256 : Shape := ⟨3, ![8, 1, 256]⟩
abbrev S8x1x1 : Shape := ⟨3, ![8, 1, 1]⟩
abbrev S128x256 : Shape := ⟨2, ![128, 256]⟩
abbrev S128x512 : Shape := ⟨2, ![128, 512]⟩
abbrev S128x1 : Shape := ⟨2, ![128, 1]⟩
abbrev S1x1x1x1x128 : Shape := ⟨5, ![1, 1, 1, 1, 128]⟩
abbrev S1x128 : Shape := ⟨2, ![1, 128]⟩
abbrev S1x256x512 : Shape := ⟨3, ![1, 256, 512]⟩
abbrev S256x512 : Shape := ⟨2, ![256, 512]⟩
abbrev S1x1x256 : Shape := ⟨3, ![1, 1, 256]⟩
abbrev S1x256 : Shape := ⟨2, ![1, 256]⟩
abbrev S1x1x1 : Shape := ⟨3, ![1, 1, 1]⟩
abbrev S1x1 : Shape := ⟨2, ![1, 1]⟩
abbrev S128 : Shape := ⟨1, ![128]⟩
abbrev S1 : Shape := ⟨1, ![1]⟩
abbrev S1x512 : Shape := ⟨2, ![1, 512]⟩
abbrev S256 : Shape := ⟨1, ![256]⟩

abbrev nBuf : Space → Nat
  | .hbm => 13
  | .vmem => 24
  | .smem => 0
  | _ => 0

abbrev bufTy : (tb : Table) → Fin (tcTables nBuf tb) → BufTy
  | .hbm, ⟨0, _⟩ => ⟨S8192x12288, .bf16⟩
  | .hbm, ⟨1, _⟩ => ⟨S8192x128, .f32⟩
  | .hbm, ⟨2, _⟩ => ⟨S1x4096, .f32⟩
  | .hbm, ⟨3, _⟩ => ⟨S1x4096x4096, .f32⟩
  | .hbm, ⟨4, _⟩ => ⟨S8192x16, .f32⟩
  | .hbm, ⟨5, _⟩ => ⟨S2x4096x16, .f32⟩
  | .hbm, ⟨6, _⟩ => ⟨S2x16x4096, .f32⟩
  | .hbm, ⟨7, _⟩ => ⟨S2x8x4096, .f32⟩
  | .hbm, ⟨8, _⟩ => ⟨S2x8x4096, .f32⟩
  | .hbm, ⟨9, _⟩ => ⟨S2x8x32x1x128, .f32⟩
  | .hbm, ⟨10, _⟩ => ⟨S2x8x32x1x128, .f32⟩
  | .hbm, ⟨11, _⟩ => ⟨S8192x4096, .bf16⟩
  | .hbm, ⟨12, _⟩ => ⟨S4096x4096, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x4096, .bf16⟩
  | .local _ .vmem, ⟨5, _⟩ => ⟨S128x4096, .bf16⟩
  | .local _ .vmem, ⟨6, _⟩ => ⟨S128x4096, .bf16⟩
  | .local _ .vmem, ⟨7, _⟩ => ⟨S128x4096, .bf16⟩
  | .local _ .vmem, ⟨8, _⟩ => ⟨S128x128, .f32⟩
  | .local _ .vmem, ⟨9, _⟩ => ⟨S128x128, .f32⟩
  | .local _ .vmem, ⟨10, _⟩ => ⟨S1x8x1x1x128, .f32⟩
  | .local _ .vmem, ⟨11, _⟩ => ⟨S1x8x1x1x128, .f32⟩
  | .local _ .vmem, ⟨12, _⟩ => ⟨S1x8x1x1x128, .f32⟩
  | .local _ .vmem, ⟨13, _⟩ => ⟨S1x8x1x1x128, .f32⟩
  | .local _ .vmem, ⟨14, _⟩ => ⟨S1x4096, .f32⟩
  | .local _ .vmem, ⟨15, _⟩ => ⟨S1x64x4096, .f32⟩
  | .local _ .vmem, ⟨16, _⟩ => ⟨S1x64x4096, .f32⟩
  | .local _ .vmem, ⟨17, _⟩ => ⟨S128x4096, .bf16⟩
  | .local _ .vmem, ⟨18, _⟩ => ⟨S128x4096, .bf16⟩
  | .local _ .vmem, ⟨19, _⟩ => ⟨S64x4096, .bf16⟩
  | .local _ .vmem, ⟨20, _⟩ => ⟨S64x4096, .bf16⟩
  | .local _ .vmem, ⟨21, _⟩ => ⟨S8x256x512, .f32⟩
  | .local _ .vmem, ⟨22, _⟩ => ⟨S8x1x256, .f32⟩
  | .local _ .vmem, ⟨23, _⟩ => ⟨S8x1x1, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let c0_i32_0 : BitVec 32 := 0#32
  ![v1.toNat, c0_i32.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c32_i32 : BitVec 32 := 32#32
  let v2 : BitVec 32 := Scalar.muli v1 c32_i32
  let v3 : BitVec 32 := Scalar.addi v2 arg2
  let c0_i32 : BitVec 32 := 0#32
  let c0_i32_0 : BitVec 32 := 0#32
  let c0_i32_1 : BitVec 32 := 0#32
  ![c0_i32.toNat, v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c32_i32 : BitVec 32 := 32#32
  let v2 : BitVec 32 := Scalar.muli v1 c32_i32
  let v3 : BitVec 32 := Scalar.addi v2 arg2
  let c0_i32 : BitVec 32 := 0#32
  let c0_i32_0 : BitVec 32 := 0#32
  ![v3.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x8x1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S8192x12288 : Shape := ⟨2, ![8192, 12288]⟩
abbrev S8192x128 : Shape := ⟨2, ![8192, 128]⟩
abbrev S1x4096 : Shape := ⟨2, ![1, 4096]⟩
abbrev S1x4096x4096 : Shape := ⟨3, ![1, 4096, 4096]⟩
abbrev S8192x2048 : Shape := ⟨2, ![8192, 2048]⟩
abbrev S2x4096x8x256 : Shape := ⟨4, ![2, 4096, 8, 256]⟩
abbrev S2x8x4096x256 : Shape := ⟨4, ![2, 8, 4096, 256]⟩
abbrev S_ : Shape := ⟨0, ![]⟩
abbrev S8192x4096 : Shape := ⟨2, ![8192, 4096]⟩
abbrev S2x4096x8x512 : Shape := ⟨4, ![2, 4096, 8, 512]⟩
abbrev S2x8x4096x512 : Shape := ⟨4, ![2, 8, 4096, 512]⟩
abbrev S8192x8 : Shape := ⟨2, ![8192, 8]⟩
abbrev S2x4096x8 : Shape := ⟨3, ![2, 4096, 8]⟩
abbrev S2x8x4096 : Shape := ⟨3, ![2, 8, 4096]⟩
abbrev S128x128 : Shape := ⟨2, ![128, 128]⟩
abbrev S2x8x32x128 : Shape := ⟨4, ![2, 8, 32, 128]⟩
abbrev S32x2x8x128 : Shape := ⟨4, ![32, 2, 8, 128]⟩
abbrev S2x8x32x128x256 : Shape := ⟨5, ![2, 8, 32, 128, 256]⟩
abbrev S32x2x8x128x256 : Shape := ⟨5, ![32, 2, 8, 128, 256]⟩
abbrev S2x8x32x128x512 : Shape := ⟨5, ![2, 8, 32, 128, 512]⟩
abbrev S32x2x8x128x512 : Shape := ⟨5, ![32, 2, 8, 128, 512]⟩
abbrev S2x8x256x512 : Shape := ⟨4, ![2, 8, 256, 512]⟩
abbrev S2x8x256 : Shape := ⟨3, ![2, 8, 256]⟩
abbrev S2x8 : Shape := ⟨2, ![2, 8]⟩
abbrev S1x2x8x128x256 : Shape := ⟨5, ![1, 2, 8, 128, 256]⟩
abbrev S2x8x128x256 : Shape := ⟨4, ![2, 8, 128, 256]⟩
abbrev S1x2x8x128x512 : Shape := ⟨5, ![1, 2, 8, 128, 512]⟩
abbrev S2x8x128x512 : Shape := ⟨4, ![2, 8, 128, 512]⟩
abbrev S1x2x8x128 : Shape := ⟨4, ![1, 2, 8, 128]⟩
abbrev S2x8x128 : Shape := ⟨3, ![2, 8, 128]⟩
abbrev S2x8x128x1 : Shape := ⟨4, ![2, 8, 128, 1]⟩
abbrev S2x8x1x128 : Shape := ⟨4, ![2, 8, 1, 128]⟩
abbrev S2x8x128x128 : Shape := ⟨4, ![2, 8, 128, 128]⟩
abbrev S2x8x1 : Shape := ⟨3, ![2, 8, 1]⟩
abbrev S2x8x1x1 : Shape := ⟨4, ![2, 8, 1, 1]⟩
abbrev S2x8x4096x1 : Shape := ⟨4, ![2, 8, 4096, 1]⟩
abbrev S4096x4096 : Shape := ⟨2, ![4096, 4096]⟩

abbrev nBuf : Space → Nat
  | .hbm => 216
  | .vmem => 0
  | .smem => 0
  | _ => 0

abbrev hbmTy0_0 (i : Nat) : BufTy := match i % 128 with
  | 0 => ⟨S8192x12288, .bf16⟩
  | 1 => ⟨S8192x128, .f32⟩
  | 2 => ⟨S1x4096, .f32⟩
  | 3 => ⟨S1x4096x4096, .f32⟩
  | 4 => ⟨S8192x2048, .bf16⟩
  | 5 => ⟨S8192x2048, .f32⟩
  | 6 => ⟨S2x4096x8x256, .f32⟩
  | 7 => ⟨S2x8x4096x256, .f32⟩
  | 8 => ⟨S8192x2048, .bf16⟩
  | 9 => ⟨S8192x2048, .f32⟩
  | 10 => ⟨S2x4096x8x256, .f32⟩
  | 11 => ⟨S2x8x4096x256, .f32⟩
  | 12 => ⟨S_, .f32⟩
  | 13 => ⟨S2x8x4096x256, .f32⟩
  | 14 => ⟨S2x8x4096x256, .f32⟩
  | 15 => ⟨S8192x4096, .bf16⟩
  | 16 => ⟨S8192x4096, .f32⟩
  | 17 => ⟨S2x4096x8x512, .f32⟩
  | 18 => ⟨S2x8x4096x512, .f32⟩
  | 19 => ⟨S8192x8, .f32⟩
  | 20 => ⟨S2x4096x8, .f32⟩
  | 21 => ⟨S8192x8, .f32⟩
  | 22 => ⟨S2x4096x8, .f32⟩
  | 23 => ⟨S2x8x4096, .f32⟩
  | 24 => ⟨S2x8x4096, .f32⟩
  | 25 => ⟨S_, .i1⟩
  | 26 => ⟨S128x128, .i1⟩
  | 27 => ⟨S128x128, .i32⟩
  | 28 => ⟨S_, .i32⟩
  | 29 => ⟨S128x128, .i32⟩
  | 30 => ⟨S128x128, .i32⟩
  | 31 => ⟨S128x128, .i32⟩
  | 32 => ⟨S128x128, .i1⟩
  | 33 => ⟨S_, .i1⟩
  | 34 => ⟨S128x128, .i1⟩
  | 35 => ⟨S128x128, .i1⟩
  | 36 => ⟨S2x8x32x128, .f32⟩
  | 37 => ⟨S32x2x8x128, .f32⟩
  | 38 => ⟨S_, .f32⟩
  | 39 => ⟨S_, .f32⟩
  | 40 => ⟨S32x2x8x128, .f32⟩
  | 41 => ⟨S2x8x32x128x256, .f32⟩
  | 42 => ⟨S32x2x8x128x256, .f32⟩
  | 43 => ⟨S2x8x32x128x256, .f32⟩
  | 44 => ⟨S32x2x8x128x256, .f32⟩
  | 45 => ⟨S2x8x32x128x512, .f32⟩
  | 46 => ⟨S32x2x8x128x512, .f32⟩
  | 47 => ⟨S2x8x32x128, .f32⟩
  | 48 => ⟨S32x2x8x128, .f32⟩
  | 49 => ⟨S_, .f32⟩
  | 50 => ⟨S2x8x256x512, .f32⟩
  | 51 => ⟨S_, .f32⟩
  | 52 => ⟨S2x8x256, .f32⟩
  | 53 => ⟨S_, .f32⟩
  | 54 => ⟨S2x8, .f32⟩
  | 55 => ⟨S_, .f32⟩
  | 56 => ⟨S32x2x8x128x512, .f32⟩
  | 57 => ⟨S_, .i32⟩
  | 58 => ⟨S32x2x8x128x256, .f32⟩
  | 59 => ⟨S32x2x8x128x256, .f32⟩
  | 60 => ⟨S32x2x8x128x512, .f32⟩
  | 61 => ⟨S32x2x8x128, .f32⟩
  | 62 => ⟨S32x2x8x128, .f32⟩
  | 63 => ⟨S128x128, .i1⟩
  | 64 => ⟨S_, .i32⟩
  | 65 => ⟨S2x8x256x512, .f32⟩
  | 66 => ⟨S2x8x256, .f32⟩
  | 67 => ⟨S2x8, .f32⟩
  | 68 => ⟨S32x2x8x128x512, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x2x8x128x256, .f32⟩
  | 76 => ⟨S2x8x128x256, .f32⟩
  | 77 => ⟨S_, .i32⟩
  | 78 => ⟨S_, .i32⟩
  | 79 => ⟨S_, .i32⟩
  | 80 => ⟨S_, .i32⟩
  | 81 => ⟨S1x2x8x128x256, .f32⟩
  | 82 => ⟨S2x8x128x256, .f32⟩
  | 83 => ⟨S_, .i32⟩
  | 84 => ⟨S_, .i32⟩
  | 85 => ⟨S_, .i32⟩
  | 86 => ⟨S_, .i32⟩
  | 87 => ⟨S1x2x8x128x512, .f32⟩
  | 88 => ⟨S2x8x128x512, .f32⟩
  | 89 => ⟨S_, .i32⟩
  | 90 => ⟨S_, .i32⟩
  | 91 => ⟨S_, .i32⟩
  | 92 => ⟨S1x2x8x128, .f32⟩
  | 93 => ⟨S2x8x128, .f32⟩
  | 94 => ⟨S_, .i32⟩
  | 95 => ⟨S_, .i32⟩
  | 96 => ⟨S_, .i32⟩
  | 97 => ⟨S1x2x8x128, .f32⟩
  | 98 => ⟨S2x8x128, .f32⟩
  | 99 => ⟨S2x8x128x1, .f32⟩
  | 100 => ⟨S2x8x1x128, .f32⟩
  | 101 => ⟨S2x8x128x128, .f32⟩
  | 102 => ⟨S2x8x128x128, .f32⟩
  | 103 => ⟨S2x8x128x128, .f32⟩
  | 104 => ⟨S2x8x1x128, .f32⟩
  | 105 => ⟨S2x8x128x128, .f32⟩
  | 106 => ⟨S2x8x128x128, .f32⟩
  | 107 => ⟨S_, .f32⟩
  | 108 => ⟨S_, .f32⟩
  | 109 => ⟨S2x8x128x128, .i1⟩
  | 110 => ⟨S2x8x128x128, .f32⟩
  | 111 => ⟨S2x8x128x128, .f32⟩
  | 112 => ⟨S2x8x1, .f32⟩
  | 113 => ⟨S2x8x128, .f32⟩
  | 114 => ⟨S2x8x128, .f32⟩
  | 115 => ⟨S_, .f32⟩
  | 116 => ⟨S2x8x128, .f32⟩
  | 117 => ⟨S2x8x128, .f32⟩
  | 118 => ⟨S2x8x128x128, .f32⟩
  | 119 => ⟨S2x8x128x1, .f32⟩
  | 120 => ⟨S2x8x128x128, .f32⟩
  | 121 => ⟨S2x8x128x128, .f32⟩
  | 122 => ⟨S2x8x128x128, .f32⟩
  | 123 => ⟨S2x8x128x128, .f32⟩
  | 124 => ⟨S2x8x128, .f32⟩
  | 125 => ⟨S2x8x128, .f32⟩
  | 126 => ⟨S2x8x128x512, .f32⟩
  | 127 => ⟨S2x8x128x1, .f32⟩
  | _ => ⟨S8192x12288, .bf16⟩

abbrev hbmTy0_1 (i : Nat) : BufTy := match i % 128 with
  | 0 => ⟨S2x8x128x512, .f32⟩
  | 1 => ⟨S2x8x128x512, .f32⟩
  | 2 => ⟨S2x8x128x512, .f32⟩
  | 3 => ⟨S2x8x128x512, .f32⟩
  | 4 => ⟨S_, .f32⟩
  | 5 => ⟨S2x8x128, .f32⟩
  | 6 => ⟨S2x8x128, .f32⟩
  | 7 => ⟨S2x8x128, .f32⟩
  | 8 => ⟨S2x8x128, .f32⟩
  | 9 => ⟨S2x8x128, .f32⟩
  | 10 => ⟨S2x8x128, .f32⟩
  | 11 => ⟨S2x8x128, .f32⟩
  | 12 => ⟨S2x8x128, .f32⟩
  | 13 => ⟨S2x8x128x1, .f32⟩
  | 14 => ⟨S2x8x128x512, .f32⟩
  | 15 => ⟨S2x8x128x512, .f32⟩
  | 16 => ⟨S2x8x1, .f32⟩
  | 17 => ⟨S2x8, .f32⟩
  | 18 => ⟨S2x8x1, .f32⟩
  | 19 => ⟨S2x8x128, .f32⟩
  | 20 => ⟨S2x8x128, .f32⟩
  | 21 => ⟨S2x8x128, .f32⟩
  | 22 => ⟨S2x8, .f32⟩
  | 23 => ⟨S_, .f32⟩
  | 24 => ⟨S2x8, .f32⟩
  | 25 => ⟨S2x8, .f32⟩
  | 26 => ⟨S2x8x1, .f32⟩
  | 27 => ⟨S2x8x128, .f32⟩
  | 28 => ⟨S2x8x128, .f32⟩
  | 29 => ⟨S2x8x128, .f32⟩
  | 30 => ⟨S2x8x128x1, .f32⟩
  | 31 => ⟨S2x8x128x256, .f32⟩
  | 32 => ⟨S2x8x128x256, .f32⟩
  | 33 => ⟨S2x8, .f32⟩
  | 34 => ⟨S2x8, .f32⟩
  | 35 => ⟨S2x8, .f32⟩
  | 36 => ⟨S2x8x1x1, .f32⟩
  | 37 => ⟨S2x8x256x512, .f32⟩
  | 38 => ⟨S2x8x256x512, .f32⟩
  | 39 => ⟨S2x8x256x512, .f32⟩
  | 40 => ⟨S2x8x256x512, .f32⟩
  | 41 => ⟨S2x8x1, .f32⟩
  | 42 => ⟨S2x8x256, .f32⟩
  | 43 => ⟨S2x8x256, .f32⟩
  | 44 => ⟨S_, .f32⟩
  | 45 => ⟨S2x8x256, .f32⟩
  | 46 => ⟨S2x8x256, .f32⟩
  | 47 => ⟨S1x2x8x128x512, .f32⟩
  | 48 => ⟨S_, .i32⟩
  | 49 => ⟨S_, .i32⟩
  | 50 => ⟨S_, .i32⟩
  | 51 => ⟨S_, .i32⟩
  | 52 => ⟨S32x2x8x128x512, .f32⟩
  | 53 => ⟨S_, .i32⟩
  | 54 => ⟨S_, .i32⟩
  | 55 => ⟨S2x8x32x128x512, .f32⟩
  | 56 => ⟨S2x8x4096x512, .f32⟩
  | 57 => ⟨S2x8x4096x512, .f32⟩
  | 58 => ⟨S_, .f32⟩
  | 59 => ⟨S2x8x4096, .f32⟩
  | 60 => ⟨S2x8x4096x1, .f32⟩
  | 61 => ⟨S_, .f32⟩
  | 62 => ⟨S2x8x4096x1, .f32⟩
  | 63 => ⟨S2x8x4096x1, .f32⟩
  | 64 => ⟨S_, .f32⟩
  | 65 => ⟨S2x8x4096x1, .f32⟩
  | 66 => ⟨S2x8x4096x1, .f32⟩
  | 67 => ⟨S2x8x4096x1, .f32⟩
  | 68 => ⟨S2x8x4096x512, .f32⟩
  | 69 => ⟨S2x8x4096x512, .f32⟩
  | 70 => ⟨S8192x4096, .bf16⟩
  | 71 => ⟨S2x4096x8x512, .f32⟩
  | 72 => ⟨S8192x4096, .f32⟩
  | 73 => ⟨S8192x4096, .f32⟩
  | 74 => ⟨S8192x4096, .f32⟩
  | 75 => ⟨S8192x4096, .f32⟩
  | 76 => ⟨S8192x4096, .f32⟩
  | 77 => ⟨S8192x4096, .f32⟩
  | 78 => ⟨S_, .f32⟩
  | 79 => ⟨S8192x4096, .f32⟩
  | 80 => ⟨S8192x4096, .f32⟩
  | 81 => ⟨S_, .f32⟩
  | 82 => ⟨S8192x4096, .f32⟩
  | 83 => ⟨S8192x4096, .f32⟩
  | 84 => ⟨S8192x4096, .f32⟩
  | 85 => ⟨S8192x4096, .bf16⟩
  | 86 => ⟨S4096x4096, .f32⟩
  | 87 => ⟨S4096x4096, .bf16⟩
  | _ => ⟨S8192x12288, .bf16⟩

abbrev hbmTy (i : Nat) : BufTy := match i / 128 with
  | 0 => hbmTy0_0 i
  | 1 => hbmTy0_1 i
  | _ => ⟨S8192x12288, .bf16⟩

abbrev bufTy : (tb : Table) → Fin (tcTables nBuf tb) → BufTy
  | .hbm, ⟨i, _⟩ => hbmTy i
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_v20 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_call0_cst : Ref sig .tc := ⟨.hbm, 38, rfl⟩
abbrev main_call1_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_0 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_cst_2 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_c_4 : Ref sig .tc := ⟨.hbm, 57, rfl⟩
abbrev main_v37_0 : Ref sig .tc := ⟨.hbm, 58, rfl⟩
abbrev main_v37_1 : Ref sig .tc := ⟨.hbm, 59, rfl⟩
abbrev main_v37_2 : Ref sig .tc := ⟨.hbm, 60, rfl⟩
abbrev main_v37_3 : Ref sig .tc := ⟨.hbm, 61, rfl⟩
abbrev main_v37_4 : Ref sig .tc := ⟨.hbm, 62, rfl⟩
abbrev main_v37_5 : Ref sig .tc := ⟨.hbm, 63, rfl⟩
abbrev main_v37_6 : Ref sig .tc := ⟨.hbm, 64, rfl⟩
abbrev main_v37_7 : Ref sig .tc := ⟨.hbm, 65, rfl⟩
abbrev main_v37_8 : Ref sig .tc := ⟨.hbm, 66, rfl⟩
abbrev main_v37_9 : Ref sig .tc := ⟨.hbm, 67, rfl⟩
abbrev main_v37_10 : Ref sig .tc := ⟨.hbm, 68, rfl⟩
abbrev main_while0c_c_20 : Ref sig .tc := ⟨.hbm, 69, rfl⟩
abbrev main_while0c_v66 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_c_2 : Ref sig .tc := ⟨.hbm, 74, rfl⟩
abbrev main_while0b_call2_v0 : Ref sig .tc := ⟨.hbm, 75, rfl⟩
abbrev main_while0b_v66 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_c_2 : Ref sig .tc := ⟨.hbm, 80, rfl⟩
abbrev main_while0b_call3_v0 : Ref sig .tc := ⟨.hbm, 81, rfl⟩
abbrev main_while0b_v67 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_c_2 : Ref sig .tc := ⟨.hbm, 86, rfl⟩
abbrev main_while0b_call4_v0 : Ref sig .tc := ⟨.hbm, 87, rfl⟩
abbrev main_while0b_v68 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_v0 : Ref sig .tc := ⟨.hbm, 92, rfl⟩
abbrev main_while0b_v69 : Ref sig .tc := ⟨.hbm, 93, rfl⟩
abbrev main_while0b_call6_c : Ref sig .tc := ⟨.hbm, 94, rfl⟩
abbrev main_while0b_call6_c_0 : Ref sig .tc := ⟨.hbm, 95, rfl⟩
abbrev main_while0b_call6_c_1 : Ref sig .tc := ⟨.hbm, 96, rfl⟩
abbrev main_while0b_call6_v0 : Ref sig .tc := ⟨.hbm, 97, rfl⟩
abbrev main_while0b_v70 : Ref sig .tc := ⟨.hbm, 98, rfl⟩
abbrev main_while0b_v71 : Ref sig .tc := ⟨.hbm, 99, rfl⟩
abbrev main_while0b_v72 : Ref sig .tc := ⟨.hbm, 100, rfl⟩
abbrev main_while0b_v73 : Ref sig .tc := ⟨.hbm, 101, rfl⟩
abbrev main_while0b_v74 : Ref sig .tc := ⟨.hbm, 102, rfl⟩
abbrev main_while0b_v75 : Ref sig .tc := ⟨.hbm, 103, rfl⟩
abbrev main_while0b_v76 : Ref sig .tc := ⟨.hbm, 104, rfl⟩
abbrev main_while0b_v77 : Ref sig .tc := ⟨.hbm, 105, rfl⟩
abbrev main_while0b_v78 : Ref sig .tc := ⟨.hbm, 106, rfl⟩
abbrev main_while0b_cst_20 : Ref sig .tc := ⟨.hbm, 107, rfl⟩
abbrev main_while0b_call7_v0 : Ref sig .tc := ⟨.hbm, 108, rfl⟩
abbrev main_while0b_call7_v1 : Ref sig .tc := ⟨.hbm, 109, rfl⟩
abbrev main_while0b_call7_v2 : Ref sig .tc := ⟨.hbm, 110, rfl⟩
abbrev main_while0b_v79 : Ref sig .tc := ⟨.hbm, 111, rfl⟩
abbrev main_while0b_v80 : Ref sig .tc := ⟨.hbm, 112, rfl⟩
abbrev main_while0b_v81 : Ref sig .tc := ⟨.hbm, 113, rfl⟩
abbrev main_while0b_v82 : Ref sig .tc := ⟨.hbm, 114, rfl⟩
abbrev main_while0b_cst_21 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_v89 : Ref sig .tc := ⟨.hbm, 122, rfl⟩
abbrev main_while0b_v90 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_cst_22 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_v110 : Ref sig .tc := ⟨.hbm, 144, rfl⟩
abbrev main_while0b_v111 : Ref sig .tc := ⟨.hbm, 145, rfl⟩
abbrev main_while0b_v112 : Ref sig .tc := ⟨.hbm, 146, rfl⟩
abbrev main_while0b_v113 : Ref sig .tc := ⟨.hbm, 147, rfl⟩
abbrev main_while0b_v114 : Ref sig .tc := ⟨.hbm, 148, rfl⟩
abbrev main_while0b_v115 : Ref sig .tc := ⟨.hbm, 149, rfl⟩
abbrev main_while0b_v116 : Ref sig .tc := ⟨.hbm, 150, rfl⟩
abbrev main_while0b_cst_23 : Ref sig .tc := ⟨.hbm, 151, rfl⟩
abbrev main_while0b_v117 : Ref sig .tc := ⟨.hbm, 152, rfl⟩
abbrev main_while0b_v118 : Ref sig .tc := ⟨.hbm, 153, rfl⟩
abbrev main_while0b_v119 : Ref sig .tc := ⟨.hbm, 154, rfl⟩
abbrev main_while0b_v120 : Ref sig .tc := ⟨.hbm, 155, rfl⟩
abbrev main_while0b_v121 : Ref sig .tc := ⟨.hbm, 156, rfl⟩
abbrev main_while0b_v122 : Ref sig .tc := ⟨.hbm, 157, rfl⟩
abbrev main_while0b_v123 : Ref sig .tc := ⟨.hbm, 158, rfl⟩
abbrev main_while0b_v124 : Ref sig .tc := ⟨.hbm, 159, rfl⟩
abbrev main_while0b_v125 : Ref sig .tc := ⟨.hbm, 160, rfl⟩
abbrev main_while0b_v126 : Ref sig .tc := ⟨.hbm, 161, rfl⟩
abbrev main_while0b_v127 : Ref sig .tc := ⟨.hbm, 162, rfl⟩
abbrev main_while0b_v128 : Ref sig .tc := ⟨.hbm, 163, rfl⟩
abbrev main_while0b_v129 : Ref sig .tc := ⟨.hbm, 164, rfl⟩
abbrev main_while0b_v130 : Ref sig .tc := ⟨.hbm, 165, rfl⟩
abbrev main_while0b_v131 : Ref sig .tc := ⟨.hbm, 166, rfl⟩
abbrev main_while0b_v132 : Ref sig .tc := ⟨.hbm, 167, rfl⟩
abbrev main_while0b_v133 : Ref sig .tc := ⟨.hbm, 168, rfl⟩
abbrev main_while0b_v134 : Ref sig .tc := ⟨.hbm, 169, rfl⟩
abbrev main_while0b_v135 : Ref sig .tc := ⟨.hbm, 170, rfl⟩
abbrev main_while0b_v136 : Ref sig .tc := ⟨.hbm, 171, rfl⟩
abbrev main_while0b_cst_24 : Ref sig .tc := ⟨.hbm, 172, rfl⟩
abbrev main_while0b_v137 : Ref sig .tc := ⟨.hbm, 173, rfl⟩
abbrev main_while0b_v138 : Ref sig .tc := ⟨.hbm, 174, rfl⟩
abbrev main_while0b_call8_v0 : Ref sig .tc := ⟨.hbm, 175, rfl⟩
abbrev main_while0b_call8_c : Ref sig .tc := ⟨.hbm, 176, rfl⟩
abbrev main_while0b_call8_c_0 : Ref sig .tc := ⟨.hbm, 177, rfl⟩
abbrev main_while0b_call8_c_1 : Ref sig .tc := ⟨.hbm, 178, rfl⟩
abbrev main_while0b_call8_c_2 : Ref sig .tc := ⟨.hbm, 179, rfl⟩
abbrev main_while0b_v139 : Ref sig .tc := ⟨.hbm, 180, rfl⟩
abbrev main_while0b_c_25 : Ref sig .tc := ⟨.hbm, 181, rfl⟩
abbrev main_while0b_v140 : Ref sig .tc := ⟨.hbm, 182, rfl⟩
abbrev main_v38 : Ref sig .tc := ⟨.hbm, 183, rfl⟩
abbrev main_v39 : Ref sig .tc := ⟨.hbm, 184, rfl⟩
abbrev main_v40 : Ref sig .tc := ⟨.hbm, 185, rfl⟩
abbrev main_cst_5 : Ref sig .tc := ⟨.hbm, 186, rfl⟩
abbrev main_v41 : Ref sig .tc := ⟨.hbm, 187, rfl⟩
abbrev main_v42 : Ref sig .tc := ⟨.hbm, 188, rfl⟩
abbrev main_cst_6 : Ref sig .tc := ⟨.hbm, 189, rfl⟩
abbrev main_v43 : Ref sig .tc := ⟨.hbm, 190, rfl⟩
abbrev main_v44 : Ref sig .tc := ⟨.hbm, 191, rfl⟩
abbrev main_cst_7 : Ref sig .tc := ⟨.hbm, 192, rfl⟩
abbrev main_v45 : Ref sig .tc := ⟨.hbm, 193, rfl⟩
abbrev main_v46 : Ref sig .tc := ⟨.hbm, 194, rfl⟩
abbrev main_v47 : Ref sig .tc := ⟨.hbm, 195, rfl⟩
abbrev main_v48 : Ref sig .tc := ⟨.hbm, 196, rfl⟩
abbrev main_v49 : Ref sig .tc := ⟨.hbm, 197, rfl⟩
abbrev main_v50 : Ref sig .tc := ⟨.hbm, 198, rfl⟩
abbrev main_v51 : Ref sig .tc := ⟨.hbm, 199, rfl⟩
abbrev main_v52 : Ref sig .tc := ⟨.hbm, 200, rfl⟩
abbrev main_v53 : Ref sig .tc := ⟨.hbm, 201, rfl⟩
abbrev main_v54 : Ref sig .tc := ⟨.hbm, 202, rfl⟩
abbrev main_v55 : Ref sig .tc := ⟨.hbm, 203, rfl⟩
abbrev main_v56 : Ref sig .tc := ⟨.hbm, 204, rfl⟩
abbrev main_v57 : Ref sig .tc := ⟨.hbm, 205, rfl⟩
abbrev main_cst_8 : Ref sig .tc := ⟨.hbm, 206, rfl⟩
abbrev main_v58 : Ref sig .tc := ⟨.hbm, 207, rfl⟩
abbrev main_v59 : Ref sig .tc := ⟨.hbm, 208, rfl⟩
abbrev main_cst_9 : Ref sig .tc := ⟨.hbm, 209, rfl⟩
abbrev main_v60 : Ref sig .tc := ⟨.hbm, 210, rfl⟩
abbrev main_v61 : Ref sig .tc := ⟨.hbm, 211, rfl⟩
abbrev main_v62 : Ref sig .tc := ⟨.hbm, 212, rfl⟩
abbrev main_v63 : Ref sig .tc := ⟨.hbm, 213, rfl⟩
abbrev main_v64 : Ref sig .tc := ⟨.hbm, 214, rfl⟩
abbrev main_v65 : Ref sig .tc := ⟨.hbm, 215, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x4096 : Shape := ⟨2, ![8192, 4096]⟩
abbrev S2x4096x22016 : Shape := ⟨3, ![2, 4096, 22016]⟩
abbrev S2x11008x4096 : Shape := ⟨3, ![2, 11008, 4096]⟩
abbrev S8192x11008 : Shape := ⟨2, ![8192, 11008]⟩
abbrev S11008x4096 : Shape := ⟨2, ![11008, 4096]⟩
abbrev S2048x4096 : Shape := ⟨2, ![2048, 4096]⟩
abbrev S1x4096x256 : Shape := ⟨3, ![1, 4096, 256]⟩
abbrev S1x64x4096 : Shape := ⟨3, ![1, 64, 4096]⟩
abbrev S2048x256 : Shape := ⟨2, ![2048, 256]⟩
abbrev S64x4096 : Shape := ⟨2, ![64, 4096]⟩
abbrev S4096x256 : Shape := ⟨2, ![4096, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x11008x4096, .f32⟩
  | .hbm, ⟨3, _⟩ => ⟨S8192x11008, .bf16⟩
  | .hbm, ⟨4, _⟩ => ⟨S11008x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x64x4096, .f32⟩
  | .local _ .vmem, ⟨7, _⟩ => ⟨S1x64x4096, .f32⟩
  | .local _ .vmem, ⟨8, _⟩ => ⟨S2048x256, .bf16⟩
  | .local _ .vmem, ⟨9, _⟩ => ⟨S2048x256, .bf16⟩
  | .local _ .vmem, ⟨10, _⟩ => ⟨S64x4096, .bf16⟩
  | .local _ .vmem, ⟨11, _⟩ => ⟨S64x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x4096 : Shape := ⟨2, ![8192, 4096]⟩
abbrev S2x4096x22016 : Shape := ⟨3, ![2, 4096, 22016]⟩
abbrev S2x11008x4096 : Shape := ⟨3, ![2, 11008, 4096]⟩
abbrev S1x4096x22016 : Shape := ⟨3, ![1, 4096, 22016]⟩
abbrev S4096x22016 : Shape := ⟨2, ![4096, 22016]⟩
abbrev S8192x22016 : Shape := ⟨2, ![8192, 22016]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S2x11008x4096, .f32⟩
  | .hbm, ⟨3, _⟩ => ⟨S8192x4096, .f32⟩
  | .hbm, ⟨4, _⟩ => ⟨S1x4096x22016, .f32⟩
  | .hbm, ⟨5, _⟩ => ⟨S4096x22016, .f32⟩
  | .hbm, ⟨6, _⟩ => ⟨S8192x22016, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S8192x11008, .f32⟩
  | .hbm, ⟨11, _⟩ => ⟨S_, .f32⟩
  | .hbm, ⟨12, _⟩ => ⟨S8192x11008, .f32⟩
  | .hbm, ⟨13, _⟩ => ⟨S8192x11008, .f32⟩
  | .hbm, ⟨14, _⟩ => ⟨S_, .f32⟩
  | .hbm, ⟨15, _⟩ => ⟨S8192x11008, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .bf16⟩
  | .hbm, ⟨20, _⟩ => ⟨S1x11008x4096, .f32⟩
  | .hbm, ⟨21, _⟩ => ⟨S11008x4096, .f32⟩
  | .hbm, ⟨22, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel3.lean ====
abbrev S8192x11008 : Shape := ⟨2, ![8192, 11008]⟩
abbrev S11008x4096 : Shape := ⟨2, ![11008, 4096]⟩
abbrev S8192x4096 : Shape := ⟨2, ![8192, 4096]⟩
abbrev S8192x2 : Shape := ⟨2, ![8192, 2]⟩
abbrev S1x4096 : Shape := ⟨2, ![1, 4096]⟩
abbrev S2x1x4096 : Shape := ⟨3, ![2, 1, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S512x2 : Shape := ⟨2, ![512, 2]⟩
abbrev S1x512 : Shape := ⟨2, ![1, 512]⟩
abbrev S512x1 : Shape := ⟨2, ![512, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x2, .f32⟩
  | .hbm, ⟨4, _⟩ => ⟨S1x4096, .f32⟩
  | .hbm, ⟨5, _⟩ => ⟨S1x4096, .f32⟩
  | .hbm, ⟨6, _⟩ => ⟨S2x1x4096, .f32⟩
  | .hbm, ⟨7, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x2, .f32⟩
  | .local _ .vmem, ⟨9, _⟩ => ⟨S512x2, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8192x11008 : Shape := ⟨2, ![8192, 11008]⟩
abbrev S11008x4096 : Shape := ⟨2, ![11008, 4096]⟩
abbrev S8192x4096 : Shape := ⟨2, ![8192, 4096]⟩
abbrev S8192x2 : Shape := ⟨2, ![8192, 2]⟩
abbrev S1x4096 : Shape := ⟨2, ![1, 4096]⟩
abbrev S2x1x4096 : Shape := ⟨3, ![2, 1, 4096]⟩
abbrev S8192x1 : Shape := ⟨2, ![8192, 1]⟩
abbrev S2x4096x4096 : Shape := ⟨3, ![2, 4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x2, .f32⟩
  | .hbm, ⟨4, _⟩ => ⟨S1x4096, .f32⟩
  | .hbm, ⟨5, _⟩ => ⟨S1x4096, .f32⟩
  | .hbm, ⟨6, _⟩ => ⟨S2x1x4096, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x11008, .f32⟩
  | .hbm, ⟨18, _⟩ => ⟨S11008x4096, .f32⟩
  | .hbm, ⟨19, _⟩ => ⟨S8192x4096, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel4.lean ====
abbrev S8192x4096 : Shape := ⟨2, ![8192, 4096]⟩
abbrev S1x4096x12304 : Shape := ⟨3, ![1, 4096, 12304]⟩
abbrev S1x12304x4096 : Shape := ⟨3, ![1, 12304, 4096]⟩
abbrev S_ : Shape := ⟨0, ![]⟩
abbrev S1x12288 : Shape := ⟨2, ![1, 12288]⟩
abbrev S8192x12288 : Shape := ⟨2, ![8192, 12288]⟩
abbrev S2048x4096 : Shape := ⟨2, ![2048, 4096]⟩
abbrev S1x512x4096 : Shape := ⟨3, ![1, 512, 4096]⟩
abbrev S1x512 : Shape := ⟨2, ![1, 512]⟩
abbrev S2048x512 : Shape := ⟨2, ![2048, 512]⟩
abbrev S512x4096 : Shape := ⟨2, ![512, 4096]⟩

abbrev nBuf : Space → Nat
  | .hbm => 6
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S1x12304x4096, .f32⟩
  | .hbm, ⟨3, _⟩ => ⟨S_, .f32⟩
  | .hbm, ⟨4, _⟩ => ⟨S1x12288, .f32⟩
  | .hbm, ⟨5, _⟩ => ⟨S8192x12288, .bf16⟩
  | .local _ .vmem, ⟨0, _⟩ => ⟨S2048x4096, .bf16⟩
  | .local _ .vmem, ⟨1, _⟩ => ⟨S2048x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x4096 : Shape := ⟨2, ![8192, 4096]⟩
abbrev S1x4096x12304 : Shape := ⟨3, ![1, 4096, 12304]⟩
abbrev S4096x12304 : Shape := ⟨2, ![4096, 12304]⟩
abbrev S8192x12304 : Shape := ⟨2, ![8192, 12304]⟩
abbrev S8192x12288 : Shape := ⟨2, ![8192, 12288]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12304, .f32⟩
  | .hbm, ⟨2, _⟩ => ⟨S8192x4096, .f32⟩
  | .hbm, ⟨3, _⟩ => ⟨S4096x12304, .f32⟩
  | .hbm, ⟨4, _⟩ => ⟨S8192x12304, .f32⟩
  | .hbm, ⟨5, _⟩ => ⟨S8192x12288, .f32⟩
  | .hbm, ⟨6, _⟩ => ⟨S8192x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S8192x4096 : Shape := ⟨2, ![8192, 4096]⟩
abbrev S1x4096x4096 : Shape := ⟨3, ![1, 4096, 4096]⟩
abbrev S_ : Shape := ⟨0, ![]⟩
abbrev S1x4096 : Shape := ⟨2, ![1, 4096]⟩
abbrev S2048x4096 : Shape := ⟨2, ![2048, 4096]⟩
abbrev S1x4096x512 : Shape := ⟨3, ![1, 4096, 512]⟩
abbrev S1x512 : Shape := ⟨2, ![1, 512]⟩
abbrev S2048x512 : Shape := ⟨2, ![2048, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S_, .f32⟩
  | .hbm, ⟨3, _⟩ => ⟨S1x4096, .f32⟩
  | .hbm, ⟨4, _⟩ => ⟨S8192x4096, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x4096, .f32⟩
  | .hbm, ⟨2, _⟩ => ⟨S8192x4096, .f32⟩
  | .hbm, ⟨3, _⟩ => ⟨S4096x4096, .f32⟩
  | .hbm, ⟨4, _⟩ => ⟨S8192x4096, .f32⟩
  | .hbm, ⟨5, _⟩ => ⟨S8192x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S8192x4096 : Shape := ⟨2, ![8192, 4096]⟩
abbrev S4096x4096 : Shape := ⟨2, ![4096, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S2x1x4096, .f32⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S8192x4096 : Shape := ⟨2, ![8192, 4096]⟩
abbrev S4096x4096 : Shape := ⟨2, ![4096, 4096]⟩
abbrev S2x1x4096 : Shape := ⟨3, ![2, 1, 4096]⟩
abbrev S2x4096x4096 : Shape := ⟨3, ![2, 4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S2x1x4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S2x4096x4096, .f32⟩
  | .hbm, ⟨8, _⟩ => ⟨S_, .f32⟩
  | .hbm, ⟨9, _⟩ => ⟨S2x4096x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | .hbm, ⟨15, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel7.lean ====
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel8.lean ====
abbrev S8192x4096 : Shape := ⟨2, ![8192, 4096]⟩
abbrev S4096x4096 : Shape := ⟨2, ![4096, 4096]⟩
abbrev S8192x2 : Shape := ⟨2, ![8192, 2]⟩
abbrev S1x4096 : Shape := ⟨2, ![1, 4096]⟩
abbrev S2x1x4096 : Shape := ⟨3, ![2, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1024x2 : Shape := ⟨2, ![1024, 2]⟩
abbrev S1x1024 : Shape := ⟨2, ![1, 1024]⟩
abbrev S1024x1 : Shape := ⟨2, ![1024, 1]⟩

abbrev nBuf : Space → Nat
  | .hbm => 8
  | .vmem => 16
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x2, .f32⟩
  | .hbm, ⟨4, _⟩ => ⟨S1x4096, .f32⟩
  | .hbm, ⟨5, _⟩ => ⟨S1x4096, .f32⟩
  | .hbm, ⟨6, _⟩ => ⟨S2x1x4096, .f32⟩
  | .hbm, ⟨7, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x2, .f32⟩
  | .local _ .vmem, ⟨9, _⟩ => ⟨S1024x2, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S8192x4096 : Shape := ⟨2, ![8192, 4096]⟩
abbrev S4096x4096 : Shape := ⟨2, ![4096, 4096]⟩
abbrev S8192x2 : Shape := ⟨2, ![8192, 2]⟩
abbrev S1x4096 : Shape := ⟨2, ![1, 4096]⟩
abbrev S2x1x4096 : Shape := ⟨3, ![2, 1, 4096]⟩
abbrev S8192x1 : Shape := ⟨2, ![8192, 1]⟩
abbrev S2x4096x4096 : Shape := ⟨3, ![2, 4096, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S8192x2, .f32⟩
  | .hbm, ⟨4, _⟩ => ⟨S1x4096, .f32⟩
  | .hbm, ⟨5, _⟩ => ⟨S1x4096, .f32⟩
  | .hbm, ⟨6, _⟩ => ⟨S2x1x4096, .f32⟩
  | .hbm, ⟨7, _⟩ => ⟨S8192x1, .f32⟩
  | .hbm, ⟨8, _⟩ => ⟨S8192x4096, .f32⟩
  | .hbm, ⟨9, _⟩ => ⟨S8192x4096, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S4096x4096, .f32⟩
  | .hbm, ⟨19, _⟩ => ⟨S8192x4096, .f32⟩
  | .hbm, ⟨20, _⟩ => ⟨S2x4096x4096, .f32⟩
  | .hbm, ⟨21, _⟩ => ⟨S_, .f32⟩
  | .hbm, ⟨22, _⟩ => ⟨S2x4096x4096, .f32⟩
  | .hbm, ⟨23, _⟩ => ⟨S2x4096x4096, .f32⟩
  | .hbm, ⟨24, _⟩ => ⟨S2x4096x4096, .f32⟩
  | .hbm, ⟨25, _⟩ => ⟨S2x4096x4096, .f32⟩
  | .hbm, ⟨26, _⟩ => ⟨S2x4096x4096, .f32⟩
  | .hbm, ⟨27, _⟩ => ⟨S2x4096x4096, .f32⟩
  | .hbm, ⟨28, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Kernel9.lean ====
abbrev S8192x4096 : Shape := ⟨2, ![8192, 4096]⟩
abbrev S1x4096x128 : Shape := ⟨3, ![1, 4096, 128]⟩
abbrev S_ : Shape := ⟨0, ![]⟩
abbrev S1x128 : Shape := ⟨2, ![1, 128]⟩
abbrev S8192x128 : Shape := ⟨2, ![8192, 128]⟩
abbrev S2048x4096 : Shape := ⟨2, ![2048, 4096]⟩
abbrev S2048x128 : Shape := ⟨2, ![2048, 128]⟩
abbrev S4096x128 : Shape := ⟨2, ![4096, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x128, .f32⟩
  | .hbm, ⟨2, _⟩ => ⟨S_, .f32⟩
  | .hbm, ⟨3, _⟩ => ⟨S1x128, .f32⟩
  | .hbm, ⟨4, _⟩ => ⟨S8192x128, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x128, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8192x4096 : Shape := ⟨2, ![8192, 4096]⟩
abbrev S1x4096x128 : Shape := ⟨3, ![1, 4096, 128]⟩
abbrev S4096x128 : Shape := ⟨2, ![4096, 128]⟩
abbrev S8192x128 : Shape := ⟨2, ![8192, 128]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x128, .f32⟩
  | .hbm, ⟨2, _⟩ => ⟨S8192x4096, .f32⟩
  | .hbm, ⟨3, _⟩ => ⟨S4096x128, .f32⟩
  | .hbm, ⟨4, _⟩ => ⟨S8192x128, .f32⟩
  | .hbm, ⟨5, _⟩ => ⟨S8192x128, .f32⟩
  | .hbm, ⟨6, _⟩ => ⟨S8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x4096 : Shape := ⟨2, ![8192, 4096]⟩
abbrev S1x4096x128 : Shape := ⟨3, ![1, 4096, 128]⟩
abbrev S_ : Shape := ⟨0, ![]⟩
abbrev S1x128 : Shape := ⟨2, ![1, 128]⟩
abbrev S8192x128 : Shape := ⟨2, ![8192, 128]⟩
abbrev S2048x4096 : Shape := ⟨2, ![2048, 4096]⟩
abbrev S2048x128 : Shape := ⟨2, ![2048, 128]⟩
abbrev S4096x128 : Shape := ⟨2, ![4096, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x128, .f32⟩
  | .hbm, ⟨2, _⟩ => ⟨S_, .f32⟩
  | .hbm, ⟨3, _⟩ => ⟨S1x128, .f32⟩
  | .hbm, ⟨4, _⟩ => ⟨S8192x128, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x128, .f32⟩
  | .local _ .vmem, ⟨3, _⟩ => ⟨S1x128, .f32⟩
  | .local _ .vmem, ⟨4, _⟩ => ⟨S2048x128, .bf16⟩
  | .local _ .vmem, ⟨5, _⟩ => ⟨S2048x128, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8192x4096 : Shape := ⟨2, ![8192, 4096]⟩
abbrev S1x4096x128 : Shape := ⟨3, ![1, 4096, 128]⟩
abbrev S4096x128 : Shape := ⟨2, ![4096, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x128, .f32⟩
  | .hbm, ⟨2, _⟩ => ⟨S8192x4096, .f32⟩
  | .hbm, ⟨3, _⟩ => ⟨S4096x128, .f32⟩
  | .hbm, ⟨4, _⟩ => ⟨S8192x128, .f32⟩
  | .hbm, ⟨5, _⟩ => ⟨S8192x128, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S8192x4096 : Shape := ⟨2, ![8192, 4096]⟩
abbrev S1x4096x480 : Shape := ⟨3, ![1, 4096, 480]⟩
abbrev S_ : Shape := ⟨0, ![]⟩
abbrev S1x480 : Shape := ⟨2, ![1, 480]⟩
abbrev S8192x480 : Shape := ⟨2, ![8192, 480]⟩
abbrev S2048x4096 : Shape := ⟨2, ![2048, 4096]⟩
abbrev S2048x480 : Shape := ⟨2, ![2048, 480]⟩
abbrev S4096x480 : Shape := ⟨2, ![4096, 480]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x480, .f32⟩
  | .hbm, ⟨2, _⟩ => ⟨S_, .f32⟩
  | .hbm, ⟨3, _⟩ => ⟨S1x480, .f32⟩
  | .hbm, ⟨4, _⟩ => ⟨S8192x480, .bf16⟩
  | .local _ .vmem, ⟨0, _⟩ => ⟨S2048x4096, .bf16⟩
  | .local _ .vmem, ⟨1, _⟩ => ⟨S2048x4096, .bf16⟩
  | .local _ .vmem, ⟨2, _⟩ => ⟨S1x4096x480, .f32⟩
  | .local _ .vmem, ⟨3, _⟩ => ⟨S1x480, .f32⟩
  | .local _ .vmem, ⟨4, _⟩ => ⟨S2048x480, .bf16⟩
  | .local _ .vmem, ⟨5, _⟩ => ⟨S2048x480, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x480 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S2048x480 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S8192x4096 : Shape := ⟨2, ![8192, 4096]⟩
abbrev S1x4096x480 : Shape := ⟨3, ![1, 4096, 480]⟩
abbrev S4096x480 : Shape := ⟨2, ![4096, 480]⟩
abbrev S8192x480 : Shape := ⟨2, ![8192, 480]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x480, .f32⟩
  | .hbm, ⟨2, _⟩ => ⟨S8192x4096, .f32⟩
  | .hbm, ⟨3, _⟩ => ⟨S4096x480, .f32⟩
  | .hbm, ⟨4, _⟩ => ⟨S8192x480, .f32⟩
  | .hbm, ⟨5, _⟩ => ⟨S8192x480, .f32⟩
  | .hbm, ⟨6, _⟩ => ⟨S8192x480, .f32⟩
  | .hbm, ⟨7, _⟩ => ⟨S_, .f32⟩
  | .hbm, ⟨8, _⟩ => ⟨S8192x480, .f32⟩
  | .hbm, ⟨9, _⟩ => ⟨S8192x480, .f32⟩
  | .hbm, ⟨10, _⟩ => ⟨S_, .f32⟩
  | .hbm, ⟨11, _⟩ => ⟨S8192x480, .f32⟩
  | .hbm, ⟨12, _⟩ => ⟨S8192x480, .f32⟩
  | .hbm, ⟨13, _⟩ => ⟨S8192x480, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel12.lean ====
abbrev S8192x4096 : Shape := ⟨2, ![8192, 4096]⟩
abbrev S2x1x4096 : Shape := ⟨3, ![2, 1, 4096]⟩
abbrev S1x4096x12304 : Shape := ⟨3, ![1, 4096, 12304]⟩
abbrev S1x8 : Shape := ⟨2, ![1, 8]⟩
abbrev S1x4096x16 : Shape := ⟨3, ![1, 4096, 16]⟩
abbrev S_ : Shape := ⟨0, ![]⟩
abbrev S1x4096x128 : Shape := ⟨3, ![1, 4096, 128]⟩
abbrev S8 : Shape := ⟨1, ![8]⟩
abbrev S16 : Shape := ⟨1, ![16]⟩
abbrev S128 : Shape := ⟨1, ![128]⟩
abbrev S1x128 : Shape := ⟨2, ![1, 128]⟩
abbrev S8192x128 : Shape := ⟨2, ![8192, 128]⟩
abbrev S512x4096 : Shape := ⟨2, ![512, 4096]⟩
abbrev S1x1x4096 : Shape := ⟨3, ![1, 1, 4096]⟩
abbrev S512x128 : Shape := ⟨2, ![512, 128]⟩
abbrev S1x4096 : Shape := ⟨2, ![1, 4096]⟩
abbrev S4096x128 : Shape := ⟨2, ![4096, 128]⟩

abbrev nBuf : Space → Nat
  | .hbm => 19
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2x1x4096, .f32⟩
  | .hbm, ⟨2, _⟩ => ⟨S2x1x4096, .f32⟩
  | .hbm, ⟨3, _⟩ => ⟨S1x4096x12304, .f32⟩
  | .hbm, ⟨4, _⟩ => ⟨S1x8, .f32⟩
  | .hbm, ⟨5, _⟩ => ⟨S1x8, .f32⟩
  | .hbm, ⟨6, _⟩ => ⟨S1x4096x16, .f32⟩
  | .hbm, ⟨7, _⟩ => ⟨S_, .i32⟩
  | .hbm, ⟨8, _⟩ => ⟨S_, .f32⟩
  | .hbm, ⟨9, _⟩ => ⟨S1x4096x128, .f32⟩
  | .hbm, ⟨10, _⟩ => ⟨S8, .f32⟩
  | .hbm, ⟨11, _⟩ => ⟨S8, .f32⟩
  | .hbm, ⟨12, _⟩ => ⟨S16, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S8192x4096, .bf16⟩
  | .hbm, ⟨18, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096x128, .f32⟩
  | .local _ .vmem, ⟨7, _⟩ => ⟨S1x128, .f32⟩
  | .local _ .vmem, ⟨8, _⟩ => ⟨S512x4096, .bf16⟩
  | .local _ .vmem, ⟨9, _⟩ => ⟨S512x4096, .bf16⟩
  | .local _ .vmem, ⟨10, _⟩ => ⟨S512x128, .f32⟩
  | .local _ .vmem, ⟨11, _⟩ => ⟨S512x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x4096 : Shape := ⟨2, ![8192, 4096]⟩
abbrev S2x1x4096 : Shape := ⟨3, ![2, 1, 4096]⟩
abbrev S1x4096x12304 : Shape := ⟨3, ![1, 4096, 12304]⟩
abbrev S1x8 : Shape := ⟨2, ![1, 8]⟩
abbrev S2x4096x4096 : Shape := ⟨3, ![2, 4096, 4096]⟩
abbrev S_ : Shape := ⟨0, ![]⟩
abbrev S4096x12304 : Shape := ⟨2, ![4096, 12304]⟩
abbrev S8192x12304 : Shape := ⟨2, ![8192, 12304]⟩
abbrev S8192x16 : Shape := ⟨2, ![8192, 16]⟩
abbrev S8192x8 : Shape := ⟨2, ![8192, 8]⟩
abbrev S8 : Shape := ⟨1, ![8]⟩
abbrev S8192x112 : Shape := ⟨2, ![8192, 112]⟩
abbrev S8192x128 : Shape := ⟨2, ![8192, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x1x4096, .f32⟩
  | .hbm, ⟨2, _⟩ => ⟨S2x1x4096, .f32⟩
  | .hbm, ⟨3, _⟩ => ⟨S1x4096x12304, .f32⟩
  | .hbm, ⟨4, _⟩ => ⟨S1x8, .f32⟩
  | .hbm, ⟨5, _⟩ => ⟨S1x8, .f32⟩
  | .hbm, ⟨6, _⟩ => ⟨S2x4096x4096, .f32⟩
  | .hbm, ⟨7, _⟩ => ⟨S_, .f32⟩
  | .hbm, ⟨8, _⟩ => ⟨S2x1x4096, .f32⟩
  | .hbm, ⟨9, _⟩ => ⟨S2x1x4096, .f32⟩
  | .hbm, ⟨10, _⟩ => ⟨S2x4096x4096, .f32⟩
  | .hbm, ⟨11, _⟩ => ⟨S2x4096x4096, .f32⟩
  | .hbm, ⟨12, _⟩ => ⟨S2x4096x4096, .f32⟩
  | .hbm, ⟨13, _⟩ => ⟨S2x4096x4096, .f32⟩
  | .hbm, ⟨14, _⟩ => ⟨S8192x4096, .f32⟩
  | .hbm, ⟨15, _⟩ => ⟨S4096x12304, .f32⟩
  | .hbm, ⟨16, _⟩ => ⟨S8192x12304, .f32⟩
  | .hbm, ⟨17, _⟩ => ⟨S8192x16, .f32⟩
  | .hbm, ⟨18, _⟩ => ⟨S8192x8, .f32⟩
  | .hbm, ⟨19, _⟩ => ⟨S8, .f32⟩
  | .hbm, ⟨20, _⟩ => ⟨S1x8, .f32⟩
  | .hbm, ⟨21, _⟩ => ⟨S8192x8, .f32⟩
  | .hbm, ⟨22, _⟩ => ⟨S8192x8, .f32⟩
  | .hbm, ⟨23, _⟩ => ⟨S_, .f32⟩
  | .hbm, ⟨24, _⟩ => ⟨S8192x8, .f32⟩
  | .hbm, ⟨25, _⟩ => ⟨S8192x8, .f32⟩
  | .hbm, ⟨26, _⟩ => ⟨S8192x8, .f32⟩
  | .hbm, ⟨27, _⟩ => ⟨S_, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8, .f32⟩
  | .hbm, ⟨32, _⟩ => ⟨S1x8, .f32⟩
  | .hbm, ⟨33, _⟩ => ⟨S8192x8, .f32⟩
  | .hbm, ⟨34, _⟩ => ⟨S8192x8, .f32⟩
  | .hbm, ⟨35, _⟩ => ⟨S8192x8, .f32⟩
  | .hbm, ⟨36, _⟩ => ⟨S_, .f32⟩
  | .hbm, ⟨37, _⟩ => ⟨S8192x8, .f32⟩
  | .hbm, ⟨38, _⟩ => ⟨S8192x8, .f32⟩
  | .hbm, ⟨39, _⟩ => ⟨S8192x8, .f32⟩
  | .hbm, ⟨40, _⟩ => ⟨S8192x8, .f32⟩
  | .hbm, ⟨41, _⟩ => ⟨S8192x8, .i1⟩
  | .hbm, ⟨42, _⟩ => ⟨S8192x8, .f32⟩
  | .hbm, ⟨43, _⟩ => ⟨S8192x8, .f32⟩
  | .hbm, ⟨44, _⟩ => ⟨S8192x8, .f32⟩
  | .hbm, ⟨45, _⟩ => ⟨S8192x8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192x112, .f32⟩
  | .hbm, ⟨53, _⟩ => ⟨S8192x112, .f32⟩
  | .hbm, ⟨54, _⟩ => ⟨S_, .f32⟩
  | .hbm, ⟨55, _⟩ => ⟨S8192x112, .f32⟩
  | .hbm, ⟨56, _⟩ => ⟨S8192x112, .f32⟩
  | .hbm, ⟨57, _⟩ => ⟨S8192x112, .f32⟩
  | .hbm, ⟨58, _⟩ => ⟨S8192x112, .f32⟩
  | .hbm, ⟨59, _⟩ => ⟨S8192x112, .i1⟩
  | .hbm, ⟨60, _⟩ => ⟨S8192x112, .f32⟩
  | .hbm, ⟨61, _⟩ => ⟨S8192x112, .f32⟩
  | .hbm, ⟨62, _⟩ => ⟨S8192x112, .f32⟩
  | .hbm, ⟨63, _⟩ => ⟨S8192x112, .f32⟩
  | .hbm, ⟨64, _⟩ => ⟨S8192x112, .f32⟩
  | .hbm, ⟨65, _⟩ => ⟨S8192x112, .f32⟩
  | .hbm, ⟨66, _⟩ => ⟨S8192x112, .f32⟩
  | .hbm, ⟨67, _⟩ => ⟨S8192x112, .f32⟩
  | .hbm, ⟨68, _⟩ => ⟨S8192x112, .f32⟩
  | .hbm, ⟨69, _⟩ => ⟨S8192x4096, .bf16⟩
  | .hbm, ⟨70, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v26 : Ref sig .tc := ⟨.hbm, 50, rfl⟩
abbrev main_cst_2 : Ref sig .tc := ⟨.hbm, 51, rfl⟩
abbrev main_v27 : Ref sig .tc := ⟨.hbm, 52, rfl⟩
abbrev main_call1_v0 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_v2 : Ref sig .tc := ⟨.hbm, 57, rfl⟩
abbrev main_call1_call0_v3 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_call0_v9 : Ref sig .tc := ⟨.hbm, 64, rfl⟩
abbrev main_call1_call0_v10 : Ref sig .tc := ⟨.hbm, 65, rfl⟩
abbrev main_call1_call0_v11 : Ref sig .tc := ⟨.hbm, 66, rfl⟩
abbrev main_call1_v1 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩

abbrev nD : Nat := 1
abbrev τ : Topo := Topo.v7x

variable {F : FTy → Type} [FloatOps F]
-- ==== Kernel13.lean ====
abbrev S2x4096 : Shape := ⟨2, ![2, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x2x24576 : Shape := ⟨3, ![2, 2, 24576]⟩
abbrev S1x4096x1024 : Shape := ⟨3, ![1, 4096, 1024]⟩
abbrev S1x1x1024 : Shape := ⟨3, ![1, 1, 1024]⟩
abbrev S1x2x1024 : Shape := ⟨3, ![1, 2, 1024]⟩
abbrev S4096x1024 : Shape := ⟨2, ![4096, 1024]⟩
abbrev S2x1024 : Shape := ⟨2, ![2, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x2x24576, .f32⟩
  | .local _ .vmem, ⟨0, _⟩ => ⟨S2x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x2x1024, .f32⟩
  | .local _ .vmem, ⟨6, _⟩ => ⟨S1x2x1024, .f32⟩
  | _, _ => ⟨S2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S2x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S2x4096 : Shape := ⟨2, ![2, 4096]⟩
abbrev S2x4096x24576 : Shape := ⟨3, ![2, 4096, 24576]⟩
abbrev S2x24576 : Shape := ⟨2, ![2, 24576]⟩
abbrev S_ : Shape := ⟨0, ![]⟩
abbrev S2x2x24576 : Shape := ⟨3, ![2, 2, 24576]⟩
abbrev S2x1x24576 : Shape := ⟨3, ![2, 1, 24576]⟩

abbrev nBuf : Space → Nat
  | .hbm => 17
  | .vmem => 0
  | .smem => 0
  | _ => 0

abbrev bufTy : (tb : Table) → Fin (tcTables nBuf tb) → BufTy
  | .hbm, ⟨0, _⟩ => ⟨S2x4096, .f32⟩
  | .hbm, ⟨1, _⟩ => ⟨S2x4096x24576, .f32⟩
  | .hbm, ⟨2, _⟩ => ⟨S2x24576, .f32⟩
  | .hbm, ⟨3, _⟩ => ⟨S2x4096, .f32⟩
  | .hbm, ⟨4, _⟩ => ⟨S2x4096, .f32⟩
  | .hbm, ⟨5, _⟩ => ⟨S_, .f32⟩
  | .hbm, ⟨6, _⟩ => ⟨S2x4096, .f32⟩
  | .hbm, ⟨7, _⟩ => ⟨S2x4096, .f32⟩
  | .hbm, ⟨8, _⟩ => ⟨S_, .f32⟩
  | .hbm, ⟨9, _⟩ => ⟨S2x4096, .f32⟩
  | .hbm, ⟨10, _⟩ => ⟨S2x4096, .f32⟩
  | .hbm, ⟨11, _⟩ => ⟨S2x4096, .f32⟩
  | .hbm, ⟨12, _⟩ => ⟨S2x2x24576, .f32⟩
  | .hbm, ⟨13, _⟩ => ⟨S2x2x24576, .f32⟩
  | .hbm, ⟨14, _⟩ => ⟨S2x1x24576, .f32⟩
  | .hbm, ⟨15, _⟩ => ⟨S2x2x24576, .f32⟩
  | .hbm, ⟨16, _⟩ => ⟨S2x2x24576, .f32⟩
  | _, _ => ⟨S2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel14.lean ====
abbrev S8192x4096 : Shape := ⟨2, ![8192, 4096]⟩
abbrev S1x4096 : Shape := ⟨2, ![1, 4096]⟩
abbrev S2x1x4096 : Shape := ⟨3, ![2, 1, 4096]⟩
abbrev S8192x2 : Shape := ⟨2, ![8192, 2]⟩
abbrev S256x4096 : Shape := ⟨2, ![256, 4096]⟩
abbrev S1x1x4096 : Shape := ⟨3, ![1, 1, 4096]⟩
abbrev S256x2 : Shape := ⟨2, ![256, 2]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S8192x2, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S256x2, .f32⟩
  | .local _ .vmem, ⟨9, _⟩ => ⟨S256x2, .f32⟩
  | .local _ .vmem, ⟨10, _⟩ => ⟨S256x4096, .bf16⟩
  | .local _ .vmem, ⟨11, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S8192x4096 : Shape := ⟨2, ![8192, 4096]⟩
abbrev S1x4096 : Shape := ⟨2, ![1, 4096]⟩
abbrev S2x1x4096 : Shape := ⟨3, ![2, 1, 4096]⟩
abbrev S_ : Shape := ⟨0, ![]⟩
abbrev S8192 : Shape := ⟨1, ![8192]⟩
abbrev S8192x1 : Shape := ⟨2, ![8192, 1]⟩
abbrev S2x4096x4096 : Shape := ⟨3, ![2, 4096, 4096]⟩
abbrev S8192x2 : Shape := ⟨2, ![8192, 2]⟩

abbrev nBuf : Space → Nat
  | .hbm => 43
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S2x4096x4096, .f32⟩
  | .hbm, ⟨33, _⟩ => ⟨S_, .f32⟩
  | .hbm, ⟨34, _⟩ => ⟨S2x1x4096, .f32⟩
  | .hbm, ⟨35, _⟩ => ⟨S2x1x4096, .f32⟩
  | .hbm, ⟨36, _⟩ => ⟨S2x4096x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S8192x4096, .f32⟩
  | .hbm, ⟨41, _⟩ => ⟨S8192x2, .f32⟩
  | .hbm, ⟨42, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Kernel15.lean ====
abbrev S8192x4096 : Shape := ⟨2, ![8192, 4096]⟩
abbrev S1x4096 : Shape := ⟨2, ![1, 4096]⟩
abbrev S2x1x4096 : Shape := ⟨3, ![2, 1, 4096]⟩
abbrev S6x4096 : Shape := ⟨2, ![6, 4096]⟩
abbrev S8192x2 : Shape := ⟨2, ![8192, 2]⟩
abbrev S128x4096 : Shape := ⟨2, ![128, 4096]⟩
abbrev S8x4096 : Shape := ⟨2, ![8, 4096]⟩
abbrev S1x1x4096 : Shape := ⟨3, ![1, 1, 4096]⟩
abbrev S128x2 : Shape := ⟨2, ![128, 2]⟩
abbrev S128x512 : Shape := ⟨2, ![128, 512]⟩
abbrev S128 : Shape := ⟨1, ![128]⟩
abbrev S128x1 : Shape := ⟨2, ![128, 1]⟩
abbrev S8x512 : Shape := ⟨2, ![8, 512]⟩
abbrev S8 : Shape := ⟨1, ![8]⟩
abbrev S8x1 : Shape := ⟨2, ![8, 1]⟩
abbrev S1x1x512 : Shape := ⟨3, ![1, 1, 512]⟩
abbrev S1x512 : Shape := ⟨2, ![1, 512]⟩

abbrev nBuf : Space → Nat
  | .hbm => 13
  | .vmem => 25
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S6x4096, .f32⟩
  | .hbm, ⟨6, _⟩ => ⟨S8192x2, .f32⟩
  | .hbm, ⟨7, _⟩ => ⟨S8192x4096, .bf16⟩
  | .hbm, ⟨8, _⟩ => ⟨S8192x4096, .bf16⟩
  | .hbm, ⟨9, _⟩ => ⟨S8192x4096, .bf16⟩
  | .hbm, ⟨10, _⟩ => ⟨S8192x4096, .bf16⟩
  | .hbm, ⟨11, _⟩ => ⟨S8192x4096, .bf16⟩
  | .hbm, ⟨12, _⟩ => ⟨S8192x4096, .bf16⟩
  | .local _ .vmem, ⟨0, _⟩ => ⟨S128x4096, .f32⟩
  | .local _ .vmem, ⟨1, _⟩ => ⟨S128x4096, .f32⟩
  | .local _ .vmem, ⟨2, _⟩ => ⟨S8x4096, .f32⟩
  | .local _ .vmem, ⟨3, _⟩ => ⟨S8x4096, .f32⟩
  | .local _ .vmem, ⟨4, _⟩ => ⟨S1x4096, .f32⟩
  | .local _ .vmem, ⟨5, _⟩ => ⟨S1x4096, .f32⟩
  | .local _ .vmem, ⟨6, _⟩ => ⟨S1x1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S6x4096, .f32⟩
  | .local _ .vmem, ⟨11, _⟩ => ⟨S128x2, .f32⟩
  | .local _ .vmem, ⟨12, _⟩ => ⟨S128x2, .f32⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S128x4096, .bf16⟩
  | .local _ .vmem, ⟨17, _⟩ => ⟨S128x4096, .bf16⟩
  | .local _ .vmem, ⟨18, _⟩ => ⟨S128x4096, .bf16⟩
  | .local _ .vmem, ⟨19, _⟩ => ⟨S128x4096, .bf16⟩
  | .local _ .vmem, ⟨20, _⟩ => ⟨S128x4096, .bf16⟩
  | .local _ .vmem, ⟨21, _⟩ => ⟨S128x4096, .bf16⟩
  | .local _ .vmem, ⟨22, _⟩ => ⟨S128x4096, .bf16⟩
  | .local _ .vmem, ⟨23, _⟩ => ⟨S128x4096, .bf16⟩
  | .local _ .vmem, ⟨24, _⟩ => ⟨S128x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c128_i32 : BitVec 32 := 128#32
  let v0 : BitVec 32 := Scalar.muli arg0 c128_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c128_i32 : BitVec 32 := 128#32
  let v0 : BitVec 32 := Scalar.muli arg0 c128_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference15Ideal.lean ====
abbrev S8192x4096 : Shape := ⟨2, ![8192, 4096]⟩
abbrev S1x4096 : Shape := ⟨2, ![1, 4096]⟩
abbrev S2x1x4096 : Shape := ⟨3, ![2, 1, 4096]⟩
abbrev S6x4096 : Shape := ⟨2, ![6, 4096]⟩
abbrev S_ : Shape := ⟨0, ![]⟩
abbrev S8192 : Shape := ⟨1, ![8192]⟩
abbrev S8192x1 : Shape := ⟨2, ![8192, 1]⟩
abbrev S2x4096x4096 : Shape := ⟨3, ![2, 4096, 4096]⟩
abbrev S2x4097x4096 : Shape := ⟨3, ![2, 4097, 4096]⟩
abbrev S4096 : Shape := ⟨1, ![4096]⟩
abbrev S1x1x4096 : Shape := ⟨3, ![1, 1, 4096]⟩
abbrev S8192x2 : Shape := ⟨2, ![8192, 2]⟩

abbrev nBuf : Space → Nat
  | .hbm => 97
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S2x1x4096, .f32⟩
  | .hbm, ⟨4, _⟩ => ⟨S2x1x4096, .f32⟩
  | .hbm, ⟨5, _⟩ => ⟨S6x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S2x4096x4096, .f32⟩
  | .hbm, ⟨34, _⟩ => ⟨S_, .f32⟩
  | .hbm, ⟨35, _⟩ => ⟨S2x1x4096, .f32⟩
  | .hbm, ⟨36, _⟩ => ⟨S2x1x4096, .f32⟩
  | .hbm, ⟨37, _⟩ => ⟨S2x4096x4096, .f32⟩
  | .hbm, ⟨38, _⟩ => ⟨S2x4096x4096, .f32⟩
  | .hbm, ⟨39, _⟩ => ⟨S2x4096x4096, .f32⟩
  | .hbm, ⟨40, _⟩ => ⟨S2x4096x4096, .f32⟩
  | .hbm, ⟨41, _⟩ => ⟨S8192x4096, .f32⟩
  | .hbm, ⟨42, _⟩ => ⟨S2x4096x4096, .f32⟩
  | .hbm, ⟨43, _⟩ => ⟨S_, .i32⟩
  | .hbm, ⟨44, _⟩ => ⟨S_, .f32⟩
  | .hbm, ⟨45, _⟩ => ⟨S2x4097x4096, .f32⟩
  | .hbm, ⟨46, _⟩ => ⟨S2x4096x4096, .f32⟩
  | .hbm, ⟨47, _⟩ => ⟨S2x4096x4096, .f32⟩
  | .hbm, ⟨48, _⟩ => ⟨S1x4096, .f32⟩
  | .hbm, ⟨49, _⟩ => ⟨S4096, .f32⟩
  | .hbm, ⟨50, _⟩ => ⟨S1x1x4096, .f32⟩
  | .hbm, ⟨51, _⟩ => ⟨S2x4096x4096, .f32⟩
  | .hbm, ⟨52, _⟩ => ⟨S2x4096x4096, .f32⟩
  | .hbm, ⟨53, _⟩ => ⟨S2x4096x4096, .f32⟩
  | .hbm, ⟨54, _⟩ => ⟨S8192x4096, .f32⟩
  | .hbm, ⟨55, _⟩ => ⟨S8192x4096, .bf16⟩
  | .hbm, ⟨56, _⟩ => ⟨S1x4096, .f32⟩
  | .hbm, ⟨57, _⟩ => ⟨S4096, .f32⟩
  | .hbm, ⟨58, _⟩ => ⟨S1x1x4096, .f32⟩
  | .hbm, ⟨59, _⟩ => ⟨S2x4096x4096, .f32⟩
  | .hbm, ⟨60, _⟩ => ⟨S2x4096x4096, .f32⟩
  | .hbm, ⟨61, _⟩ => ⟨S2x4096x4096, .f32⟩
  | .hbm, ⟨62, _⟩ => ⟨S8192x4096, .f32⟩
  | .hbm, ⟨63, _⟩ => ⟨S8192x4096, .bf16⟩
  | .hbm, ⟨64, _⟩ => ⟨S1x4096, .f32⟩
  | .hbm, ⟨65, _⟩ => ⟨S4096, .f32⟩
  | .hbm, ⟨66, _⟩ => ⟨S1x1x4096, .f32⟩
  | .hbm, ⟨67, _⟩ => ⟨S2x4096x4096, .f32⟩
  | .hbm, ⟨68, _⟩ => ⟨S2x4096x4096, .f32⟩
  | .hbm, ⟨69, _⟩ => ⟨S2x4096x4096, .f32⟩
  | .hbm, ⟨70, _⟩ => ⟨S8192x4096, .f32⟩
  | .hbm, ⟨71, _⟩ => ⟨S8192x4096, .bf16⟩
  | .hbm, ⟨72, _⟩ => ⟨S1x4096, .f32⟩
  | .hbm, ⟨73, _⟩ => ⟨S4096, .f32⟩
  | .hbm, ⟨74, _⟩ => ⟨S1x1x4096, .f32⟩
  | .hbm, ⟨75, _⟩ => ⟨S2x4096x4096, .f32⟩
  | .hbm, ⟨76, _⟩ => ⟨S2x4096x4096, .f32⟩
  | .hbm, ⟨77, _⟩ => ⟨S2x4096x4096, .f32⟩
  | .hbm, ⟨78, _⟩ => ⟨S8192x4096, .f32⟩
  | .hbm, ⟨79, _⟩ => ⟨S8192x4096, .bf16⟩
  | .hbm, ⟨80, _⟩ => ⟨S1x4096, .f32⟩
  | .hbm, ⟨81, _⟩ => ⟨S4096, .f32⟩
  | .hbm, ⟨82, _⟩ => ⟨S1x1x4096, .f32⟩
  | .hbm, ⟨83, _⟩ => ⟨S2x4096x4096, .f32⟩
  | .hbm, ⟨84, _⟩ => ⟨S2x4096x4096, .f32⟩
  | .hbm, ⟨85, _⟩ => ⟨S2x4096x4096, .f32⟩
  | .hbm, ⟨86, _⟩ => ⟨S8192x4096, .f32⟩
  | .hbm, ⟨87, _⟩ => ⟨S8192x4096, .bf16⟩
  | .hbm, ⟨88, _⟩ => ⟨S1x4096, .f32⟩
  | .hbm, ⟨89, _⟩ => ⟨S4096, .f32⟩
  | .hbm, ⟨90, _⟩ => ⟨S1x1x4096, .f32⟩
  | .hbm, ⟨91, _⟩ => ⟨S2x4096x4096, .f32⟩
  | .hbm, ⟨92, _⟩ => ⟨S2x4096x4096, .f32⟩
  | .hbm, ⟨93, _⟩ => ⟨S2x4096x4096, .f32⟩
  | .hbm, ⟨94, _⟩ => ⟨S8192x4096, .f32⟩
  | .hbm, ⟨95, _⟩ => ⟨S8192x4096, .bf16⟩
  | .hbm, ⟨96, _⟩ => ⟨S8192x2, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_call0_v0 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩

abbrev nD : Nat := 1
abbrev τ : Topo := Topo.v7x

variable {F : FTy → Type} [FloatOps F]
-- ==== Proof.Head.lean ====
/- One head of one chunk, in the kernel's own operations: from the head's slices of the chunk's queries, keys, values, gates
   and from the carried matrix memory, normaliser and running maximum, the 128 output rows and the three values carried on.
   Every head of every grid point is an instance of these terms. -/
module

public import proofs.«01_k».proof.Proof.Gen.KernelIdeal.Skeleton
public import Idealize.ShloMosaic.Lib.Pipeline.ValueKit

@[expose] public section

set_option maxRecDepth 16384

noncomputable section

namespace Cert.Proof.Head

open Idealize.ShloMosaic Idealize.ShloMosaic.TcCoe Idealize.SL.Sem
open Cert.KernelIdeal Cert.KernelIdeal.Gen

variable {F : FTy → Type} [FloatOps F]

/-! ## The slices a head reads -/

/-- Columns `256 h …` of a block of queries or keys. -/
def qkOf (x : Vec F S128x2048 .bf16) (h : ℕ) (hh : h < 8) : Vec F S128x256 .bf16 :=
  View.ld x (Rect.unit (s := S128x2048) ![0, 256 * h] S128x256.size (by intro a; fin_cases a <;> simp <;> omega))

/-- Columns `512 h …` of a block of values or output gates. -/
def vOf (x : Vec F S128x4096 .bf16) (h : ℕ) (hh : h < 8) : Vec F S128x512 .bf16 :=
  View.ld x (Rect.unit (s := S128x4096) ![0, 512 * h] S128x512.size (by intro a; fin_cases a <;> simp <;> omega))

/-- Columns `512 h …` of the row of norm gains. -/
def ngOf (x : Vec F S1x4096 .f32) (h : ℕ) (hh : h < 8) : Vec F S1x512 .f32 :=
  View.ld x (Rect.unit (s := S1x4096) ![0, 512 * h] S1x512.size (by intro a; fin_cases a <;> simp <;> omega))

/-- Column `h` of the block of gates. -/
def gateOf (x : Vec F S128x128 .f32) (h : ℕ) (hh : h < 128) : Vec F S128x1 .f32 :=
  View.ld x (Rect.unit (s := S128x128) ![0, h] S128x1.size (by intro a; fin_cases a <;> simp <;> omega))

/-- Head `h`'s row of the gates laid out along rows. -/
def rowOf (x : Vec F S1x8x1x1x128 .f32) (h : ℕ) (hh : h < 8) : FVec F S1x128 .f32 :=
  shapeCast S1x128 (View.ld x (Rect.unit (s := S1x8x1x1x128) ![0, h, 0, 0, 0] S1x1x1x1x128.size
    (by intro a; fin_cases a <;> simp <;> omega)) : FVec F S1x1x1x1x128 .f32) shapeCasts_S1x1x1x1x128_S1x128

/-- Head `h`'s matrix memory. -/
def cOf (x : Vec F S8x256x512 .f32) (h : ℕ) (hh : h < 8) : FVec F S256x512 .f32 :=
  shapeCast S256x512 (View.ld x (Rect.unit (s := S8x256x512) ![h, 0, 0] S1x256x512.size
    (by intro a; fin_cases a <;> simp <;> omega)) : FVec F S1x256x512 .f32) shapeCasts_S1x256x512_S256x512

/-- Head `h`'s normaliser. -/
def nOf (x : Vec F S8x1x256 .f32) (h : ℕ) (hh : h < 8) : FVec F S1x256 .f32 :=
  shapeCast S1x256 (View.ld x (Rect.unit (s := S8x1x256) ![h, 0, 0] S1x1x256.size
    (by intro a; fin_cases a <;> simp <;> omega)) : FVec F S1x1x256 .f32) shapeCasts_S1x1x256_S1x256

/-- Head `h`'s running maximum. -/
def mOf (x : Vec F S8x1x1 .f32) (h : ℕ) (hh : h < 8) : FVec F S1x1 .f32 :=
  shapeCast S1x1 (View.ld x (Rect.unit (s := S8x1x1) ![h, 0, 0] S1x1x1.size
    (by intro a; fin_cases a <;> simp <;> omega)) : FVec F S1x1x1 .f32) shapeCasts_S1x1x1_S1x1

/-! ## The gates' running sums -/

/-- Which keys a row may read. -/
def causal : IVec S128x128 1 :=
  cmpi .sge (iota .tc S128x128 32 [0] iota_S128x128_d0_w32) (iota .tc S128x128 32 [1] iota_S128x128_d1_w32)

/-- The same along the other axis. -/
def anti : IVec S128x128 1 :=
  cmpi .sle (iota .tc S128x128 32 [0] iota_S128x128_d0_w32) (iota .tc S128x128 32 [1] iota_S128x128_d1_w32)

/-- The running sum of the log forget gates, as a column. -/
def gCol (fr : FVec F S1x128 .f32) : FVec F S128x1 .f32 :=
  shapeCast S128x1 (multiReduction .add [1] S128
    (select causal (broadcastTo S128x128 (shapeCast S1x128 fr shapeCasts_S1x128_S1x128) broadcasts_S1x128_S128x128)
      (broadcast S128x128 (Scalar.ofBits .f32 0x00000000#32 : F .f32)))
    0x00000000#32 reduces_S128x128_S128 (.inl rfl) rfl) shapeCasts_S128_S128x1

/-- The running sum of the log forget gates, as a row. -/
def gRow (fc : Vec F S128x1 .f32) : FVec F S1x128 .f32 :=
  shapeCast S1x128 (multiReduction .add [0] S128
    (select anti (broadcastTo S128x128 (shapeCast S128x1 fc shapeCasts_S128x1_S128x1) broadcasts_S128x1_S128x128)
      (broadcast S128x128 (Scalar.ofBits .f32 0x00000000#32 : F .f32)))
    0x00000000#32 reduces_S128x128_S128_2 (.inl rfl) rfl) shapeCasts_S128_S1x128

/-- The chunk's whole sum of log forget gates. -/
def gLast (fr : FVec F S1x128 .f32) : FVec F S1x1 .f32 :=
  shapeCast S1x1 (multiReduction .add [1] S1 fr 0x00000000#32 reduces_S1x128_S1 (.inl rfl) rfl) shapeCasts_S1_S1x1

/-! ## The rows -/

variable (q k : Vec F S128x256 .bf16) (v o : Vec F S128x512 .bf16) (ic fc : Vec F S128x1 .f32) (ir fr : FVec F S1x128 .f32)
  (c : FVec F S256x512 .f32) (n : FVec F S1x256 .f32) (m : FVec F S1x1 .f32) (ng : Vec F S1x512 .f32)

/-- The logarithm of each key's weight in each row. -/
def logD : FVec F S128x128 .f32 :=
  select causal
    (addf (subf (broadcastTo S128x128 (gCol fr) broadcasts_S128x1_S128x128)
        (broadcastTo S128x128 (gRow fc) broadcasts_S1x128_S128x128))
      (broadcastTo S128x128 ir broadcasts_S1x128_S128x128))
    (broadcast S128x128 (Scalar.ofBits .f32 0xFF800000#32 : F .f32))

/-- The logarithm of the carried memory's weight in each row. -/
def logInter : FVec F S128x1 .f32 := addf (gCol fr) (broadcastTo S128x1 m broadcasts_S1x1_S128x1)

/-- Each row's largest log weight. -/
def mRow : FVec F S128x1 .f32 :=
  maximumf (shapeCast S128x1 (multiReduction .maximumf [1] S128 (logD fc ir fr) 0xFF800000#32 reduces_S128x128_S128
    (.inl rfl) rfl) shapeCasts_S128_S128x1) (logInter fr m)

/-- The scores of the chunk's keys. -/
def scores : FVec F S128x128 .f32 :=
  mulf (mulf (matmul dot_S128x256_S128x256_S128x128_1_1_0_0_n_n none q k (constant S128x128 .f32 0x00000000#32))
      (broadcast S128x128 (Scalar.ofBits .f32 0x3D800000#32 : F .f32)))
    (exp (subf (logD fc ir fr) (broadcastTo S128x128 (mRow fc ir fr m) broadcasts_S128x1_S128x128)))

/-- The carried memory's weight in each row. -/
def inter : FVec F S128x1 .f32 := exp (subf (logInter fr m) (mRow fc ir fr m))

/-- Each row's weighted values. -/
def num : FVec F S128x512 .f32 :=
  addf (matmul dot_S128x128_S128x512_S128x512_1_0_0_1_n_n none (truncf .bf16 (scores q k fc ir fr m) bitsLt_bf16_f32) v
      (constant S128x512 .f32 0x00000000#32))
    (mulf (broadcastTo S128x512 (inter fc ir fr m) broadcasts_S128x1_S128x512)
      (matmul dot_S128x256_S256x512_S128x512_1_0_0_1_n_n none q (truncf .bf16 c bitsLt_bf16_f32)
        (constant S128x512 .f32 0x00000000#32)))

/-- Each row's query against the carried normaliser. -/
def qN : FVec F S128x1 .f32 :=
  shapeCast S128x1 (multiReduction .add [1] S128
    (mulf (extf .f32 q bitsLt_bf16_f32) (broadcastTo S128x256 n broadcasts_S1x256_S128x256))
    0x00000000#32 reduces_S128x256_S128 (.inl rfl) rfl) shapeCasts_S128_S128x1

/-- Each row's sum of weights. -/
def den : FVec F S128x1 .f32 :=
  addf (shapeCast S128x1 (multiReduction .add [1] S128 (scores q k fc ir fr m) 0x00000000#32 reduces_S128x128_S128
      (.inl rfl) rfl) shapeCasts_S128_S128x1)
    (mulf (inter fc ir fr m) (qN q n))

/-- The hidden rows before the norm. -/
def hid : FVec F S128x512 .f32 :=
  divf (num q k v fc ir fr c m) (broadcastTo S128x512
    (maximumf (absf (den q k fc ir fr n m))
      (exp (subf (broadcast S128x1 (Scalar.ofBits .f32 0x00000000#32 : F .f32)) (mRow fc ir fr m))))
    broadcasts_S128x1_S128x512)

/-- One over the root mean square of each row. -/
def rms (x : FVec F S128x512 .f32) : FVec F S128x1 .f32 :=
  rsqrt (addf (divf (shapeCast S128x1 (multiReduction .add [1] S128 (mulf x x) 0x00000000#32 reduces_S128x512_S128
        (.inl rfl) rfl) shapeCasts_S128_S128x1)
      (broadcast S128x1 (Scalar.ofBits .f32 0x44000000#32 : F .f32)))
    (broadcast S128x1 (Scalar.ofBits .f32 0x358637BD#32 : F .f32)))

/-- The output gate. -/
def gate : FVec F S128x512 .f32 :=
  divf (broadcast S128x512 (Scalar.ofBits .f32 0x3F800000#32 : F .f32))
    (addf (broadcast S128x512 (Scalar.ofBits .f32 0x3F800000#32 : F .f32))
      (exp (subf (broadcast S128x512 (Scalar.ofBits .f32 0x00000000#32 : F .f32)) (extf .f32 o bitsLt_bf16_f32))))

/-- Rows normed, scaled by the gains and gated. -/
def normed (x : FVec F S128x512 .f32) : FVec F S128x512 .bf16 :=
  truncf .bf16 (mulf (mulf (mulf x (broadcastTo S128x512 (rms x) broadcasts_S128x1_S128x512))
    (broadcastTo S128x512 ng broadcasts_S1x512_S128x512)) (gate o)) bitsLt_bf16_f32

/-- The head's output rows. -/
def out : FVec F S128x512 .bf16 := normed o ng (hid q k v fc ir fr c n m)

/-! ## What is carried on -/

/-- The logarithm of each key's weight in the memory carried on. -/
def logW : FVec F S128x1 .f32 :=
  addf (subf (broadcastTo S128x1 (gLast fr) broadcasts_S1x1_S128x1) (gCol fr)) ic

/-- The running maximum carried on. -/
def mNew : FVec F S1x1 .f32 :=
  maximumf (addf (gLast fr) m) (shapeCast S1x1 (multiReduction .maximumf [0] S1 (logW ic fr) 0xFF800000#32
    reduces_S128x1_S1 (.inl rfl) rfl) shapeCasts_S1_S1x1)

/-- The weighted keys. -/
def wk : FVec F S128x256 .f32 :=
  mulf (extf .f32 k bitsLt_bf16_f32) (broadcastTo S128x256
    (mulf (broadcast S128x1 (Scalar.ofBits .f32 0x3D800000#32 : F .f32))
      (exp (subf (logW ic fr) (broadcastTo S128x1 (mNew ic fr m) broadcasts_S1x1_S128x1))))
    broadcasts_S128x1_S128x256)

/-- The carried memory's weight in the memory carried on. -/
def decay : FVec F S1x1 .f32 := exp (subf (addf (gLast fr) m) (mNew ic fr m))

/-- The matrix memory carried on. -/
def cNew : FVec F S256x512 .f32 :=
  addf (mulf (broadcastTo S256x512 (decay ic fr m) broadcasts_S1x1_S256x512) c)
    (matmul dot_S128x256_S128x512_S256x512_0_0_1_1_n_n none (truncf .bf16 (wk k ic fr m) bitsLt_bf16_f32) v
      (constant S256x512 .f32 0x00000000#32))

/-- The normaliser carried on. -/
def nNew : FVec F S1x256 .f32 :=
  addf (mulf (broadcastTo S1x256 (decay ic fr m) broadcasts_S1x1_S1x256) n)
    (shapeCast S1x256 (multiReduction .add [0] S256 (wk k ic fr m) 0x00000000#32 reduces_S128x256_S256 (.inl rfl) rfl)
      shapeCasts_S256_S1x256)

end Cert.Proof.Head

end
-- ==== Proof.Spec.lean ====
/- One head of one chunk of the recurrence as equations of extended reals: the rows the head gives and the memory it carries
   on, from the chunk's queries, scaled keys, values and gates and from the memory carried in. Both programs are read
   against these equations. -/
module

public import Idealize.ShloMosaic.Lib.Pointwise
public import Idealize.ShloMosaic.Lib.WordCmp

@[expose] public section

noncomputable section

namespace Cert.Proof.Spec

open Idealize.ShloMosaic

/-- What a head reads of a chunk. The keys are scaled already. -/
structure Chunk where
  q : Fin 128 → Fin 256 → EReal
  k : Fin 128 → Fin 256 → EReal
  v : Fin 128 → Fin 512 → EReal
  i : Fin 128 → EReal
  f : Fin 128 → EReal

/-- What a head carries from chunk to chunk. -/
structure Mem where
  c : Fin 256 → Fin 512 → EReal
  n : Fin 256 → EReal
  m : EReal

theorem Mem.same {a b : Mem} (hc : a.c = b.c) (hn : a.n = b.n) (hm : a.m = b.m) : a = b := by
  cases a; cases b; cases hc; cases hn; cases hm; rfl

/-- Minus infinity, as both programs spell it. -/
def ninf : EReal := Ideal.ofBits .f32 4286578688#32

/-- The scale of the keys. -/
def scale : EReal := Ideal.ofBits .f32 1031798784#32

namespace Chunk

variable (x : Chunk) (s : Mem)

/-- The running sum of the log forget gates. -/
def g (r : Fin 128) : EReal := ∑ l, if l ≤ r then x.f l else 0

/-- The whole sum of the log forget gates. -/
def gAll : EReal := ∑ l, x.f l

/-- The logarithm of key `l`'s weight in row `r`. -/
def logD (r l : Fin 128) : EReal := if l ≤ r then x.g r - x.g l + x.i l else ninf

/-- Row `r`'s largest log weight. -/
def top (r : Fin 128) : EReal := max (Finset.fold max ninf (fun l => x.logD r l) Finset.univ) (x.g r + s.m)

/-- The score of key `l` in row `r`. -/
def score (r l : Fin 128) : EReal := (∑ d, x.q r d * x.k l d) * Ideal.exp (x.logD r l - x.top s r)

/-- The carried memory's weight in row `r`. -/
def inter (r : Fin 128) : EReal := Ideal.exp (x.g r + s.m - x.top s r)

/-- Row `r`'s weighted values. -/
def num (r : Fin 128) (e : Fin 512) : EReal :=
  ∑ l, x.score s r l * x.v l e + x.inter s r * ∑ d, x.q r d * s.c d e

/-- Row `r`'s sum of weights. -/
def den (r : Fin 128) : EReal := ∑ l, x.score s r l + x.inter s r * ∑ d, x.q r d * s.n d

/-- The row the head gives. -/
def hid (r : Fin 128) (e : Fin 512) : EReal :=
  Ideal.div (x.num s r e) (max (FloatOps.absf (F := Ideal) (φ := .f32) (x.den s r)) (Ideal.exp (-(x.top s r))))

/-- The running maximum carried on. -/
def mNew : EReal :=
  max (x.gAll + s.m) (Finset.fold max ninf (fun l => x.gAll - x.g l + x.i l) Finset.univ)

/-- The weighted keys. -/
def wk (l : Fin 128) (d : Fin 256) : EReal := x.k l d * Ideal.exp (x.gAll - x.g l + x.i l - x.mNew s)

/-- The memory carried on. -/
def next : Mem where
  c d e := Ideal.exp (x.gAll + s.m - x.mNew s) * s.c d e + ∑ l, x.wk s l d * x.v l e
  n d := Ideal.exp (x.gAll + s.m - x.mNew s) * s.n d + ∑ l, x.wk s l d
  m := x.mNew s

end Chunk

/-- A row normed, scaled by its gain and gated. -/
def normed (y : Fin 512 → EReal) (gain o : EReal) (e : Fin 512) : EReal :=
  y e * Ideal.rsqrt (Ideal.div (∑ e', y e' * y e') (Ideal.ofBits .f32 1140850688#32) + Ideal.ofBits .f32 897988541#32)
    * gain * Ideal.div 1 (1 + Ideal.exp (-o))

/-! ## The whole recurrence -/

/-- Token `r` of chunk `J` of batch `B`, as a row of the projections. -/
def row (B : Fin 2) (J : Fin 32) (r : Fin 128) : Fin 8192 := ⟨4096 * B.val + 128 * J.val + r.val, by omega⟩

variable (a0 : (⟨2, ![8192, 12288]⟩ : Shape).Idx → EReal) (a1 : (⟨2, ![8192, 128]⟩ : Shape).Idx → EReal)

/-- What head `h` reads of chunk `J` of batch `B`: queries, keys and values lie side by side in the projections, input gates
and log forget gates in the gates. -/
def chunkOf (B : Fin 2) (h : Fin 8) (J : Fin 32) : Chunk where
  q r d := a0 (ix2 (row B J r) ⟨256 * h.val + d.val, by omega⟩)
  k r d := a0 (ix2 (row B J r) ⟨2048 + 256 * h.val + d.val, by omega⟩) * scale
  v r e := a0 (ix2 (row B J r) ⟨4096 + 512 * h.val + e.val, by omega⟩)
  i r := a1 (ix2 (row B J r) ⟨h.val, by omega⟩)
  f r := a1 (ix2 (row B J r) ⟨8 + h.val, by omega⟩)

/-- The memory before chunk `k`. -/
def memory (B : Fin 2) (h : Fin 8) : ℕ → Mem
  | 0 => ⟨fun _ _ => 0, fun _ => 0, 0⟩
  | k + 1 => if hk : k < 32 then (chunkOf a0 a1 B h ⟨k, hk⟩).next (memory B h k) else memory B h k

/-- The memory after chunk `J`. -/
theorem memory_succ (B : Fin 2) (h : Fin 8) (J : Fin 32) :
    memory a0 a1 B h (J.val + 1) = (chunkOf a0 a1 B h J).next (memory a0 a1 B h J.val) := dif_pos J.isLt

/-! ## Comparing positions -/

theorem select_sge {α : Type} (r l : Fin 128) (a b : α) :
    Scalar.select (IntOp.cmpi .sge (BitVec.ofNat 32 r.val) (BitVec.ofNat 32 l.val)) a b = if l ≤ r then a else b := by
  rw [WordCmp.cmpi_sge_ofNat (by omega) (by omega)]
  by_cases h : l ≤ r
  · have h' : l.val ≤ r.val := h
    simp [Scalar.select, h, h']
  · have h' : ¬ l.val ≤ r.val := h
    simp [Scalar.select, h, h']

theorem select_sle {α : Type} (r l : Fin 128) (a b : α) :
    Scalar.select (IntOp.cmpi .sle (BitVec.ofNat 32 l.val) (BitVec.ofNat 32 r.val)) a b = if l ≤ r then a else b := by
  rw [WordCmp.cmpi_sle_ofNat (by omega) (by omega)]
  by_cases h : l ≤ r
  · have h' : l.val ≤ r.val := h
    simp [Scalar.select, h, h']
  · have h' : ¬ l.val ≤ r.val := h
    simp [Scalar.select, h, h']

theorem zero_sub' (x : EReal) : 0 - x = -x := by rw [sub_eq_add_neg, zero_add]

/-! ## The scale -/

theorem scale_eq : scale = ((1 / 16 : ℝ) : EReal) := by
  simp [scale, Ideal.ofBits, Ideal.ieee, -EReal.coe_mul]; norm_num

/-- A sum scaled is the sum of what is scaled: the scale is a positive number. -/
theorem sum_scale {n : ℕ} (y : Fin n → EReal) : (∑ d, y d) * scale = ∑ d, y d * scale := by
  have h0 : 0 ≤ scale := by rw [scale_eq]; exact_mod_cast (by norm_num : (0 : ℝ) ≤ 1 / 16)
  have h1 : scale ≠ ⊤ := by rw [scale_eq]; exact EReal.coe_ne_top _
  induction (Finset.univ : Finset (Fin n)) using Finset.induction_on with
  | empty => simp
  | insert a t ha ih =>
    rw [Finset.sum_insert ha, Finset.sum_insert ha, EReal.right_distrib_of_nonneg_of_ne_top h0 h1, ih]

end Cert.Proof.Spec
end
-- ==== Proof.HeadAt.lean ====
/- The kernel's terms for one head of one chunk, read position by position: they are the recurrence's equations. -/
module

public import proofs.«01_k».proof.Proof.Head
public import proofs.«01_k».proof.Proof.Spec

@[expose] public section

set_option maxRecDepth 16384

noncomputable section

namespace Cert.Proof.HeadAt

open Idealize.ShloMosaic Idealize.ShloMosaic.TcCoe
open Cert.KernelIdeal Cert.KernelIdeal.Gen Cert.Proof.Head Cert.Proof.Spec

/-- The slices one head of one chunk reads hold what the equations read. -/
structure Reads (q k : Vec Ideal S128x256 .bf16) (v : Vec Ideal S128x512 .bf16) (ic fc : Vec Ideal S128x1 .f32)
    (ir fr : FVec Ideal S1x128 .f32) (x : Chunk) : Prop where
  hq : ∀ r d, q (ix2 r d) = x.q r d
  hk : ∀ r d, k (ix2 r d) * scale = x.k r d
  hv : ∀ r e, v (ix2 r e) = x.v r e
  hic : ∀ r, ic (ix2 r 0) = x.i r
  hfc : ∀ r, fc (ix2 r 0) = x.f r
  hir : ∀ r, ir (ix2 0 r) = x.i r
  hfr : ∀ r, fr (ix2 0 r) = x.f r

/-- The carried slices hold the memory. -/
structure Holds (c : FVec Ideal S256x512 .f32) (n : FVec Ideal S1x256 .f32) (m : FVec Ideal S1x1 .f32) (s : Mem) : Prop where
  hc : ∀ d e, c (ix2 d e) = s.c d e
  hn : ∀ d, n (ix2 0 d) = s.n d
  hm : m (ix2 0 0) = s.m

variable {q k : Vec Ideal S128x256 .bf16} {v : Vec Ideal S128x512 .bf16} {ic fc : Vec Ideal S128x1 .f32}
  {ir fr : FVec Ideal S1x128 .f32} {x : Chunk} (H : Reads q k v ic fc ir fr x)
  {c : FVec Ideal S256x512 .f32} {n : FVec Ideal S1x256 .f32} {m : FVec Ideal S1x1 .f32} {s : Mem} (M : Holds c n m s)

include H

theorem gCol_at (r : Fin 128) : gCol fr (ix2 r 0) = x.g r := by
  pointwise [gCol, causal]
  simp only [select_sge, H.hfr, Chunk.g]

theorem gRow_at (r : Fin 128) : gRow fc (ix2 0 r) = x.g r := by
  pointwise [gRow, anti]
  simp only [select_sle, H.hfc, Chunk.g]

theorem gLast_at : gLast fr (ix2 0 0) = x.gAll := by
  pointwise [gLast]
  simp only [H.hfr, Chunk.gAll]

theorem logD_at (r l : Fin 128) : logD fc ir fr (ix2 r l) = x.logD r l := by
  pointwise [logD, causal]
  simp only [select_sge, gCol_at H, gRow_at H, H.hir, Chunk.logD, ninf]

include M

theorem mRow_at (r : Fin 128) : mRow fc ir fr m (ix2 r 0) = x.top s r := by
  pointwise [mRow, logInter]
  simp only [logD_at H, gCol_at H, M.hm, Chunk.top, ninf]

theorem scores_at (r l : Fin 128) : scores q k fc ir fr m (ix2 r l) = x.score s r l := by
  pointwise [scores]
  simp only [logD_at H, mRow_at H M, Chunk.score]
  congr 1
  refine (sum_scale _).trans (Finset.sum_congr rfl fun d _ => ?_)
  rw [mul_assoc, H.hk, H.hq]

theorem inter_at (r : Fin 128) : inter fc ir fr m (ix2 r 0) = x.inter s r := by
  pointwise [inter, logInter]
  simp only [gCol_at H, mRow_at H M, M.hm, Chunk.inter]

theorem num_at (r : Fin 128) (e : Fin 512) : num q k v fc ir fr c m (ix2 r e) = x.num s r e := by
  pointwise [num]
  simp only [scores_at H M, inter_at H M, H.hv, H.hq, M.hc, Chunk.num]

theorem den_at (r : Fin 128) : den q k fc ir fr n m (ix2 r 0) = x.den s r := by
  pointwise [den, qN]
  simp only [scores_at H M, inter_at H M, H.hq, M.hn, Chunk.den]

theorem hid_at (r : Fin 128) (e : Fin 512) : hid q k v fc ir fr c n m (ix2 r e) = x.hid s r e := by
  pointwise [hid]
  simp only [num_at H M, den_at H M, mRow_at H M, zero_sub', Chunk.hid]

/-- The head's output rows. -/
theorem out_at (o : Vec Ideal S128x512 .bf16) (ng : Vec Ideal S1x512 .f32) (r : Fin 128) (e : Fin 512) :
    out q k v o fc ir fr c n m ng (ix2 r e) = normed (x.hid s r) (ng (ix2 0 e)) (o (ix2 r e)) e := by
  pointwise [out, Head.normed, rms, gate]
  simp only [hid_at H M, zero_sub', Spec.normed]

theorem mNew_at : mNew ic fr m (ix2 0 0) = (x.next s).m := by
  pointwise [mNew, logW]
  simp only [gLast_at H, gCol_at H, H.hic, M.hm, Chunk.next, Chunk.mNew, ninf]

theorem wk_at (r : Fin 128) (d : Fin 256) : wk k ic fr m (ix2 r d) = x.wk s r d := by
  pointwise [wk, logW]
  simp only [gLast_at H, gCol_at H, H.hic, mNew_at H M]
  rw [← mul_assoc]
  exact congrArg (· * _) (H.hk r d)

/-- The matrix memory carried on. -/
theorem cNew_at (d : Fin 256) (e : Fin 512) : cNew k v ic fr c m (ix2 d e) = (x.next s).c d e := by
  pointwise [cNew, decay]
  simp only [gLast_at H, mNew_at H M, wk_at H M, M.hm, M.hc, H.hv, Chunk.next]

/-- The normaliser carried on. -/
theorem nNew_at (d : Fin 256) : nNew k ic fr n m (ix2 0 d) = (x.next s).n d := by
  pointwise [nNew, decay]
  simp only [gLast_at H, mNew_at H M, wk_at H M, M.hm, M.hn, Chunk.next]

end Cert.Proof.HeadAt
end
-- ==== Proof.Block.lean ====
/- What the kernel's body leaves at one grid point: each head's piece of the output block and of the three carried arrays is
   that head's canonical term (Head.lean), whether the point starts a batch or goes on with it. -/
module

public import proofs.«01_k».proof.Proof.Gen.KernelIdeal.Value
public import proofs.«01_k».proof.Proof.Head
public import Idealize.ShloMosaic.Lib.Pipeline.ValueKit
public import Idealize.ShloMosaic.Lib.Pipeline.ReadBack
public import Idealize.ShloMosaic.Lib.Pointwise.Index

@[expose] public section

set_option maxRecDepth 16384

noncomputable section

namespace Cert.Proof.Block

open Idealize.ShloMosaic Idealize.ShloMosaic.TcCoe Idealize.ShloMosaic.Tactic
open Cert.KernelIdeal Cert.KernelIdeal.Gen Cert.Proof.Head

variable {F : FTy → Type} [FloatOps F]

section Blocks

variable (x0 x1 : Vec F S128x2048 .bf16) (x2 x3 : Vec F S128x4096 .bf16) (x4 : Vec F S128x128 .f32)
  (x5 x6 : Vec F S1x8x1x1x128 .f32) (x7 : Vec F S1x4096 .f32)
  (xs0 : Vec F S8x256x512 .f32) (xs1 : Vec F S8x1x256 .f32) (xs2 : Vec F S8x1x1 .f32)

/-- Head `h`'s output rows. -/
def outAt (h : ℕ) (hh : h < 8) : FVec F S128x512 .bf16 :=
  out (qkOf x0 h hh) (qkOf x1 h hh) (vOf x2 h hh) (vOf x3 h hh) (gateOf x4 (8 + h) (by omega)) (rowOf x5 h hh) (rowOf x6 h hh)
    (cOf xs0 h hh) (nOf xs1 h hh) (mOf xs2 h hh) (ngOf x7 h hh)

/-- Head `h`'s matrix memory carried on. -/
def cAt (h : ℕ) (hh : h < 8) : FVec F S256x512 .f32 :=
  cNew (qkOf x1 h hh) (vOf x2 h hh) (gateOf x4 h (by omega)) (rowOf x6 h hh) (cOf xs0 h hh) (mOf xs2 h hh)

/-- Head `h`'s normaliser carried on. -/
def nAt (h : ℕ) (hh : h < 8) : FVec F S1x256 .f32 :=
  nNew (qkOf x1 h hh) (gateOf x4 h (by omega)) (rowOf x6 h hh) (nOf xs1 h hh) (mOf xs2 h hh)

/-- Head `h`'s running maximum carried on. -/
def mAt (h : ℕ) (hh : h < 8) : FVec F S1x1 .f32 :=
  mNew (gateOf x4 h (by omega)) (rowOf x6 h hh) (mOf xs2 h hh)

theorem head_lt (y : S128x4096.Idx) : (y 1).val / 512 < 8 :=
  Nat.div_lt_of_lt_mul (show (y 1).val < 512 * 8 from (y 1).isLt)

/-- The output block: the heads side by side. -/
def blockOut : Vec F S128x4096 .bf16 := fun y =>
  outAt x0 x1 x2 x3 x4 x5 x6 x7 xs0 xs1 xs2 ((y 1).val / 512) (head_lt y)
    (ix2 (y 0 : Fin 128) (⟨(y 1 : Fin 4096).val % 512, Nat.mod_lt _ (by decide)⟩ : Fin 512))

/-- The matrix memories carried on. -/
def blockC : Vec F S8x256x512 .f32 := fun y =>
  (shapeCast S1x256x512 (cAt x1 x2 x4 x6 xs0 xs2 (y 0 : Fin 8).val (y 0 : Fin 8).isLt) shapeCasts_S256x512_S1x256x512)
    (ix3 (0 : Fin 1) (y 1 : Fin 256) (y 2 : Fin 512))

/-- The normalisers carried on. -/
def blockN : Vec F S8x1x256 .f32 := fun y =>
  (shapeCast S1x1x256 (nAt x1 x4 x6 xs1 xs2 (y 0 : Fin 8).val (y 0 : Fin 8).isLt) shapeCasts_S1x256_S1x1x256)
    (ix3 (0 : Fin 1) (y 1 : Fin 1) (y 2 : Fin 256))

/-- The running maxima carried on. -/
def blockM : Vec F S8x1x1 .f32 := fun y =>
  (shapeCast S1x1x1 (mAt x4 x6 xs2 (y 0 : Fin 8).val (y 0 : Fin 8).isLt) shapeCasts_S1x1_S1x1x1)
    (ix3 (0 : Fin 1) (y 1 : Fin 1) (y 2 : Fin 1))

variable {x0 x1 x2 x3 x4 x5 x6 x7 xs0 xs1 xs2}

theorem out_at {y : S128x4096.Idx} {x : S128x512.Idx} {h : ℕ} (hh : h < 8) (e0 : (y 0).val = (x 0).val)
    (e1 : (y 1).val = 512 * h + (x 1).val) (w : FVec F S128x512 .bf16)
    (hw : w = outAt x0 x1 x2 x3 x4 x5 x6 x7 xs0 xs1 xs2 h hh) :
    w x = blockOut x0 x1 x2 x3 x4 x5 x6 x7 xs0 xs1 xs2 y := by
  subst hw
  have hx : (x 1).val < 512 := (x 1).isLt
  have hd : (y 1).val / 512 = h := by omega
  have hm : (y 1).val % 512 = (x 1).val := by omega
  unfold blockOut
  have hi : x = ix2 (y 0 : Fin 128) (⟨(y 1 : Fin 4096).val % 512, Nat.mod_lt _ (by decide)⟩ : Fin 512) := by
    funext a
    match a with
    | ⟨0, _⟩ => exact Fin.ext e0.symm
    | ⟨1, _⟩ => exact Fin.ext hm.symm
  subst hd
  exact congrArg _ hi

theorem c_at {y : S8x256x512.Idx} {x : S1x256x512.Idx} {h : ℕ} (hh : h < 8) (e0 : (y 0).val = h + (x 0).val)
    (e1 : (y 1).val = (x 1).val) (e2 : (y 2).val = (x 2).val) (w : FVec F S1x256x512 .f32)
    (hw : w = shapeCast S1x256x512 (cAt x1 x2 x4 x6 xs0 xs2 h hh) shapeCasts_S256x512_S1x256x512) :
    w x = blockC x1 x2 x4 x6 xs0 xs2 y := by
  subst hw
  have hx : (x 0).val < 1 := (x 0).isLt
  have hd : (y 0).val = h := by omega
  unfold blockC
  have hi : x = ix3 (0 : Fin 1) (y 1 : Fin 256) (y 2 : Fin 512) := by
    funext a
    match a with
    | ⟨0, _⟩ => exact Fin.ext (by show (x 0).val = 0; omega)
    | ⟨1, _⟩ => exact Fin.ext e1.symm
    | ⟨2, _⟩ => exact Fin.ext e2.symm
  subst hd
  exact congrArg _ hi

theorem n_at {y : S8x1x256.Idx} {x : S1x1x256.Idx} {h : ℕ} (hh : h < 8) (e0 : (y 0).val = h + (x 0).val)
    (e1 : (y 1).val = (x 1).val) (e2 : (y 2).val = (x 2).val) (w : FVec F S1x1x256 .f32)
    (hw : w = shapeCast S1x1x256 (nAt x1 x4 x6 xs1 xs2 h hh) shapeCasts_S1x256_S1x1x256) :
    w x = blockN x1 x4 x6 xs1 xs2 y := by
  subst hw
  have hx : (x 0).val < 1 := (x 0).isLt
  have hd : (y 0).val = h := by omega
  unfold blockN
  have hi : x = ix3 (0 : Fin 1) (y 1 : Fin 1) (y 2 : Fin 256) := by
    funext a
    match a with
    | ⟨0, _⟩ => exact Fin.ext (by show (x 0).val = 0; omega)
    | ⟨1, _⟩ => exact Fin.ext e1.symm
    | ⟨2, _⟩ => exact Fin.ext e2.symm
  subst hd
  exact congrArg _ hi

theorem m_at {y : S8x1x1.Idx} {x : S1x1x1.Idx} {h : ℕ} (hh : h < 8) (e0 : (y 0).val = h + (x 0).val)
    (e1 : (y 1).val = (x 1).val) (e2 : (y 2).val = (x 2).val) (w : FVec F S1x1x1 .f32)
    (hw : w = shapeCast S1x1x1 (mAt x4 x6 xs2 h hh) shapeCasts_S1x1_S1x1x1) :
    w x = blockM x4 x6 xs2 y := by
  subst hw
  have hx : (x 0).val < 1 := (x 0).isLt
  have hd : (y 0).val = h := by omega
  unfold blockM
  have hi : x = ix3 (0 : Fin 1) (y 1 : Fin 1) (y 2 : Fin 1) := by
    funext a
    match a with
    | ⟨0, _⟩ => exact Fin.ext (by show (x 0).val = 0; omega)
    | ⟨1, _⟩ => exact Fin.ext e1.symm
    | ⟨2, _⟩ => exact Fin.ext e2.symm
  subst hd
  exact congrArg _ hi

theorem c_piece {h : ℕ} (hh : h < 8) (w : FVec F S1x256x512 .f32)
    (hw : w = shapeCast S1x256x512 (cAt x1 x2 x4 x6 xs0 xs2 h hh) shapeCasts_S256x512_S1x256x512) (x : S1x256x512.Idx) :
    w x = blockC x1 x2 x4 x6 xs0 xs2 ((Rect.unit (s := S8x256x512) ![h, 0, 0] S1x256x512.size
      (by intro a; fin_cases a <;> simp <;> omega)).emb x) :=
  c_at hh (Rect.idx_unit_val (s := S8x256x512) ![h, 0, 0] S1x256x512.size _ x 0)
    ((Rect.idx_unit_val (s := S8x256x512) ![h, 0, 0] S1x256x512.size _ x 1).trans (Nat.zero_add _))
    ((Rect.idx_unit_val (s := S8x256x512) ![h, 0, 0] S1x256x512.size _ x 2).trans (Nat.zero_add _)) w hw

theorem n_piece {h : ℕ} (hh : h < 8) (w : FVec F S1x1x256 .f32)
    (hw : w = shapeCast S1x1x256 (nAt x1 x4 x6 xs1 xs2 h hh) shapeCasts_S1x256_S1x1x256) (x : S1x1x256.Idx) :
    w x = blockN x1 x4 x6 xs1 xs2 ((Rect.unit (s := S8x1x256) ![h, 0, 0] S1x1x256.size
      (by intro a; fin_cases a <;> simp <;> omega)).emb x) :=
  n_at hh (Rect.idx_unit_val (s := S8x1x256) ![h, 0, 0] S1x1x256.size _ x 0)
    ((Rect.idx_unit_val (s := S8x1x256) ![h, 0, 0] S1x1x256.size _ x 1).trans (Nat.zero_add _))
    ((Rect.idx_unit_val (s := S8x1x256) ![h, 0, 0] S1x1x256.size _ x 2).trans (Nat.zero_add _)) w hw

theorem m_piece {h : ℕ} (hh : h < 8) (w : FVec F S1x1x1 .f32)
    (hw : w = shapeCast S1x1x1 (mAt x4 x6 xs2 h hh) shapeCasts_S1x1_S1x1x1) (x : S1x1x1.Idx) :
    w x = blockM x4 x6 xs2 ((Rect.unit (s := S8x1x1) ![h, 0, 0] S1x1x1.size
      (by intro a; fin_cases a <;> simp <;> omega)).emb x) :=
  m_at hh (Rect.idx_unit_val (s := S8x1x1) ![h, 0, 0] S1x1x1.size _ x 0)
    ((Rect.idx_unit_val (s := S8x1x1) ![h, 0, 0] S1x1x1.size _ x 1).trans (Nat.zero_add _))
    ((Rect.idx_unit_val (s := S8x1x1) ![h, 0, 0] S1x1x1.size _ x 2).trans (Nat.zero_add _)) w hw

end Blocks

section Going

variable (c : Dev nD) (i : grid0.Coords) (arg3 : Memref sig .tc .vmem S128x2048 .bf16) (harg3 : arg3.IsWhole)
  (arg4 : Memref sig .tc .vmem S128x2048 .bf16) (harg4 : arg4.IsWhole) (arg5 : Memref sig .tc .vmem S128x4096 .bf16)
  (harg5 : arg5.IsWhole) (arg6 : Memref sig .tc .vmem S128x4096 .bf16) (harg6 : arg6.IsWhole)
  (arg7 : Memref sig .tc .vmem S128x128 .f32) (harg7 : arg7.IsWhole) (arg8 : Memref sig .tc .vmem S1x8x1x1x128 .f32)
  (harg8 : arg8.IsWhole) (arg9 : Memref sig .tc .vmem S1x8x1x1x128 .f32) (harg9 : arg9.IsWhole)
  (arg10 : Memref sig .tc .vmem S1x4096 .f32) (harg10 : arg10.IsWhole) (arg11 : Memref sig .tc .vmem S1x64x4096 .f32)
  (harg11 : arg11.IsWhole) (arg12 : Memref sig .tc .vmem S128x4096 .bf16) (harg12 : arg12.IsWhole)
  (arg13 : Memref sig .tc .vmem S64x4096 .bf16) (harg13 : arg13.IsWhole) (arg14 : Memref sig .tc .vmem S8x256x512 .f32)
  (harg14 : arg14.IsWhole) (arg15 : Memref sig .tc .vmem S8x1x256 .f32) (harg15 : arg15.IsWhole)
  (arg16 : Memref sig .tc .vmem S8x1x1 .f32) (harg16 : arg16.IsWhole)
  (x0 x1 : Vec F S128x2048 .bf16) (x2 x3 : Vec F S128x4096 .bf16) (x4 : Vec F S128x128 .f32)
  (x5 x6 : Vec F S1x8x1x1x128 .f32) (x7 : Vec F S1x4096 .f32) (x8 : Vec F S1x64x4096 .f32)
  (xs0 : Vec F S8x256x512 .f32) (xs1 : Vec F S8x1x256 .f32) (xs2 : Vec F S8x1x1 .f32)

/-- A point going on: the running maxima. -/
theorem sout0_B_2_eq (hc0 : ¬cond0_0 i) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2
      = blockM x4 x6 xs2 := by
  unfold sout0_B_2
  frame_open
  frame_out
  funext y
  canon_tiles x h
  case piece7 => exact m_at (h := 0) (by decide) (h0.trans (Nat.zero_add _).symm) h1 h2 _ rfl
  all_goals exact m_at (by decide) h0 h1 h2 _ rfl

/-- A point going on: the normalisers. -/
theorem sout0_B_1_eq (hc0 : ¬cond0_0 i) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2
      = blockN x1 x4 x6 xs1 xs2 := by
  unfold sout0_B_1
  frame_open
  frame_out
  funext y
  canon_tiles x h
  case piece7 => exact n_at (h := 0) (by decide) (h0.trans (Nat.zero_add _).symm) h1 h2 _ rfl
  all_goals exact n_at (by decide) h0 h1 h2 _ rfl

/-- A point going on: the matrix memories. -/
theorem sout0_B_0_eq (hc0 : ¬cond0_0 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2
      = blockC x1 x2 x4 x6 xs0 xs2 := by
  unfold sout0_B_0
  frame_open
  frame_out
  funext y
  canon_tiles x h
  case piece7 => exact c_at (h := 0) (by decide) (h0.trans (Nat.zero_add _).symm) h1 h2 _ rfl
  all_goals exact c_at (by decide) h0 h1 h2 _ rfl

/-- A point going on: the output rows. -/
theorem out0_B_9_eq (hc0 : ¬cond0_0 i) :
    out0_B_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2
      = blockOut x0 x1 x2 x3 x4 x5 x6 x7 xs0 xs1 xs2 := by
  unfold out0_B_9
  frame_open
  frame_out
  funext y
  canon_tiles x h
  case piece0 => exact out_at (h := 7) (by decide) h0 h1 _ rfl
  case piece1 => exact out_at (h := 6) (by decide) h0 h1 _ rfl
  case piece2 => exact out_at (h := 5) (by decide) h0 h1 _ rfl
  case piece3 => exact out_at (h := 4) (by decide) h0 h1 _ rfl
  case piece4 => exact out_at (h := 3) (by decide) h0 h1 _ rfl
  case piece5 => exact out_at (h := 2) (by decide) h0 h1 _ rfl
  case piece6 => exact out_at (h := 1) (by decide) h0 h1 _ rfl
  case piece7 => exact out_at (h := 0) (by decide) h0 (h1.trans (Nat.zero_add _).symm) _ rfl

/-- A point going on: the side cast's block. -/
theorem out0_B_10_eq (hc0 : ¬cond0_0 i) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 xs1 xs2 = k0_pay4 x8 := by
  unfold out0_B_10
  frame_open
  frame_out

end Going

section Starting

variable (c : Dev nD) (i : grid0.Coords) (arg3 : Memref sig .tc .vmem S128x2048 .bf16) (harg3 : arg3.IsWhole)
  (arg4 : Memref sig .tc .vmem S128x2048 .bf16) (harg4 : arg4.IsWhole) (arg5 : Memref sig .tc .vmem S128x4096 .bf16)
  (harg5 : arg5.IsWhole) (arg6 : Memref sig .tc .vmem S128x4096 .bf16) (harg6 : arg6.IsWhole)
  (arg7 : Memref sig .tc .vmem S128x128 .f32) (harg7 : arg7.IsWhole) (arg8 : Memref sig .tc .vmem S1x8x1x1x128 .f32)
  (harg8 : arg8.IsWhole) (arg9 : Memref sig .tc .vmem S1x8x1x1x128 .f32) (harg9 : arg9.IsWhole)
  (arg10 : Memref sig .tc .vmem S1x4096 .f32) (harg10 : arg10.IsWhole) (arg11 : Memref sig .tc .vmem S1x64x4096 .f32)
  (harg11 : arg11.IsWhole) (arg12 : Memref sig .tc .vmem S128x4096 .bf16) (harg12 : arg12.IsWhole)
  (arg13 : Memref sig .tc .vmem S64x4096 .bf16) (harg13 : arg13.IsWhole) (arg14 : Memref sig .tc .vmem S8x256x512 .f32)
  (harg14 : arg14.IsWhole) (arg15 : Memref sig .tc .vmem S8x1x256 .f32) (harg15 : arg15.IsWhole)
  (arg16 : Memref sig .tc .vmem S8x1x1 .f32) (harg16 : arg16.IsWhole)
  (x0 x1 : Vec F S128x2048 .bf16) (x2 x3 : Vec F S128x4096 .bf16) (x4 : Vec F S128x128 .f32)
  (x5 x6 : Vec F S1x8x1x1x128 .f32) (x7 : Vec F S1x4096 .f32) (x8 : Vec F S1x64x4096 .f32)

/-- A point starting a batch: the running maxima. -/
theorem sout0_A_2_eq (hc0 : cond0_0 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = blockM x4 x6 k0_pay7 := by
  unfold sout0_A_2
  frame_open
  simp (disch := decide) only [View.readCov_fill]
  frame_out
  funext y
  refine View.canon_append_of_piecesOf (blockM x4 x6 k0_pay7) _ [_, _, _, _, _, _, _, _] ?_ y ?_
  · exact ⟨m_piece (h := 7) (by decide) _ rfl, m_piece (h := 6) (by decide) _ rfl, m_piece (h := 5) (by decide) _ rfl,
    m_piece (h := 4) (by decide) _ rfl, m_piece (h := 3) (by decide) _ rfl, m_piece (h := 2) (by decide) _ rfl,
    m_piece (h := 1) (by decide) _ rfl, m_piece (h := 0) (by decide) _ rfl, trivial⟩
  · exact View.cover_of_tiled_head _ _ _ (by rfl) y

/-- A point starting a batch: the normalisers. -/
theorem sout0_A_1_eq (hc0 : cond0_0 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = blockN x1 x4 x6 k0_pay6 k0_pay7 := by
  unfold sout0_A_1
  frame_open
  simp (disch := decide) only [View.readCov_fill]
  frame_out
  funext y
  refine View.canon_append_of_piecesOf (blockN x1 x4 x6 k0_pay6 k0_pay7) _ [_, _, _, _, _, _, _, _] ?_ y ?_
  · exact ⟨n_piece (h := 7) (by decide) _ rfl, n_piece (h := 6) (by decide) _ rfl, n_piece (h := 5) (by decide) _ rfl,
    n_piece (h := 4) (by decide) _ rfl, n_piece (h := 3) (by decide) _ rfl, n_piece (h := 2) (by decide) _ rfl,
    n_piece (h := 1) (by decide) _ rfl, n_piece (h := 0) (by decide) _ rfl, trivial⟩
  · exact View.cover_of_tiled_head _ _ _ (by rfl) y

/-- A point starting a batch: the matrix memories. -/
theorem sout0_A_0_eq (hc0 : cond0_0 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = blockC x1 x2 x4 x6 k0_pay5 k0_pay7 := by
  unfold sout0_A_0
  frame_open
  simp (disch := decide) only [View.readCov_fill]
  frame_out
  funext y
  refine View.canon_append_of_piecesOf (blockC x1 x2 x4 x6 k0_pay5 k0_pay7) _ [_, _, _, _, _, _, _, _] ?_ y ?_
  · exact ⟨c_piece (h := 7) (by decide) _ rfl, c_piece (h := 6) (by decide) _ rfl, c_piece (h := 5) (by decide) _ rfl,
    c_piece (h := 4) (by decide) _ rfl, c_piece (h := 3) (by decide) _ rfl, c_piece (h := 2) (by decide) _ rfl,
    c_piece (h := 1) (by decide) _ rfl, c_piece (h := 0) (by decide) _ rfl, trivial⟩
  · exact View.cover_of_tiled_head _ _ _ (by rfl) y

/-- A point starting a batch: the output rows. -/
theorem out0_A_9_eq (hc0 : cond0_0 i) :
    out0_A_9 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8
      = blockOut x0 x1 x2 x3 x4 x5 x6 x7 k0_pay5 k0_pay6 k0_pay7 := by
  unfold out0_A_9
  frame_open
  simp (disch := decide) only [View.readCov_fill]
  frame_out
  funext y
  canon_tiles x h
  case piece0 => exact out_at (h := 7) (by decide) h0 h1 _ rfl
  case piece1 => exact out_at (h := 6) (by decide) h0 h1 _ rfl
  case piece2 => exact out_at (h := 5) (by decide) h0 h1 _ rfl
  case piece3 => exact out_at (h := 4) (by decide) h0 h1 _ rfl
  case piece4 => exact out_at (h := 3) (by decide) h0 h1 _ rfl
  case piece5 => exact out_at (h := 2) (by decide) h0 h1 _ rfl
  case piece6 => exact out_at (h := 1) (by decide) h0 h1 _ rfl
  case piece7 => exact out_at (h := 0) (by decide) h0 (h1.trans (Nat.zero_add _).symm) _ rfl

/-- A point starting a batch: the side cast's block. -/
theorem out0_A_10_eq (hc0 : cond0_0 i) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay4 x8 := by
  unfold out0_A_10
  frame_open
  frame_out

end Starting

end Cert.Proof.Block

end
-- ==== Proof.PointAt.lean ====
/- One grid point of the kernel, read position by position: from blocks that hold a chunk and scratch that holds the heads'
   memories, the output block holds the heads' rows and the scratch the memories carried on. -/
module

public import proofs.«01_k».proof.Proof.HeadAt
public import proofs.«01_k».proof.Proof.Block

@[expose] public section

set_option maxRecDepth 16384

noncomputable section

namespace Cert.Proof.PointAt

open Idealize.ShloMosaic Idealize.ShloMosaic.TcCoe
open Cert.KernelIdeal Cert.KernelIdeal.Gen Cert.Proof.Head Cert.Proof.Spec Cert.Proof.Block

/-! ## The slices -/

theorem qkOf_at (x : Vec Ideal S128x2048 .bf16) (h : Fin 8) (r : Fin 128) (d : Fin 256) :
    qkOf x h.val h.isLt (ix2 r d) = x (ix2 r ⟨256 * h.val + d.val, by omega⟩) := by
  pointwise [qkOf]
theorem vOf_at (x : Vec Ideal S128x4096 .bf16) (h : Fin 8) (r : Fin 128) (e : Fin 512) :
    vOf x h.val h.isLt (ix2 r e) = x (ix2 r ⟨512 * h.val + e.val, by omega⟩) := by
  pointwise [vOf]
theorem ngOf_at (x : Vec Ideal S1x4096 .f32) (h : Fin 8) (e : Fin 512) :
    ngOf x h.val h.isLt (ix2 0 e) = x (ix2 0 ⟨512 * h.val + e.val, by omega⟩) := by
  pointwise [ngOf]
theorem gateOf_at (x : Vec Ideal S128x128 .f32) (h r : Fin 128) :
    gateOf x h.val h.isLt (ix2 r 0) = x (ix2 r h) := by
  unfold gateOf View.ld
  refine congrArg x (funext fun a => Fin.ext ?_)
  fin_cases a
  · show 0 + 1 * r.val = r.val; omega
  · show h.val + 1 * 0 = h.val; omega
theorem rowOf_at (x : Vec Ideal S1x8x1x1x128 .f32) (h : Fin 8) (r : Fin 128) :
    rowOf x h.val h.isLt (ix2 0 r) = x (ix5 0 h 0 0 r) := by
  have e : ∀ y : FVec Ideal S1x1x1x1x128 .f32,
      shapeCast S1x128 y shapeCasts_S1x1x1x1x128_S1x128 (ix2 0 r) = y (ix5 0 0 0 0 r) := by
    intro y
    pointwise
  refine (e _).trans ?_
  unfold View.ld
  refine congrArg x (funext fun a => Fin.ext ?_)
  fin_cases a
  · rfl
  · show h.val + 1 * 0 = h.val; omega
  · rfl
  · rfl
  · show 0 + 1 * r.val = r.val; omega
theorem cOf_at (x : Vec Ideal S8x256x512 .f32) (h : Fin 8) (d : Fin 256) (e : Fin 512) :
    cOf x h.val h.isLt (ix2 d e) = x (ix3 h d e) := by
  have e' : ∀ y : FVec Ideal S1x256x512 .f32, shapeCast S256x512 y shapeCasts_S1x256x512_S256x512 (ix2 d e) = y (ix3 0 d e) := by
    intro y
    pointwise
  refine (e' _).trans ?_
  unfold View.ld
  refine congrArg x (funext fun a => Fin.ext ?_)
  fin_cases a
  · show h.val + 1 * 0 = h.val; omega
  · show 0 + 1 * d.val = d.val; omega
  · show 0 + 1 * e.val = e.val; omega
theorem nOf_at (x : Vec Ideal S8x1x256 .f32) (h : Fin 8) (d : Fin 256) :
    nOf x h.val h.isLt (ix2 0 d) = x (ix3 h 0 d) := by
  have e : ∀ y : FVec Ideal S1x1x256 .f32, shapeCast S1x256 y shapeCasts_S1x1x256_S1x256 (ix2 0 d) = y (ix3 0 0 d) := by
    intro y
    pointwise
  refine (e _).trans ?_
  unfold View.ld
  refine congrArg x (funext fun a => Fin.ext ?_)
  fin_cases a
  · show h.val + 1 * 0 = h.val; omega
  · rfl
  · show 0 + 1 * d.val = d.val; omega
theorem mOf_at (x : Vec Ideal S8x1x1 .f32) (h : Fin 8) :
    mOf x h.val h.isLt (ix2 0 0) = x (ix3 h 0 0) := by
  have e : ∀ y : FVec Ideal S1x1x1 .f32, shapeCast S1x1 y shapeCasts_S1x1x1_S1x1 (ix2 0 0) = y (ix3 0 0 0) := by
    intro y
    pointwise
  refine (e _).trans ?_
  unfold View.ld
  refine congrArg x (funext fun a => Fin.ext ?_)
  fin_cases a
  · show h.val + 1 * 0 = h.val; omega
  · rfl
  · rfl

/-! ## The blocks -/

/-- The blocks of one grid point hold a chunk of each head (`x h`), its output gates, the gains. -/
structure Reads (x0 x1 : Vec Ideal S128x2048 .bf16) (x2 : Vec Ideal S128x4096 .bf16) (x4 : Vec Ideal S128x128 .f32)
    (x5 x6 : Vec Ideal S1x8x1x1x128 .f32) (x : Fin 8 → Chunk) : Prop where
  hq : ∀ h r d, x0 (ix2 r ⟨256 * h.val + d.val, by omega⟩) = (x h).q r d
  hk : ∀ h r d, x1 (ix2 r ⟨256 * h.val + d.val, by omega⟩) * scale = (x h).k r d
  hv : ∀ h r e, x2 (ix2 r ⟨512 * h.val + e.val, by omega⟩) = (x h).v r e
  hic : ∀ h r, x4 (ix2 r ⟨h.val, by omega⟩) = (x h).i r
  hfc : ∀ h r, x4 (ix2 r ⟨8 + h.val, by omega⟩) = (x h).f r
  hir : ∀ h r, x5 (ix5 0 h 0 0 r) = (x h).i r
  hfr : ∀ h r, x6 (ix5 0 h 0 0 r) = (x h).f r

/-- The scratch holds each head's memory. -/
structure Holds (xs0 : Vec Ideal S8x256x512 .f32) (xs1 : Vec Ideal S8x1x256 .f32) (xs2 : Vec Ideal S8x1x1 .f32)
    (s : Fin 8 → Mem) : Prop where
  hc : ∀ h d e, xs0 (ix3 h d e) = (s h).c d e
  hn : ∀ h d, xs1 (ix3 h 0 d) = (s h).n d
  hm : ∀ h, xs2 (ix3 h 0 0) = (s h).m

variable {x0 x1 : Vec Ideal S128x2048 .bf16} {x2 : Vec Ideal S128x4096 .bf16} {x4 : Vec Ideal S128x128 .f32}
    {x5 x6 : Vec Ideal S1x8x1x1x128 .f32} {x : Fin 8 → Chunk} (H : Reads x0 x1 x2 x4 x5 x6 x)
    {xs0 : Vec Ideal S8x256x512 .f32} {xs1 : Vec Ideal S8x1x256 .f32} {xs2 : Vec Ideal S8x1x1 .f32}
    {s : Fin 8 → Mem} (M : Holds xs0 xs1 xs2 s) (h : Fin 8)

include H in
theorem head_reads : HeadAt.Reads (qkOf x0 h.val h.isLt) (qkOf x1 h.val h.isLt) (vOf x2 h.val h.isLt)
    (gateOf x4 h.val (by omega)) (gateOf x4 (8 + h.val) (by omega)) (rowOf x5 h.val h.isLt) (rowOf x6 h.val h.isLt) (x h) where
  hq r d := (qkOf_at x0 h r d).trans (H.hq h r d)
  hk r d := (congrArg (· * scale) (qkOf_at x1 h r d)).trans (H.hk h r d)
  hv r e := (vOf_at x2 h r e).trans (H.hv h r e)
  hic r := (gateOf_at x4 ⟨h.val, by omega⟩ r).trans (H.hic h r)
  hfc r := (gateOf_at x4 ⟨8 + h.val, by omega⟩ r).trans (H.hfc h r)
  hir r := (rowOf_at x5 h r).trans (H.hir h r)
  hfr r := (rowOf_at x6 h r).trans (H.hfr h r)

include M in
theorem head_holds : HeadAt.Holds (cOf xs0 h.val h.isLt) (nOf xs1 h.val h.isLt) (mOf xs2 h.val h.isLt) (s h) where
  hc d e := (cOf_at xs0 h d e).trans (M.hc h d e)
  hn d := (nOf_at xs1 h d).trans (M.hn h d)
  hm := (mOf_at xs2 h).trans (M.hm h)

/-- A head's number and place, of a column. -/
theorem blockOut_at' (x3 : Vec Ideal S128x4096 .bf16) (x7 : Vec Ideal S1x4096 .f32) (r : Fin 128) (e : Fin 512) :
    blockOut x0 x1 x2 x3 x4 x5 x6 x7 xs0 xs1 xs2 (ix2 r ⟨512 * h.val + e.val, by omega⟩)
      = outAt x0 x1 x2 x3 x4 x5 x6 x7 xs0 xs1 xs2 h.val h.isLt (ix2 r e) := by
  have key : ∀ (a b : ℕ) (ha : a < 8) (hb : b < 512), a = h.val → b = e.val →
      outAt x0 x1 x2 x3 x4 x5 x6 x7 xs0 xs1 xs2 a ha (ix2 r ⟨b, hb⟩)
        = outAt x0 x1 x2 x3 x4 x5 x6 x7 xs0 xs1 xs2 h.val h.isLt (ix2 r e) := by
    intro a b ha hb ea eb
    subst ea
    rw [show (⟨b, hb⟩ : Fin 512) = e from Fin.ext eb]
  exact key _ _ _ _ (show (512 * h.val + e.val) / 512 = h.val by omega) (show (512 * h.val + e.val) % 512 = e.val by omega)

include H M

/-- The output block. -/
theorem out_at (x3 : Vec Ideal S128x4096 .bf16) (x7 : Vec Ideal S1x4096 .f32) (r : Fin 128) (e : Fin 512) :
    blockOut x0 x1 x2 x3 x4 x5 x6 x7 xs0 xs1 xs2 (ix2 r ⟨512 * h.val + e.val, by omega⟩)
      = normed ((x h).hid (s h) r) (x7 (ix2 0 ⟨512 * h.val + e.val, by omega⟩)) (x3 (ix2 r ⟨512 * h.val + e.val, by omega⟩)) e := by
  rw [blockOut_at', ← ngOf_at x7, ← vOf_at x3]
  exact HeadAt.out_at (head_reads H h) (head_holds M h) _ _ r e

omit h in
/-- The scratch carried on. -/
theorem scratch_at : Holds (blockC x1 x2 x4 x6 xs0 xs2) (blockN x1 x4 x6 xs1 xs2) (blockM x4 x6 xs2)
    (fun h => (x h).next (s h)) where
  hc h d e := by
    refine Eq.trans ?_ (HeadAt.cNew_at (head_reads H h) (head_holds M h) d e)
    show shapeCast S1x256x512 (cAt x1 x2 x4 x6 xs0 xs2 h.val h.isLt) _ (ix3 0 d e) = _
    pointwise [cAt]
  hn h d := by
    refine Eq.trans ?_ (HeadAt.nNew_at (head_reads H h) (head_holds M h) d)
    show shapeCast S1x1x256 (nAt x1 x4 x6 xs1 xs2 h.val h.isLt) _ (ix3 0 0 d) = _
    pointwise [nAt]
  hm h := by
    refine Eq.trans ?_ (HeadAt.mNew_at (head_reads H h) (head_holds M h))
    show shapeCast S1x1x1 (mAt x4 x6 xs2 h.val h.isLt) _ (ix3 0 0 0) = _
    pointwise [mAt]

end Cert.Proof.PointAt
end
-- ==== Proof.Windows.lean ====
/- The blocks a grid point reads, as places of the kernel's arguments: point `t` is chunk `t % 32` of batch `t / 32`, and its
   token rows are rows `128 t …` of the projections and of the gates. -/
module

public import proofs.«01_k».proof.Proof.Block
public import proofs.«01_k».proof.Proof.Spec
public import proofs.«01_k».proof.Proof.Gen.KernelIdeal.Value
public import Idealize.ShloMosaic.Lib.Pointwise

@[expose] public section

set_option maxRecDepth 16384

noncomputable section

namespace Cert.Proof.Windows

open Idealize.ShloMosaic Idealize.ShloMosaic.TcCoe Idealize.ShloMosaic.Tactic
open Cert.KernelIdeal Cert.KernelIdeal.Gen

/-- Where each window's block lies, point by point. -/
theorem idx : ∀ t : Fin cfg0.N, win0_0.index t = ![t.val, 0] ∧ win0_1.index t = ![t.val, 1] ∧ win0_2.index t = ![t.val, 1]
    ∧ win0_3.index t = ![t.val, 2] ∧ win0_4.index t = ![t.val, 0]
    ∧ win0_5.index t = ![t.val / 32, 0, t.val % 32, 0, 0] ∧ win0_6.index t = ![t.val / 32, 0, t.val % 32, 0, 0]
    ∧ win0_7.index t = ![0, 0] ∧ win0_8.index t = ![0, t.val, 0] :=
  (by decide +kernel : ∀ t : Fin grid0.N, win0_0.index t = ![t.val, 0] ∧ win0_1.index t = ![t.val, 1] ∧ win0_2.index t = ![t.val, 1]
    ∧ win0_3.index t = ![t.val, 2] ∧ win0_4.index t = ![t.val, 0]
    ∧ win0_5.index t = ![t.val / 32, 0, t.val % 32, 0, 0] ∧ win0_6.index t = ![t.val / 32, 0, t.val % 32, 0, 0]
    ∧ win0_7.index t = ![0, 0] ∧ win0_8.index t = ![0, t.val, 0])

variable (m : (ℓ : Loc nD τ sig) → Buf (Elt Ideal) ℓ) (c : Dev nD) (t : Fin cfg0.N)

/-- Row `r` of point `t`'s tokens. -/
def tok (r : Fin 128) : Fin 8192 := ⟨128 * t.val + r.val, by have := lt_of_lt_of_eq t.isLt (show cfg0.N = 64 from N_0); omega⟩

theorem blk0 (r : Fin 128) (d : Fin 2048) :
    iblk m c 0 t (ix2 r d) = m ((c : Thread nD τ).loc main_arg0) (ix2 (tok t r) ⟨d.val, by omega⟩) := by
  obtain ⟨e0, e1, e2, e3, e4, e5, e6, e7, e8⟩ := idx t
  blk_ext [iblk, V, e0, tok]

theorem blk1 (r : Fin 128) (d : Fin 2048) :
    iblk m c 1 t (ix2 r d) = m ((c : Thread nD τ).loc main_arg0) (ix2 (tok t r) ⟨2048 + d.val, by omega⟩) := by
  obtain ⟨e0, e1, e2, e3, e4, e5, e6, e7, e8⟩ := idx t
  blk_ext [iblk, V, e1, tok]

theorem blk2 (r : Fin 128) (d : Fin 4096) :
    iblk m c 2 t (ix2 r d) = m ((c : Thread nD τ).loc main_arg0) (ix2 (tok t r) ⟨4096 + d.val, by omega⟩) := by
  obtain ⟨e0, e1, e2, e3, e4, e5, e6, e7, e8⟩ := idx t
  blk_ext [iblk, V, e2, tok]

theorem blk3 (r : Fin 128) (d : Fin 4096) :
    iblk m c 3 t (ix2 r d) = m ((c : Thread nD τ).loc main_arg0) (ix2 (tok t r) ⟨8192 + d.val, by omega⟩) := by
  obtain ⟨e0, e1, e2, e3, e4, e5, e6, e7, e8⟩ := idx t
  blk_ext [iblk, V, e3, tok]

theorem blk4 (r d : Fin 128) :
    iblk m c 4 t (ix2 r d) = m ((c : Thread nD τ).loc main_arg1) (ix2 (tok t r) d) := by
  obtain ⟨e0, e1, e2, e3, e4, e5, e6, e7, e8⟩ := idx t
  blk_ext [iblk, V, e4, tok]

theorem blk5 (h : Fin 8) (r : Fin 128) :
    iblk m c 5 t (ix5 0 h 0 0 r) = m ((c : Thread nD τ).loc main_arg1) (ix2 (tok t r) ⟨h.val, by omega⟩) := by
  obtain ⟨e0, e1, e2, e3, e4, e5, e6, e7, e8⟩ := idx t
  have := lt_of_lt_of_eq t.isLt (show cfg0.N = 64 from N_0)
  blk_simp [iblk, e5]
  entry_read
  pointwise
  blk_ext [e5, tok]

theorem blk6 (h : Fin 8) (r : Fin 128) :
    iblk m c 6 t (ix5 0 h 0 0 r) = m ((c : Thread nD τ).loc main_arg1) (ix2 (tok t r) ⟨8 + h.val, by omega⟩) := by
  obtain ⟨e0, e1, e2, e3, e4, e5, e6, e7, e8⟩ := idx t
  have := lt_of_lt_of_eq t.isLt (show cfg0.N = 64 from N_0)
  blk_simp [iblk, e6]
  entry_read
  pointwise
  blk_ext [e6, tok]

theorem blk7 (d : Fin 4096) :
    iblk m c 7 t (ix2 0 d) = m ((c : Thread nD τ).loc main_arg2) (ix2 0 d) := by
  obtain ⟨e0, e1, e2, e3, e4, e5, e6, e7, e8⟩ := idx t
  blk_ext [iblk, V, e7, tok]

/-- Row `a` of point `t`'s rows of the side weight. -/
def side (a : Fin 64) : Fin 4096 := ⟨64 * t.val + a.val, by have := lt_of_lt_of_eq t.isLt (show cfg0.N = 64 from N_0); omega⟩

theorem blk8 (a : Fin 64) (d : Fin 4096) :
    iblk m c 8 t (ix3 0 a d) = m ((c : Thread nD τ).loc main_arg3) (ix3 0 (side t a) d) := by
  obtain ⟨e0, e1, e2, e3, e4, e5, e6, e7, e8⟩ := idx t
  blk_ext [iblk, V, e8, side]

end Cert.Proof.Windows
end
-- ==== Proof.Sweep.lean ====
/- The kernel's points in order: the scratch after point `t` holds the memories after chunk `t % 32` of batch `t / 32`, and the
   block it writes back holds that chunk's rows. A point that opens a batch begins from zero memories. -/
module

public import proofs.«01_k».proof.Proof.PointAt
public import proofs.«01_k».proof.Proof.Windows

@[expose] public section

set_option maxRecDepth 16384

noncomputable section

namespace Cert.Proof.Sweep

open Idealize.ShloMosaic Idealize.ShloMosaic.TcCoe
open Cert.KernelIdeal Cert.KernelIdeal.Gen Cert.Proof.Spec Cert.Proof.Block Cert.Proof.Windows

variable (m : (ℓ : Loc nD τ sig) → Buf (Elt Ideal) ℓ) (c : Dev nD) (t : Fin cfg0.N)

theorem t_lt : t.val < 64 := lt_of_lt_of_eq t.isLt (show cfg0.N = 64 from N_0)

/-- Point `t`'s batch. -/
def bat : Fin 2 := ⟨t.val / 32, by have := t_lt t; omega⟩

/-- Point `t`'s chunk. -/
def chk : Fin 32 := ⟨t.val % 32, Nat.mod_lt _ (by decide)⟩

theorem tok_eq (r : Fin 128) : tok t r = row (bat t) (chk t) r :=
  Fin.ext (show 128 * t.val + r.val = 4096 * (t.val / 32) + 128 * (t.val % 32) + r.val by omega)

/-- The projections and the gates in memory. -/
abbrev proj : Vec Ideal S8192x12288 .bf16 := m ((c : Thread nD τ).loc main_arg0)
abbrev gates : Vec Ideal S8192x128 .f32 := m ((c : Thread nD τ).loc main_arg1)

/-- The chunk of head `h` at point `t`. -/
abbrev ch (h : Fin 8) : Chunk := chunkOf (proj m c) (gates m c) (bat t) h (chk t)

/-- Two places of one array. -/
theorem at2 {a b : ℕ} (f : (⟨2, ![a, b]⟩ : Shape).Idx → EReal) {x x' : Fin a} {y y' : Fin b} (hx : x = x')
    (hy : y.val = y'.val) : f (ix2 x y) = f (ix2 x' y') := by
  rw [hx, Fin.ext hy]

theorem reads : PointAt.Reads (iblk m c 0 t) (iblk m c 1 t) (iblk m c 2 t) (iblk m c 4 t) (iblk m c 5 t) (iblk m c 6 t)
    (ch m c t) where
  hq h r d := (blk0 m c t r _).trans (at2 (proj m c) (tok_eq t r) rfl)
  hk h r d := congrArg (· * scale) ((blk1 m c t r _).trans (at2 (proj m c) (tok_eq t r) (Nat.add_assoc _ _ _).symm))
  hv h r e := (blk2 m c t r _).trans (at2 (proj m c) (tok_eq t r) (Nat.add_assoc _ _ _).symm)
  hic h r := (blk4 m c t r _).trans (at2 (gates m c) (tok_eq t r) rfl)
  hfc h r := (blk4 m c t r _).trans (at2 (gates m c) (tok_eq t r) rfl)
  hir h r := (blk5 m c t h r).trans (at2 (gates m c) (tok_eq t r) rfl)
  hfr h r := (blk6 m c t h r).trans (at2 (gates m c) (tok_eq t r) rfl)

/-- The memories before point `t`. -/
abbrev memB (h : Fin 8) : Mem := memory (proj m c) (gates m c) (bat t) h (t.val % 32)

/-- The memories after it. -/
abbrev memA (h : Fin 8) : Mem := memory (proj m c) (gates m c) (bat t) h (t.val % 32 + 1)

theorem mem_next : (fun h => (ch m c t h).next (memB m c t h)) = memA m c t :=
  funext fun h => (memory_succ (proj m c) (gates m c) (bat t) h (chk t)).symm

theorem zeros (h0 : t.val % 32 = 0) : PointAt.Holds (k0_pay5 (F := Ideal)) (k0_pay6 (F := Ideal)) (k0_pay7 (F := Ideal)) (memB m c t) := by
  have e : memB m c t = fun _ => ⟨fun _ _ => 0, fun _ => 0, 0⟩ := funext fun h => by
    show memory _ _ _ _ (t.val % 32) = _
    rw [h0]; rfl
  rw [e]
  refine ⟨fun h d e => ?_, fun h d => ?_, fun h => ?_⟩
  · pointwise [k0_pay5]
  · pointwise [k0_pay6]
  · pointwise [k0_pay7]

/-- What one point leaves the next within a batch. -/
theorem mem_prev (h0 : ¬t.val % 32 = 0) (hn : t.val - 1 < cfg0.N) : memA m c ⟨t.val - 1, hn⟩ = memB m c t := by
  have hb : bat ⟨t.val - 1, hn⟩ = bat t := Fin.ext (show (t.val - 1) / 32 = t.val / 32 by omega)
  have hk : (t.val - 1) % 32 + 1 = t.val % 32 := by omega
  funext h
  show memory _ _ (bat ⟨t.val - 1, hn⟩) h ((t.val - 1) % 32 + 1) = memory _ _ (bat t) h (t.val % 32)
  rw [hb, hk]

theorem lt_prev (t : Fin cfg0.N) : t.val - 1 < cfg0.N := Nat.lt_of_le_of_lt (Nat.sub_le _ _) t.isLt

/-- A point that goes on leaves the memories after its chunk. -/
theorem going (h0 : ¬t.val % 32 = 0)
    (M : PointAt.Holds (outsAt0 m c (t.val - 1) (lt_prev t)).2.2.1 (outsAt0 m c (t.val - 1) (lt_prev t)).2.2.2.1
      (outsAt0 m c (t.val - 1) (lt_prev t)).2.2.2.2 (memB m c t)) :
    PointAt.Holds (outsAt0 m c t.val t.isLt).2.2.1 (outsAt0 m c t.val t.isLt).2.2.2.1
      (outsAt0 m c t.val t.isLt).2.2.2.2 (memA m c t) := by
  rw [outsAt0_B m c t h0, ← mem_next]
  dsimp only
  rw [sout0_B_0_eq, sout0_B_1_eq, sout0_B_2_eq]
  exact PointAt.scratch_at (reads m c t) M

/-- A point that opens a batch leaves the memories after its chunk. -/
theorem opening (h0 : t.val % 32 = 0) :
    PointAt.Holds (outsAt0 m c t.val t.isLt).2.2.1 (outsAt0 m c t.val t.isLt).2.2.2.1
      (outsAt0 m c t.val t.isLt).2.2.2.2 (memA m c t) := by
  rw [outsAt0_A m c t h0, ← mem_next]
  dsimp only
  rw [sout0_A_0_eq, sout0_A_1_eq, sout0_A_2_eq]
  exact PointAt.scratch_at (reads m c t) (zeros m c t h0)

/-- The scratch after position `n` holds the memories after its chunk. -/
theorem carried : ∀ (n : ℕ) (hn : n < cfg0.N), PointAt.Holds (outsAt0 m c n hn).2.2.1 (outsAt0 m c n hn).2.2.2.1
    (outsAt0 m c n hn).2.2.2.2 (memA m c ⟨n, hn⟩) := by
  intro n
  induction n with
  | zero => exact fun hn => opening m c ⟨0, hn⟩ rfl
  | succ n ih =>
    intro hn
    by_cases h0 : (n + 1) % 32 = 0
    · exact opening m c ⟨n + 1, hn⟩ h0
    · refine going m c ⟨n + 1, hn⟩ h0 ?_
      rw [← mem_prev m c ⟨n + 1, hn⟩ h0 (lt_prev ⟨n + 1, hn⟩)]
      exact ih (lt_prev ⟨n + 1, hn⟩)

/-- The rows point `t` writes. -/
theorem rows (h : Fin 8) (r : Fin 128) (e : Fin 512) :
    (outsAt0 m c t.val t.isLt).1 (ix2 r ⟨512 * h.val + e.val, by omega⟩)
      = normed ((ch m c t h).hid (memB m c t h) r) (m ((c : Thread nD τ).loc main_arg2) (ix2 0 ⟨512 * h.val + e.val, by omega⟩))
          (proj m c (ix2 (row (bat t) (chk t) r) ⟨8192 + (512 * h.val + e.val), by omega⟩)) e := by
  have e7 := blk7 m c t ⟨512 * h.val + e.val, by omega⟩
  have e3 := (blk3 m c t r ⟨512 * h.val + e.val, by omega⟩).trans (at2 (proj m c) (tok_eq t r) rfl)
  rw [← e7, ← e3]
  by_cases h0 : t.val % 32 = 0
  · rw [outsAt0_A m c t h0]
    dsimp only
    rw [out0_A_9_eq]
    exact PointAt.out_at (reads m c t) (zeros m c t h0) h _ _ r e
  · have M := carried m c (t.val - 1) (lt_prev t)
    rw [mem_prev m c t h0 (lt_prev t)] at M
    rw [outsAt0_B m c t h0]
    dsimp only
    rw [out0_B_9_eq]
    exact PointAt.out_at (reads m c t) M h _ _ r e

/-- The rows of the side weight point `t` writes. -/
theorem sides (a : Fin 64) (d : Fin 4096) :
    (outsAt0 m c t.val t.isLt).2.1 (ix2 a d) = m ((c : Thread nD τ).loc main_arg3) (ix3 0 (side t a) d) := by
  rw [← blk8 m c t a d]
  by_cases h0 : t.val % 32 = 0
  · rw [outsAt0_A m c t h0]
    dsimp only
    rw [out0_A_10_eq]
    pointwise [k0_pay4]
  · rw [outsAt0_B m c t h0]
    dsimp only
    rw [out0_B_10_eq]
    pointwise [k0_pay4]

/-- The first result, position by position. -/
theorem first_at (h : Fin 8) (e : Fin 512) (B : Fin 2) (J : Fin 32) (r : Fin 128) :
    Value.G9 m c (ix2 (row B J r) ⟨512 * h.val + e.val, by omega⟩) = normed ((chunkOf (proj m c) (gates m c) B h J).hid (memory (proj m c) (gates m c) B h J.val) r)
      (m ((c : Thread nD τ).loc main_arg2) (ix2 0 ⟨512 * h.val + e.val, by omega⟩)) (proj m c (ix2 (row B J r) ⟨8192 + (512 * h.val + e.val), by omega⟩)) e := by
  have ht : 32 * B.val + J.val < cfg0.N := lt_of_lt_of_eq (show 32 * B.val + J.val < 64 by omega) (show 64 = cfg0.N from N_0.symm)
  have hv : (row B J r).val = 4096 * B.val + 128 * J.val + r.val := rfl
  have hpt : Value.pt9Of (ix2 (row B J r) (⟨512 * h.val + e.val, by omega⟩ : Fin 4096)) = 32 * B.val + J.val := by
    show 1 * ((row B J r).val / 128 - 0) + 1 * ((512 * h.val + e.val) / 4096 - 0) = _
    omega
  have hl : Value.loc9Of (ix2 (row B J r) (⟨512 * h.val + e.val, by omega⟩ : Fin 4096)) = ix2 r ⟨512 * h.val + e.val, by omega⟩ := funext fun a => Fin.ext (by
    match a with
    | ⟨0, _⟩ => show (row B J r).val % 128 = r.val; omega
    | ⟨1, _⟩ => show (512 * h.val + e.val) % 4096 = 512 * h.val + e.val; omega)
  have hs := rows m c ⟨32 * B.val + J.val, ht⟩ h r e
  have hb : bat ⟨32 * B.val + J.val, ht⟩ = B := Fin.ext (show (32 * B.val + J.val) / 32 = B.val by omega)
  have hc : chk ⟨32 * B.val + J.val, ht⟩ = J := Fin.ext (show (32 * B.val + J.val) % 32 = J.val by omega)
  have hm : (32 * B.val + J.val) % 32 = J.val := by omega
  unfold Value.G9
  rw [dif_pos (by rw [hpt]; exact ht), hl, Value.fold0_congr m c _ _ _ (by omega) hpt, ← Value.outsAt0_sweep m c _ ht]
  refine hs.trans ?_
  dsimp only [ch, memB]
  rw [hb, hc, hm]

/-- The second result, position by position. -/
theorem second_at (p q : Fin 4096) :
    Value.G10 m c (ix2 p q) = m ((c : Thread nD τ).loc main_arg3) (ix3 0 p q) := by
  have ht : p.val / 64 < cfg0.N := lt_of_lt_of_eq (show p.val / 64 < 64 by omega) (show 64 = cfg0.N from N_0.symm)
  have hpt : Value.pt10Of (ix2 p q) = p.val / 64 := by
    show 1 * (p.val / 64 - 0) + 1 * (q.val / 4096 - 0) = _
    omega
  have hl : Value.loc10Of (ix2 p q) = ix2 (⟨p.val % 64, by omega⟩ : Fin 64) q := funext fun a => Fin.ext (by
    match a with
    | ⟨0, _⟩ => rfl
    | ⟨1, _⟩ => show q.val % 4096 = q.val; omega)
  have hs := sides m c ⟨p.val / 64, ht⟩ ⟨p.val % 64, by omega⟩ q
  have hp : side ⟨p.val / 64, ht⟩ ⟨p.val % 64, by omega⟩ = p := Fin.ext (show 64 * (p.val / 64) + p.val % 64 = p.val by omega)
  rw [hp] at hs
  unfold Value.G10
  rw [dif_pos (by rw [hpt]; exact ht), hl, Value.fold0_congr m c _ _ _ (by omega) hpt, ← Value.outsAt0_sweep m c _ ht]
  exact hs

end Cert.Proof.Sweep
end
-- ==== Proof.Cumsum.lean ====
/- The reference's running sums of the log forget gates: a windowed sum over the last axis, padded low by one less than the
   axis is long, is at each position the sum of the entries up to it. -/
module

public import proofs.«01_k».proof.Proof.Gen.ReferenceIdeal.Step
public import Idealize.ShloMosaic.Lib.Pointwise

@[expose] public section

set_option maxRecDepth 16384

noncomputable section

namespace Cert.Proof.Cumsum

open Idealize.ShloMosaic Idealize.ShloMosaic.TcCoe
open Cert.ReferenceIdeal Cert.ReferenceIdeal.Gen Cert.ReferenceIdeal.Step

theorem foldl_add {α : Type} (l : List α) (f : α → EReal) (v : EReal) :
    l.foldl (fun r k => r + f k) v = v + (l.map f).sum := by
  induction l generalizing v with
  | nil => simp
  | cons a t ih => rw [List.foldl_cons, ih, List.map_cons, List.sum_cons, add_assoc]

/-- Where window position `w` of row `j` lies, if it lies in the row. -/
theorem shift (f : Fin 128 → EReal) (j : Fin 128) :
    (∑ w : Fin 128, if h : 127 ≤ j.val + w.val then f ⟨j.val + w.val - 127, by omega⟩ else 0)
      = ∑ i, if i ≤ j then f i else 0 := by
  rw [← Equiv.sum_comp (Equiv.addRight (j + 1)) (fun i => if i ≤ j then f i else 0)]
  refine Finset.sum_congr rfl fun w _ => ?_
  have e : ((Equiv.addRight (j + 1)) w).val = (w.val + (j.val + 1)) % 128 := by
    simp [Fin.val_add, add_assoc]
  have hj := j.isLt
  have hw := w.isLt
  by_cases h : 127 ≤ j.val + w.val
  · have hi : (Equiv.addRight (j + 1)) w = ⟨j.val + w.val - 127, by omega⟩ := Fin.ext (by rw [e]; show _ = j.val + w.val - 127; omega)
    have hle : (Equiv.addRight (j + 1)) w ≤ j := by rw [hi]; show j.val + w.val - 127 ≤ j.val; omega
    rw [dif_pos h, if_pos hle, hi]
  · have hle : ¬ (Equiv.addRight (j + 1)) w ≤ j := by
      show ¬ ((Equiv.addRight (j + 1)) w).val ≤ j.val
      rw [e]; omega
    rw [dif_neg h, if_neg hle]

variable (a0 : (⟨S8192x12288, .bf16⟩ : BufTy).Contents (Elt Ideal)) (a1 : (⟨S8192x128, .f32⟩ : BufTy).Contents (Elt Ideal))

theorem cumsum (J : Fin 32) (B : Fin 2) (h : Fin 8) (r : Fin 128) :
    A_main_v24 a0 a1 (ix4 J B h r) = ∑ i, if i ≤ r then A_main_v23 a0 a1 (ix4 J B h i) else 0 := by
  rw [← shift]
  unfold A_main_v24
  generalize A_main_v23 a0 a1 = x
  have h0 : (K_main_call1_call0_v0 (F := Ideal)) (Shape.Idx.first h_S_) = 0 := by
    pointwise [K_main_call1_call0_v0, K_main_call1_call0_cst]
  simp only [Host.reduceWindowAdd, Ideal.hostReduceWindowAdd_def, Ideal.hostReduceWindowAdd, Host.reduceWindow, h0]
  refine (foldl_add _ _ _).trans ?_
  rw [zero_add, ← Fin.sum_univ_def]
  refine (Equiv.sum_comp (Shape.rowMajor ⟨4, ![1, 1, 1, 128]⟩).symm (fun W : (⟨4, ![1, 1, 1, 128]⟩ : Shape).Idx =>
    if hh : ∀ a : Fin 4, ![0, 0, 0, 127] a ≤ (ix4 J B h r a).val * ![1, 1, 1, 1] a + (W a).val
        ∧ (ix4 J B h r a).val * ![1, 1, 1, 1] a + (W a).val - ![0, 0, 0, 127] a < ![32, 2, 8, 128] a then
      x (fun a => ⟨(ix4 J B h r a).val * ![1, 1, 1, 1] a + (W a).val - ![0, 0, 0, 127] a, (hh a).2⟩) else (0 : EReal))).trans ?_
  rw [sum_idx4]
  simp only [Finset.univ_unique, Finset.sum_singleton]
  refine Finset.sum_congr rfl fun w _ => ?_
  have hJ := J.isLt
  have hB := B.isLt
  have hh := h.isLt
  have hr := r.isLt
  have hw := w.isLt
  by_cases hc : 127 ≤ r.val + w.val
  · rw [dif_pos hc, dif_pos]
    · refine congrArg x (funext fun a => Fin.ext ?_)
      fin_cases a
      · show J.val * 1 + 0 - 0 = J.val; omega
      · show B.val * 1 + 0 - 0 = B.val; omega
      · show h.val * 1 + 0 - 0 = h.val; omega
      · show r.val * 1 + w.val - 127 = r.val + w.val - 127; omega
    · intro a
      fin_cases a
      · show 0 ≤ J.val * 1 + 0 ∧ J.val * 1 + 0 - 0 < 32; omega
      · show 0 ≤ B.val * 1 + 0 ∧ B.val * 1 + 0 - 0 < 2; omega
      · show 0 ≤ h.val * 1 + 0 ∧ h.val * 1 + 0 - 0 < 8; omega
      · show 127 ≤ r.val * 1 + w.val ∧ r.val * 1 + w.val - 127 < 128; omega
  · rw [dif_neg hc, dif_neg]
    intro ha
    have h3 : 127 ≤ r.val * 1 + w.val := (ha 3).1
    omega

end Cert.Proof.Cumsum
end
-- ==== Proof.TripAt.lean ====
/- One trip of the reference's scan, read position by position: the memory it carries on and the rows it writes are the
   recurrence's equations of the chunk the trip's number names. -/
module

public import proofs.«01_k».proof.Proof.Cumsum
public import proofs.«01_k».proof.Proof.Spec
public import Idealize.ShloMosaic.Lib.DynamicIndex

@[expose] public section

set_option maxRecDepth 16384

noncomputable section

namespace Cert.Proof.TripAt

open Idealize.ShloMosaic Idealize.ShloMosaic.TcCoe
open Cert.ReferenceIdeal Cert.ReferenceIdeal.Gen Cert.ReferenceIdeal.Step Cert.Proof.Spec

/-- The scan's inputs at chunk `J`, batch `B` and head `h` hold what the equations read. -/
structure Reads (s : State Ideal) (J : Fin 32) (B : Fin 2) (h : Fin 8) (x : Chunk) : Prop where
  hq : ∀ r d, s.main_v37_0 (ix5 J B h r d) = x.q r d
  hk : ∀ r d, s.main_v37_1 (ix5 J B h r d) = x.k r d
  hv : ∀ r e, s.main_v37_2 (ix5 J B h r e) = x.v r e
  hi : ∀ r, s.main_v37_3 (ix4 J B h r) = x.i r
  hg : ∀ r, s.main_v37_4 (ix4 J B h r) = x.g r

/-- The memory the scan carries for batch `B` and head `h`. -/
def memOf (s : State Ideal) (B : Fin 2) (h : Fin 8) : Mem where
  c d e := s.main_v37_7 (ix4 B h d e)
  n d := s.main_v37_8 (ix3 B h d)
  m := s.main_v37_9 (ix2 B h)

theorem gAll_eq (x : Chunk) : x.g 127 = x.gAll := by
  unfold Chunk.g Chunk.gAll
  refine Finset.sum_congr rfl fun l _ => if_pos ?_
  have := l.isLt
  show l.val ≤ 127
  omega

theorem bit_select : ∀ c : BitVec 1, Scalar.select c 1#1 0#1 = c := by decide

theorem mask_at (r l : Fin 128) {α : Type} (a b : α) :
    Scalar.select (K_main_v21 (F := Ideal) (ix2 r l)) a b = if l ≤ r then a else b := by
  have e : K_main_v21 (F := Ideal) (ix2 r l) = IntOp.cmpi .sge (BitVec.ofNat 32 r.val) (BitVec.ofNat 32 l.val) := by
    pointwise [K_main_v21, K_main_v20, K_main_call0_v4, K_main_call0_v5, K_main_call0_v2, K_main_call0_v0, K_main_call0_v1,
      K_main_call0_v3, K_main_call0_c, K_main_call0_c_0, K_main_c]
    rw [show ∀ w : BitVec 32, IntOp.addi w 0#32 = w from fun w => BitVec.add_zero w]
    exact bit_select _
  rw [e, select_sge]

variable {s : State Ideal} {J : Fin 32} {B : Fin 2} {h : Fin 8} {x : Chunk} (H : Reads s J B h x)

/-- A trip's number as a start, and zeros after it. -/
theorem start5 {α : Fin 5 → Prop} (h0 : α 0) (h1 : α 1) (h2 : α 2) (h3 : α 3) (h4 : α 4) : ∀ a, α a := by
  intro a; fin_cases a <;> assumption

theorem start4 {α : Fin 4 → Prop} (h0 : α 0) (h1 : α 1) (h2 : α 2) (h3 : α 3) : ∀ a, α a := by
  intro a; fin_cases a <;> assumption

include H

theorem q_at (r : Fin 128) (d : Fin 256) : b5 J s (ix4 B h r d) = x.q r d := by
  have e : b4 J s = extractStridedSlice S1x2x8x128x256 ![J.val, 0, 0, 0, 0] s.main_v37_0
      ⟨rfl, by have := J.isLt; intro a; fin_cases a <;> simp <;> omega⟩ :=
    WordCmp.dynamicSlice_eq_extract _ _ _ _ _ _ (start5 (toInt_ofNat_of_lt (by omega)) rfl rfl rfl rfl)
  pointwise [b5, e]
  exact H.hq r d

theorem k_at (r : Fin 128) (d : Fin 256) : b11 J s (ix4 B h r d) = x.k r d := by
  have e : b10 J s = extractStridedSlice S1x2x8x128x256 ![J.val, 0, 0, 0, 0] s.main_v37_1
      ⟨rfl, by have := J.isLt; intro a; fin_cases a <;> simp <;> omega⟩ :=
    WordCmp.dynamicSlice_eq_extract _ _ _ _ _ _ (start5 (toInt_ofNat_of_lt (by omega)) rfl rfl rfl rfl)
  pointwise [b11, e]
  exact H.hk r d

theorem v_at (r : Fin 128) (d : Fin 512) : b17 J s (ix4 B h r d) = x.v r d := by
  have e : b16 J s = extractStridedSlice S1x2x8x128x512 ![J.val, 0, 0, 0, 0] s.main_v37_2
      ⟨rfl, by have := J.isLt; intro a; fin_cases a <;> simp <;> omega⟩ :=
    WordCmp.dynamicSlice_eq_extract _ _ _ _ _ _ (start5 (toInt_ofNat_of_lt (by omega)) rfl rfl rfl rfl)
  pointwise [b17, e]
  exact H.hv r d

theorem i_at (r : Fin 128) : b22 J s (ix3 B h r) = x.i r := by
  have e : b21 J s = extractStridedSlice S1x2x8x128 ![J.val, 0, 0, 0] s.main_v37_3
      ⟨rfl, by have := J.isLt; intro a; fin_cases a <;> simp <;> omega⟩ :=
    WordCmp.dynamicSlice_eq_extract _ _ _ _ _ _ (start4 (toInt_ofNat_of_lt (by omega)) rfl rfl rfl)
  pointwise [b22, e]
  exact H.hi r

theorem g_at (r : Fin 128) : b27 J s (ix3 B h r) = x.g r := by
  have e : b26 J s = extractStridedSlice S1x2x8x128 ![J.val, 0, 0, 0] s.main_v37_4
      ⟨rfl, by have := J.isLt; intro a; fin_cases a <;> simp <;> omega⟩ :=
    WordCmp.dynamicSlice_eq_extract _ _ _ _ _ _ (start4 (toInt_ofNat_of_lt (by omega)) rfl rfl rfl)
  pointwise [b27, e]
  exact H.hg r

theorem logD_at (r l : Fin 128) : b40 J s (ix4 B h r l) = x.logD r l := by
  pointwise [b40, b39, b38, b37, b36, b35, b34, b33, b32, b31, b30, b29, b28]
  simp only [mask_at, g_at H, i_at H, Chunk.logD, ninf]

theorem top_at (r : Fin 128) : b46 J s (ix3 B h r) = x.top (memOf s B h) r := by
  pointwise [b46, b45, b44, b43, b42, b41]
  simp only [logD_at H, g_at H, Chunk.top, ninf, memOf]

theorem score_at (r l : Fin 128) : b52 J s (ix4 B h r l) = x.score (memOf s B h) r l := by
  pointwise [b52, b51, b50, b49, b48, b47]
  simp only [logD_at H, top_at H, q_at H, k_at H, Chunk.score]

theorem inter_at (r : Fin 128) : b54 J s (ix3 B h r) = x.inter (memOf s B h) r := by
  pointwise [b54, b53, b43, b42, b41]
  simp only [g_at H, top_at H, Chunk.inter, memOf]

theorem num_at (r : Fin 128) (e : Fin 512) : b60 J s (ix4 B h r e) = x.num (memOf s B h) r e := by
  pointwise [b60, b59, b58, b57, b56, b55]
  simp only [score_at H, inter_at H, q_at H, v_at H, Chunk.num, memOf]

theorem den_at (r : Fin 128) : b65 J s (ix3 B h r) = x.den (memOf s B h) r := by
  pointwise [b65, b64, b63, b62, b61]
  simp only [score_at H, inter_at H, q_at H, Chunk.den, memOf]

theorem hid_at (r : Fin 128) (e : Fin 512) : b72 J s (ix4 B h r e) = x.hid (memOf s B h) r e := by
  pointwise [b72, b71, b70, b69, b68, b67, b66]
  simp only [num_at H, den_at H, top_at H, Chunk.hid]

theorem gAll_at : b74 J s (ix2 B h) = x.gAll := by
  pointwise [b74, b73]
  rw [g_at H, gAll_eq]

theorem mNew_at : b82 J s (ix2 B h) = x.mNew (memOf s B h) := by
  pointwise [b82, b81, b80, b79, b78, b77, b76, b75]
  simp only [gAll_at H, g_at H, i_at H, Chunk.mNew, ninf, memOf]

theorem wk_at (r : Fin 128) (d : Fin 256) : b89 J s (ix4 B h r d) = x.wk (memOf s B h) r d := by
  pointwise [b89, b88, b87, b86, b85, b84, b83, b78, b77, b76, b75]
  simp only [gAll_at H, g_at H, i_at H, k_at H, mNew_at H, Chunk.wk]

theorem c_at (d : Fin 256) (e : Fin 512) : b97 J s (ix4 B h d e) = (x.next (memOf s B h)).c d e := by
  pointwise [b97, b96, b95, b94, b93, b92, b91, b90]
  simp only [gAll_at H, mNew_at H, wk_at H, v_at H, Chunk.next, memOf]

theorem n_at (d : Fin 256) : b103 J s (ix3 B h d) = (x.next (memOf s B h)).n d := by
  pointwise [b103, b102, b101, b100, b99, b98, b92, b91, b90]
  simp only [gAll_at H, mNew_at H, wk_at H, Chunk.next, memOf]

/-- The memory a trip carries on. -/
theorem mem_step : memOf (step J s) B h = x.next (memOf s B h) := by
  have e0 : (memOf (step J s) B h).c = (x.next (memOf s B h)).c := funext fun d => funext fun e => c_at H d e
  have e1 : (memOf (step J s) B h).n = (x.next (memOf s B h)).n := funext fun d => n_at H d
  have e2 : (memOf (step J s) B h).m = (x.next (memOf s B h)).m := mNew_at H
  exact Mem.same e0 e1 e2

/-- The rows a trip writes are its chunk's. -/
theorem out_step (r : Fin 128) (e : Fin 512) :
    (step J s).main_v37_10 (ix5 J B h r e) = x.hid (memOf s B h) r e := by
  rw [step_main_v37_10, ← hid_at H]
  have e1 : b109 J s = updateSlice s.main_v37_10 (b104 J s) ![J.val, 0, 0, 0, 0]
      ⟨rfl, by have := J.isLt; intro a; fin_cases a <;> simp <;> omega⟩ :=
    WordCmp.dynamicUpdateSlice_eq_update _ _ _ _ _ _ (start5 (toInt_ofNat_of_lt (by omega)) rfl rfl rfl rfl)
  have := J.isLt
  have := B.isLt
  have := h.isLt
  have := r.isLt
  have := e.isLt
  pointwise [e1, b104]
  exact dif_pos ⟨le_refl _, Nat.lt_succ_self _⟩

omit H in
/-- It leaves every other chunk's rows. -/
theorem out_step_ne (K : Fin 32) (hK : K ≠ J) (r : Fin 128) (e : Fin 512) :
    (step J s).main_v37_10 (ix5 K B h r e) = s.main_v37_10 (ix5 K B h r e) := by
  rw [step_main_v37_10]
  have e1 : b109 J s = updateSlice s.main_v37_10 (b104 J s) ![J.val, 0, 0, 0, 0]
      ⟨rfl, by have := J.isLt; intro a; fin_cases a <;> simp <;> omega⟩ :=
    WordCmp.dynamicUpdateSlice_eq_update _ _ _ _ _ _ (start5 (toInt_ofNat_of_lt (by omega)) rfl rfl rfl rfl)
  have hv : K.val ≠ J.val := fun q => hK (Fin.ext q)
  pointwise [e1, b104]
  exact dif_neg fun q => hv (by omega)

end Cert.Proof.TripAt
end
-- ==== Proof.Trip.lean ====
/- One trip of the reference's scan, read off its generated run: where the loop's valuation has the trip's number at the
   counter and the causal mask at the mask buffer, the carried values the trip leaves are `Step.step` of the state it finds
   there. The run's result is then `Step.step` applied 32 times to the initial state. -/
module

public import proofs.«01_k».proof.Proof.Gen.ReferenceIdeal.Run
public import proofs.«01_k».proof.Proof.Gen.ReferenceIdeal.Step

@[expose] public section

set_option maxRecDepth 16384

noncomputable section

namespace Cert.Proof.Trip

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The scan's state as a valuation holds it. -/
def stateOf (V : Valuation τ sig (Elt F)) : State F where
  main_v37_7 := V (Proc.devRef .tc main_v37_7)
  main_v37_8 := V (Proc.devRef .tc main_v37_8)
  main_v37_9 := V (Proc.devRef .tc main_v37_9)
  main_v37_10 := V (Proc.devRef .tc main_v37_10)
  main_v37_0 := V (Proc.devRef .tc main_v37_0)
  main_v37_1 := V (Proc.devRef .tc main_v37_1)
  main_v37_2 := V (Proc.devRef .tc main_v37_2)
  main_v37_3 := V (Proc.devRef .tc main_v37_3)
  main_v37_4 := V (Proc.devRef .tc main_v37_4)

/-- The counter is at trip `j` and the mask buffer holds the causal mask. -/
structure At (V : Valuation τ sig (Elt F)) (j : ℕ) : Prop where
  counter : V (Proc.devRef .tc main_v37_6) = constantI S_ 32 (BitVec.ofNat 32 j)
  mask : V (Proc.devRef .tc main_v37_5) = K_main_v21 (F := F)

variable {V : Valuation τ sig (Elt F)} {j : ℕ}

theorem q_eq (h : At V j) : res_main_while0b_v66 V = b5 j (stateOf V) := by
  unfold res_main_while0b_v66; rw [h.counter]; rfl
theorem k_eq (h : At V j) : res_main_while0b_v67 V = b11 j (stateOf V) := by
  unfold res_main_while0b_v67; rw [h.counter]; rfl
theorem v_eq (h : At V j) : res_main_while0b_v68 V = b17 j (stateOf V) := by
  unfold res_main_while0b_v68; rw [h.counter]; rfl
theorem i_eq (h : At V j) : res_main_while0b_v69 V = b22 j (stateOf V) := by
  unfold res_main_while0b_v69; rw [h.counter]; rfl
theorem g_eq (h : At V j) : res_main_while0b_v70 V = b27 j (stateOf V) := by
  unfold res_main_while0b_v70; rw [h.counter]; rfl
theorem logD_eq (h : At V j) : res_main_while0b_v79 V = b40 j (stateOf V) := by
  unfold res_main_while0b_v79; rw [g_eq h, i_eq h, h.mask]; rfl
theorem logInter_eq (h : At V j) : res_main_while0b_v82 V = b43 j (stateOf V) := by
  unfold res_main_while0b_v82; rw [g_eq h]; rfl
theorem mRow_eq (h : At V j) : res_main_while0b_v84 V = b46 j (stateOf V) := by
  unfold res_main_while0b_v84; rw [logD_eq h, logInter_eq h]; rfl
theorem scores_eq (h : At V j) : res_main_while0b_v90 V = b52 j (stateOf V) := by
  unfold res_main_while0b_v90; rw [q_eq h, k_eq h, logD_eq h, mRow_eq h]; rfl
theorem inter_eq (h : At V j) : res_main_while0b_v92 V = b54 j (stateOf V) := by
  unfold res_main_while0b_v92; rw [logInter_eq h, mRow_eq h]; rfl
theorem gLast_eq (h : At V j) : res_main_while0b_v111 V = b74 j (stateOf V) := by
  unfold res_main_while0b_v111; rw [g_eq h]; rfl
theorem logW_eq (h : At V j) : res_main_while0b_v115 V = b78 j (stateOf V) := by
  unfold res_main_while0b_v115; rw [gLast_eq h, g_eq h, i_eq h]; rfl
theorem mNew_eq (h : At V j) : res_main_while0b_v118 V = b82 j (stateOf V) := by
  unfold res_main_while0b_v118; rw [gLast_eq h, logW_eq h]; rfl
theorem wk_eq (h : At V j) : res_main_while0b_v125 V = b89 j (stateOf V) := by
  unfold res_main_while0b_v125; rw [k_eq h, logW_eq h, mNew_eq h]; rfl
theorem decay_eq (h : At V j) : res_main_while0b_v128 V = b92 j (stateOf V) := by
  unfold res_main_while0b_v128; rw [gLast_eq h, mNew_eq h]; rfl

theorem stepC (h : At V j) : Value.step_main_v37_7 V = b97 j (stateOf V) := by
  unfold Value.step_main_v37_7; rw [decay_eq h, wk_eq h, v_eq h]; rfl
theorem stepN (h : At V j) : Value.step_main_v37_8 V = b103 j (stateOf V) := by
  unfold Value.step_main_v37_8; rw [decay_eq h, wk_eq h]; rfl
theorem stepM (h : At V j) : Value.step_main_v37_9 V = b82 j (stateOf V) := by
  unfold Value.step_main_v37_9; rw [mNew_eq h]; rfl
theorem stepOut (h : At V j) : Value.step_main_v37_10 V = b109 j (stateOf V) := by
  unfold Value.step_main_v37_10; rw [h.counter, scores_eq h, v_eq h, inter_eq h, q_eq h, mRow_eq h]; rfl

/-- The trip hands on `step` of what it found. -/
theorem stateOf_trip (h : At V j) : stateOf (STEP V) = step j (stateOf V) := by
  unfold stateOf step
  rw [STEP_main_v37_7, STEP_main_v37_8, STEP_main_v37_9, STEP_main_v37_10, STEP_main_v37_0, STEP_main_v37_1,
    STEP_main_v37_2, STEP_main_v37_3, STEP_main_v37_4, stepC h, stepN h, stepM h, stepOut h]
  rfl

/-- The trip moves the counter on by one and leaves the mask. -/
theorem at_trip (h : At V j) : At (STEP V) (j + 1) where
  counter := by
    rw [STEP_main_v37_6]; unfold step_main_v37_6; rw [h.counter]; funext i
    show BitVec.ofNat 32 j + 1#32 = BitVec.ofNat 32 (j + 1)
    simp only [BitVec.ofNat_add]
  mask := (STEP_main_v37_5 V).trans h.mask

variable (m : (ℓ : Loc nD τ sig) → Buf (Elt F) ℓ) (c : Dev nD)

/-- The scan's first state, of the arguments in memory. -/
abbrev start : State F :=
  init (m ((c.tc : Thread nD τ).loc main_arg0)) (m ((c.tc : Thread nD τ).loc main_arg1))

/-- The state before trip `k`. -/
def stateAt : ℕ → State F
  | 0 => start m c
  | k + 1 => step k (stateAt k)

set_option maxRecDepth 65536 in
set_option maxHeartbeats 500000 in
theorem enter : stateOf (entryContents preI m c) = start m c ∧ At (entryContents preI m c) 0 := by
  refine ⟨?_, ?_, ?_⟩
  · unfold stateOf
    simp only [entryContents, afterL_cons, afterL_nil]
    after_reads_simp
    rfl
  · simp only [entryContents, afterL_cons, afterL_nil]
    after_reads_simp
    rfl
  · simp only [entryContents, afterL_cons, afterL_nil]
    after_reads_simp
    rfl

theorem iterate (k : ℕ) : stateOf (STEP^[k] (entryContents preI m c)) = stateAt m c k
    ∧ At (STEP^[k] (entryContents preI m c)) k := by
  induction k with
  | zero => exact enter m c
  | succ k ih =>
    rw [Function.iterate_succ_apply']
    exact ⟨(stateOf_trip ih.2).trans (by rw [ih.1]; rfl), at_trip ih.2⟩

theorem outH (V : Valuation τ sig (Elt F)) : out_main_v63 V
    = R_main_v63 (stateOf V) (V (Proc.devRef .tc main_arg0)) (V (Proc.devRef .tc main_arg2)) := by
  unfold out_main_v63 R_main_v63; rfl

theorem outW (V : Valuation τ sig (Elt F)) : out_main_v65 V
    = R_main_v65 (stateOf V) (V (Proc.devRef .tc main_arg3)) := by
  unfold out_main_v65 R_main_v65; rfl

/-- The reference terminates with its two results read off the state after 32 trips, its arguments unchanged. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v63) = R_main_v63 (stateAt m c 32) (m ((c.tc : Thread nD τ).loc main_arg0)) (m ((c.tc : Thread nD τ).loc main_arg2))
      ∧ r.2.mem ((c.tc : Thread nD τ).loc main_v65) = R_main_v65 (stateAt m c 32) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((outH _).trans (by rw [(iterate m c 32).1, iter_main_arg0 m c 32, iter_main_arg2 m c 32])),
     (h c).2.1.trans ((outW _).trans (by rw [(iterate m c 32).1, iter_main_arg3 m c 32])), (h c).2.2⟩) (Value.run m ρ)

end Cert.Proof.Trip

end
-- ==== Proof.ScanAt.lean ====
/- The reference's scan over all chunks: what it is handed are the projections and gates cut into chunks and heads, and after
   its trips the output buffer holds every chunk's rows. -/
module

public import proofs.«01_k».proof.Proof.TripAt
public import proofs.«01_k».proof.Proof.Trip

@[expose] public section

set_option maxRecDepth 16384

noncomputable section

namespace Cert.Proof.ScanAt

open Idealize.ShloMosaic Idealize.ShloMosaic.TcCoe
open Cert.ReferenceIdeal Cert.ReferenceIdeal.Gen Cert.ReferenceIdeal.Step Cert.Proof.Spec Cert.Proof.TripAt

variable (a0 : (⟨S8192x12288, .bf16⟩ : BufTy).Contents (Elt Ideal)) (a1 : (⟨S8192x128, .f32⟩ : BufTy).Contents (Elt Ideal))
  (J : Fin 32) (B : Fin 2) (h : Fin 8)

omit J B h in
theorem at2 {m n : ℕ} (f : (⟨2, ![m, n]⟩ : Shape).Idx → EReal) {a a' : Fin m} {b b' : Fin n} (ha : a.val = a'.val)
    (hb : b.val = b'.val) : f (ix2 a b) = f (ix2 a' b') := by
  rw [Fin.ext ha, Fin.ext hb]

theorem q_at (r : Fin 128) (d : Fin 256) : A_main_v26 a0 a1 (ix5 J B h r d) = (chunkOf a0 a1 B h J).q r d := by
  pointwise [A_main_v26, A_main_v25, A_main_v3, A_main_v2, A_main_v1, A_main_v0]
  exact at2 a0 (by simp only [row]; omega) (by dsimp only; omega)

theorem k_at (r : Fin 128) (d : Fin 256) : A_main_v28 a0 a1 (ix5 J B h r d) = (chunkOf a0 a1 B h J).k r d := by
  pointwise [A_main_v28, A_main_v27, A_main_v9, A_main_v7, A_main_v6, A_main_v5, A_main_v4, K_main_v8, K_main_cst]
  exact congrArg (· * scale) (at2 a0 (by simp only [row]; omega) (by dsimp only; omega))

theorem v_at (r : Fin 128) (e : Fin 512) : A_main_v30 a0 a1 (ix5 J B h r e) = (chunkOf a0 a1 B h J).v r e := by
  pointwise [A_main_v30, A_main_v29, A_main_v13, A_main_v12, A_main_v11, A_main_v10]
  exact at2 a0 (by simp only [row]; omega) (by dsimp only; omega)

theorem i_at (r : Fin 128) : A_main_v32 a0 a1 (ix4 J B h r) = (chunkOf a0 a1 B h J).i r := by
  pointwise [A_main_v32, A_main_v31, A_main_v18, A_main_v15, A_main_v14]
  exact at2 a1 (by simp only [row]; omega) rfl

theorem f_at (r : Fin 128) : A_main_v23 a0 a1 (ix4 J B h r) = (chunkOf a0 a1 B h J).f r := by
  pointwise [A_main_v23, A_main_v22, A_main_v19, A_main_v17, A_main_v16]
  exact at2 a1 (by simp only [row]; omega) rfl

theorem g_at (r : Fin 128) : A_main_v24 a0 a1 (ix4 J B h r) = (chunkOf a0 a1 B h J).g r := by
  rw [Cumsum.cumsum]
  simp only [f_at, Chunk.g]

variable (m : (ℓ : Loc nD τ sig) → Buf (Elt Ideal) ℓ) (c : Dev nD)

/-- The projections a run starts from. -/
abbrev projOf : (⟨S8192x12288, .bf16⟩ : BufTy).Contents (Elt Ideal) := m ((c.tc : Thread nD τ).loc main_arg0)

/-- The gates a run starts from. -/
abbrev gatesOf : (⟨S8192x128, .f32⟩ : BufTy).Contents (Elt Ideal) := m ((c.tc : Thread nD τ).loc main_arg1)

/-- No trip changes the scan's inputs. -/
theorem kept (k : ℕ) : (Trip.stateAt m c k).main_v37_0 = A_main_v26 (projOf m c) (gatesOf m c)
    ∧ (Trip.stateAt m c k).main_v37_1 = A_main_v28 (projOf m c) (gatesOf m c)
    ∧ (Trip.stateAt m c k).main_v37_2 = A_main_v30 (projOf m c) (gatesOf m c)
    ∧ (Trip.stateAt m c k).main_v37_3 = A_main_v32 (projOf m c) (gatesOf m c)
    ∧ (Trip.stateAt m c k).main_v37_4 = A_main_v24 (projOf m c) (gatesOf m c) := by
  induction k with
  | zero => exact ⟨rfl, rfl, rfl, rfl, rfl⟩
  | succ k ih => exact ih

theorem reads (k : ℕ) : Reads (Trip.stateAt m c k) J B h (chunkOf (projOf m c) (gatesOf m c) B h J) := by
  obtain ⟨e0, e1, e2, e3, e4⟩ := kept m c k
  refine ⟨fun r d => ?_, fun r d => ?_, fun r e => ?_, fun r => ?_, fun r => ?_⟩
  · rw [e0]; exact q_at _ _ J B h r d
  · rw [e1]; exact k_at _ _ J B h r d
  · rw [e2]; exact v_at _ _ J B h r e
  · rw [e3]; exact i_at _ _ J B h r
  · rw [e4]; exact g_at _ _ J B h r

/-- The memory after `k` trips. -/
theorem mem_at (k : ℕ) (hk : k ≤ 32) :
    memOf (Trip.stateAt m c k) B h = memory (projOf m c) (gatesOf m c) B h k := by
  induction k with
  | zero =>
    refine Mem.same (funext fun d => funext fun e => ?_) (funext fun d => ?_) ?_
    · show K_main_v33 (F := Ideal) (ix4 B h d e) = 0
      pointwise [K_main_v33, K_main_cst_0]
    · show K_main_v34 (F := Ideal) (ix3 B h d) = 0
      pointwise [K_main_v34, K_main_cst_1]
    · show K_main_v35 (F := Ideal) (ix2 B h) = 0
      pointwise [K_main_v35, K_main_cst_2]
  | succ k ih =>
    have hs := mem_step (reads ⟨k, hk⟩ B h m c k)
    rw [ih (by omega)] at hs
    exact hs.trans (memory_succ (projOf m c) (gatesOf m c) B h ⟨k, hk⟩).symm

/-- The rows of chunk `J` after `k` trips. -/
theorem out_at (k : ℕ) (hk : k ≤ 32) (hJ : J.val < k) (r : Fin 128) (e : Fin 512) :
    (Trip.stateAt m c k).main_v37_10 (ix5 J B h r e)
      = (chunkOf (projOf m c) (gatesOf m c) B h J).hid (memory (projOf m c) (gatesOf m c) B h J.val) r e := by
  induction k with
  | zero => omega
  | succ k ih =>
    by_cases hJk : J.val = k
    · subst hJk
      have hs := out_step (reads J B h m c J.val) r e
      rw [mem_at B h m c J.val (by omega)] at hs
      exact hs
    · have hne : J ≠ ⟨k, hk⟩ := fun q => hJk (congrArg Fin.val q)
      exact (out_step_ne (s := Trip.stateAt m c k) (J := ⟨k, hk⟩) J hne r e).trans (ih (by omega) (by omega))

omit J B in
/-- The operations after the scan, of rows `y` it wrote for the token's chunk and head. -/
theorem after_at (s : State Ideal) (a2 : (⟨S1x4096, .f32⟩ : BufTy).Contents (Elt Ideal)) (p : Fin 8192) (e : Fin 512)
    (y : Fin 512 → EReal) (hy : ∀ e', s.main_v37_10 (ix5 ⟨p.val % 4096 / 128, by omega⟩ ⟨p.val / 4096, by omega⟩ h
      ⟨p.val % 4096 % 128, by omega⟩ e') = y e') :
    R_main_v63 s a0 a2 (ix2 p ⟨512 * h.val + e.val, by omega⟩)
      = normed y (a2 (ix2 0 ⟨512 * h.val + e.val, by omega⟩))
          (a0 (ix2 p ⟨8192 + (512 * h.val + e.val), by omega⟩)) e := by
  pointwise [R_main_v63]
  simp only [hy, normed]

theorem row_div (r : Fin 128) : (row B J r).val / 4096 = B.val := by simp only [row]; omega
theorem row_chunk (r : Fin 128) : (row B J r).val % 4096 / 128 = J.val := by simp only [row]; omega
theorem row_mod (r : Fin 128) : (row B J r).val % 4096 % 128 = r.val := by simp only [row]; omega

omit J B h in
theorem at5 {n0 n1 n2 n3 n4 : ℕ} (f : (⟨5, ![n0, n1, n2, n3, n4]⟩ : Shape).Idx → EReal) {a a' : Fin n0} {b b' : Fin n1} (c : Fin n2)
    {d d' : Fin n3} (e : Fin n4) (ha : a.val = a'.val) (hb : b.val = b'.val) (hd : d.val = d'.val) :
    f (ix5 a b c d e) = f (ix5 a' b' c d' e) := by
  rw [Fin.ext ha, Fin.ext hb, Fin.ext hd]

/-- The reference's first result, position by position. -/
theorem result_at (a2 : (⟨S1x4096, .f32⟩ : BufTy).Contents (Elt Ideal)) (r : Fin 128) (e : Fin 512) :
    R_main_v63 (Trip.stateAt m c 32) (projOf m c) a2 (ix2 (row B J r) ⟨512 * h.val + e.val, by omega⟩)
      = normed ((chunkOf (projOf m c) (gatesOf m c) B h J).hid (memory (projOf m c) (gatesOf m c) B h J.val) r)
          (a2 (ix2 0 ⟨512 * h.val + e.val, by omega⟩))
          (projOf m c (ix2 (row B J r) ⟨8192 + (512 * h.val + e.val), by omega⟩)) e := by
  have ho := out_at J B h m c 32 (le_refl _) J.isLt r
  generalize Trip.stateAt m c 32 = s at ho ⊢
  exact after_at _ h s a2 (row B J r) e _ fun e' =>
    (at5 s.main_v37_10 h e' (row_chunk J B r) (row_div J B r) (row_mod J B r)).trans (ho e')

end Cert.Proof.ScanAt
end
-- ==== Proof.Equation.lean ====
/- The equation: from memories whose arguments agree, the arrays the kernel leaves are the reference's two results. -/
module

public import proofs.«01_k».proof.Proof.Sweep
public import proofs.«01_k».proof.Proof.ScanAt

@[expose] public section

set_option maxRecDepth 16384

noncomputable section

namespace Cert.Proof.Equation

open Idealize.ShloMosaic Idealize.ShloMosaic.TcCoe
open Cert.Proof.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- Every token's row is a row of a chunk of a batch. -/
theorem row_cover (p : Fin 8192) : ∃ (B : Fin 2) (J : Fin 32) (r : Fin 128), p = row B J r :=
  ⟨⟨p.val / 4096, by omega⟩, ⟨p.val % 4096 / 128, by omega⟩, ⟨p.val % 128, by omega⟩, Fin.ext (by simp only [row]; omega)⟩

/-- Every column is a place of a head. -/
theorem col_cover (q : Fin 4096) : ∃ (h : Fin 8) (e : Fin 512), q = ⟨512 * h.val + e.val, by omega⟩ :=
  ⟨⟨q.val / 512, by omega⟩, ⟨q.val % 512, by omega⟩, Fin.ext (by dsimp only; omega)⟩

/-- The first result. -/
theorem first
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Step.R_main_v63 (Trip.stateAt m' c 32)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
      = Cert.KernelIdeal.Value.G9 m c := by
  funext i
  obtain ⟨p, q, rfl⟩ : ∃ (p : Fin 8192) (q : Fin 4096), i = ix2 p q := ⟨_, _, eq_ix2 i⟩
  obtain ⟨B, J, r, rfl⟩ := row_cover p
  obtain ⟨h, e, rfl⟩ := col_cover q
  refine (ScanAt.result_at J B h m' c _ r e).trans (Eq.trans ?_ (Sweep.first_at m c h e B J r).symm)
  unfold ScanAt.projOf ScanAt.gatesOf Sweep.proj Sweep.gates
  rw [h0, h1, h2]

/-- The second result. -/
theorem second
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Step.R_main_v65 (Trip.stateAt m' c 32)
        (m' ((c.tc : Thread Cert.ReferenceIdeal.nD Cert.ReferenceIdeal.τ).loc Cert.ReferenceIdeal.main_arg3))
      = Cert.KernelIdeal.Value.G10 m c := by
  funext i
  obtain ⟨p, q, rfl⟩ : ∃ (p q : Fin 4096), i = ix2 p q := ⟨_, _, eq_ix2 i⟩
  refine Eq.trans ?_ (Sweep.second_at m c p q).symm
  rw [h3]
  generalize Trip.stateAt m' c 32 = s
  pointwise [Cert.ReferenceIdeal.Step.R_main_v65]

end Cert.Proof.Equation
end
-- ==== Proof.Swiglu.lean ====
/- The gated product of the feed-forward part: the kernel's call against the reference, both read as the same function of the
   modulated rows and of the two halves of the weights; and the cast of the other weights that rides along. -/
module

public import proofs.«01_k».proof.Proof.Spec
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Proof.Swiglu

open Idealize.ShloMosaic Idealize.ShloMosaic.TcCoe Idealize.ShloMosaic.Tactic Idealize.SL.Sem
open Cert.Kernel2Ideal Cert.Kernel2Ideal.Gen

/-- A gate passed through its own sigmoid, times the other half. -/
def gated (g u : EReal) : EReal := g * Ideal.div 1 (1 + Ideal.exp (-g)) * u

/-- Column `j` of the product of row `r` with the first layer's weights. -/
def product (a : (⟨2, ![8192, 4096]⟩ : Shape).Idx → EReal) (w : (⟨3, ![2, 4096, 22016]⟩ : Shape).Idx → EReal)
    (r : Fin 8192) (j : Fin 22016) : EReal := ∑ k : Fin 4096, a (ix2 r k) * w (ix3 0 k j)

/-- The first result: gate columns come first, then the columns they gate. -/
def rowOut (a : (⟨2, ![8192, 4096]⟩ : Shape).Idx → EReal) (w : (⟨3, ![2, 4096, 22016]⟩ : Shape).Idx → EReal)
    (r : Fin 8192) (d : Fin 11008) : EReal :=
  gated (product a w r ⟨d.val, by omega⟩) (product a w r ⟨11008 + d.val, by omega⟩)

/-- Where each window's block lies, point by point. -/
theorem idx : ∀ t : Fin cfg0.N, win0_0.index t = ![t.val / 43, 0] ∧ win0_1.index t = ![0, 0, t.val % 43]
    ∧ win0_2.index t = ![0, 0, t.val % 43 + 43] ∧ win0_3.index t = ![0, t.val, 0]
    ∧ win0_4.index t = ![t.val / 43, t.val % 43] ∧ win0_5.index t = ![t.val, 0] :=
  (by decide +kernel : ∀ t : Fin grid0.N, win0_0.index t = ![t.val / 43, 0] ∧ win0_1.index t = ![0, 0, t.val % 43]
    ∧ win0_2.index t = ![0, 0, t.val % 43 + 43] ∧ win0_3.index t = ![0, t.val, 0]
    ∧ win0_4.index t = ![t.val / 43, t.val % 43] ∧ win0_5.index t = ![t.val, 0])

variable (m : (ℓ : Loc nD τ sig) → Buf (Elt Ideal) ℓ) (c : Dev nD)

/-- One point's block of the first result, of the blocks it reads. -/
theorem pay_at (v0 : Vec Ideal S2048x4096 .bf16) (v1 v5 : Vec Ideal S1x4096x256 .f32) (r : Fin 2048) (d : Fin 256) :
    k0_pay1 v0 v1 v5 (ix2 r d)
      = gated (∑ k : Fin 4096, v0 (ix2 r k) * v1 (ix3 0 k d)) (∑ k : Fin 4096, v0 (ix2 r k) * v5 (ix3 0 k d)) := by
  pointwise [k0_pay1]
  simp only [Spec.zero_sub', gated]

/-- The array the kernel leaves as its first result. -/
theorem out4 : (dats m 0 c).arrAt 4 cfg0.N = fun i => rowOut (m ((c : Thread nD τ).loc main_arg0))
    (m ((c : Thread nD τ).loc main_arg1)) (i 0) (i 1) := by
  refine (dats m 0 c).arrAt_eq_of_covers 4 _ (by decide +kernel) fun t hf y => ?_
  blk_simp
  rw [after0_4]
  frame_out
  obtain ⟨r, d, rfl⟩ : ∃ (r : Fin 2048) (d : Fin 256), y = ix2 r d := ⟨_, _, eq_ix2 y⟩
  obtain ⟨e0, e1, e2, e3, e4, e5⟩ := idx t
  rw [pay_at]
  unfold rowOut product
  refine congrArg₂ gated (Finset.sum_congr rfl fun k _ => ?_) (Finset.sum_congr rfl fun k _ => ?_)
  · congr 1
    · blk_ext [iblk, V, e0, e4]
    · blk_ext [iblk, V, e1, e4]
  · congr 1
    · blk_ext [iblk, V, e0, e4]
    · blk_ext [iblk, V, e2, e4]

/-- The array the kernel leaves as its second result: the first layer's other weights. -/
theorem out5 : (dats m 0 c).arrAt 5 cfg0.N = fun i => m ((c : Thread nD τ).loc main_arg2) (ix3 0 (i 0) (i 1)) := by
  refine (dats m 0 c).arrAt_eq_of_covers 5 _ (by decide +kernel) fun t hf y => ?_
  blk_simp
  rw [after0_5]
  frame_out
  obtain ⟨r, d, rfl⟩ : ∃ (r : Fin 64) (d : Fin 4096), y = ix2 r d := ⟨_, _, eq_ix2 y⟩
  obtain ⟨e0, e1, e2, e3, e4, e5⟩ := idx t
  pointwise [k0_pay2]
  blk_ext [iblk, V, e3, e5]

/-- The kernel terminates with its two results at `rowOut` and at the other weights, its arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0)
        = (fun i => rowOut (m ((c.tc : Thread nD τ).loc main_arg0)) (m ((c.tc : Thread nD τ).loc main_arg1)) (i 0) (i 1))
      ∧ r.2.mem ((c.tc : Thread nD τ).loc main_v0_1) = (fun i => m ((c.tc : Thread nD τ).loc main_arg2) (ix3 0 (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out4 m c), (h c).2.1.trans (out5 m c), (h c).2.2⟩) (Value.run_blocks m ρ)

end Cert.Proof.Swiglu

namespace Cert.Proof.SwigluRef

open Idealize.ShloMosaic Idealize.ShloMosaic.TcCoe Idealize.SL.Sem
open Cert.Reference2Ideal Cert.Reference2Ideal.Gen Cert.Proof.Swiglu

/-- The reference terminates with its two results at the same functions of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8)
        = (fun i => rowOut (m ((c.tc : Thread nD τ).loc main_arg0)) (m ((c.tc : Thread nD τ).loc main_arg1)) (i 0) (i 1))
      ∧ r.2.mem ((c.tc : Thread nD τ).loc main_v11) = (fun i => m ((c.tc : Thread nD τ).loc main_arg2) (ix3 0 (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2.1.trans ?_, (h c).2.2⟩) (Value.run m ρ)
  · funext i
    obtain ⟨p, q, rfl⟩ : ∃ (p : Fin 8192) (q : Fin 11008), i = ix2 p q := ⟨_, _, eq_ix2 i⟩
    generalize m ((c.tc : Thread nD τ).loc main_arg0) = a0
    generalize m ((c.tc : Thread nD τ).loc main_arg1) = a1
    pointwise
    rfl
  · funext i
    obtain ⟨p, q, rfl⟩ : ∃ (p : Fin 11008) (q : Fin 4096), i = ix2 p q := ⟨_, _, eq_ix2 i⟩
    generalize m ((c.tc : Thread nD τ).loc main_arg2) = a2
    pointwise

end Cert.Proof.SwigluRef
end
-- ==== Proof.NormedResid.lean ====
/- The residual sum behind a feed-forward part, whose row is normed on the way: the kernel's call against the reference. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Proof.NormedResid

open Idealize.ShloMosaic Idealize.ShloMosaic.TcCoe Idealize.ShloMosaic.Tactic Idealize.SL.Sem
open Cert.Kernel3Ideal Cert.Kernel3Ideal.Gen

/-- The literal scale of the residual: the fourth root of four as the kernel writes it. -/
def alpha : EReal := (Scalar.ofBits .f32 0x3FB504F3#32 : Ideal .f32)

/-- The batch a row belongs to. -/
def batchOf (r : Fin 8192) : Fin 2 := ⟨r.val / 4096, by omega⟩

/-- Entry `j` of row `r` normed with the row's mean and inverse deviation. -/
def normed (z : (⟨2, ![8192, 4096]⟩ : Shape).Idx → EReal) (s : (⟨2, ![8192, 2]⟩ : Shape).Idx → EReal) (g b : (⟨2, ![1, 4096]⟩ : Shape).Idx → EReal)
    (r : Fin 8192) (j : Fin 4096) : EReal :=
  (z (ix2 r j) - s (ix2 r 0)) * s (ix2 r 1) * g (ix2 0 j) + b (ix2 0 j)

/-- The result at row `r`, column `j`: the scaled normed row plus the gated product. -/
def summed (a : (⟨2, ![8192, 11008]⟩ : Shape).Idx → EReal) (w : (⟨2, ![11008, 4096]⟩ : Shape).Idx → EReal) (z : (⟨2, ![8192, 4096]⟩ : Shape).Idx → EReal)
    (s : (⟨2, ![8192, 2]⟩ : Shape).Idx → EReal) (g b : (⟨2, ![1, 4096]⟩ : Shape).Idx → EReal) (gate : (⟨3, ![2, 1, 4096]⟩ : Shape).Idx → EReal)
    (r : Fin 8192) (j : Fin 4096) : EReal :=
  alpha * normed z s g b r j + gate (ix3 (batchOf r) 0 j) * ∑ k : Fin 11008, a (ix2 r k) * w (ix2 k j)

/-- Where each window's block lies, point by point. -/
theorem idx : ∀ t : Fin cfg0.N, win0_0.index t = ![t.val / 8, 0] ∧ win0_1.index t = ![0, t.val % 8]
    ∧ win0_2.index t = ![t.val / 8, t.val % 8] ∧ win0_3.index t = ![t.val / 64, 0, t.val % 8]
    ∧ win0_4.index t = ![t.val / 8, 0] ∧ win0_5.index t = ![0, t.val % 8] ∧ win0_6.index t = ![0, t.val % 8]
    ∧ win0_7.index t = ![t.val / 8, t.val % 8] :=
  (by decide +kernel : ∀ t : Fin grid0.N, win0_0.index t = ![t.val / 8, 0] ∧ win0_1.index t = ![0, t.val % 8]
    ∧ win0_2.index t = ![t.val / 8, t.val % 8] ∧ win0_3.index t = ![t.val / 64, 0, t.val % 8]
    ∧ win0_4.index t = ![t.val / 8, 0] ∧ win0_5.index t = ![0, t.val % 8] ∧ win0_6.index t = ![0, t.val % 8]
    ∧ win0_7.index t = ![t.val / 8, t.val % 8])

variable (m : (ℓ : Loc nD τ sig) → Buf (Elt Ideal) ℓ) (c : Dev nD)

/-- One point's block of the result, of the blocks it reads. -/
theorem pay_at (v0 : Vec Ideal S512x2 .f32) (v1 : Vec Ideal S512x512 .f32) (v4 v5 : Vec Ideal S1x512 .f32)
    (v16 : Vec Ideal S1x1x512 .f32) (v18 : Vec Ideal S512x11008 .bf16) (v19 : Vec Ideal S11008x512 .bf16)
    (r : Fin 512) (d : Fin 512) :
    k0_pay1 v0 v1 v4 v5 v16 v18 v19 (ix2 r d)
      = alpha * ((v1 (ix2 r d) - v0 (ix2 r 0)) * v0 (ix2 r 1) * v4 (ix2 0 d) + v5 (ix2 0 d))
        + v16 (ix3 0 0 d) * ∑ k : Fin 11008, v18 (ix2 r k) * v19 (ix2 k d) := by
  pointwise [k0_pay1]
  rfl

/-- The array the kernel leaves as its result. -/
theorem out : (dats m 0 c).arrAt 7 cfg0.N = fun i => summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 7 _ (by decide +kernel) fun t hf y => ?_
  blk_simp
  rw [after0_7]
  frame_out
  obtain ⟨r, d, rfl⟩ : ∃ (r : Fin 512) (d : Fin 512), y = ix2 r d := ⟨_, _, eq_ix2 y⟩
  obtain ⟨e0, e1, e2, e3, e4, e5, e6, e7⟩ := idx t
  rw [pay_at]
  unfold summed normed
  refine congrArg₂ (· + ·) (congrArg (alpha * ·) (congrArg₂ (· + ·) (congrArg₂ (· * ·) (congrArg₂ (· * ·)
    (congrArg₂ (· - ·) ?_ ?_) ?_) ?_) ?_)) (congrArg₂ (· * ·) ?_ (Finset.sum_congr rfl fun k _ => congrArg₂ (· * ·) ?_ ?_))
  · blk_ext [iblk, V, e2, e7]
  · blk_ext [iblk, V, e4, e7]
  · blk_ext [iblk, V, e4, e7]
  · blk_ext [iblk, V, e5, e7]
  · blk_ext [iblk, V, e6, e7]
  · blk_ext [iblk, V, e3, e7, batchOf]
  · blk_ext [iblk, V, e0, e7]
  · blk_ext [iblk, V, e1, e7]

/-- The kernel terminates with its result at `summed` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = (fun i => summed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out m c), (h c).2⟩) (Value.run_blocks m ρ)

end Cert.Proof.NormedResid

namespace Cert.Proof.NormedResidRef

open Idealize.ShloMosaic Idealize.ShloMosaic.TcCoe Idealize.SL.Sem
open Cert.Reference3Ideal Cert.Reference3Ideal.Gen Cert.Proof.NormedResid

/-- The reference's term at one index. -/
theorem point_at (a0 : FVec Ideal S8192x11008 .bf16) (a1 : FVec Ideal S11008x4096 .bf16) (a2 : FVec Ideal S8192x4096 .f32) (a3 : FVec Ideal S8192x2 .f32) (a4 : FVec Ideal S1x4096 .f32) (a5 : FVec Ideal S1x4096 .f32) (a6 : FVec Ideal S2x1x4096 .f32) (p : Fin 8192) (q : Fin 4096) :
    (shapeCast S8192x4096 (addf (mulf (broadcastInDim S2x4096x4096 ![] bcast_S_S2x4096x4096 (constant S_ .f32 0x3FB504F3#32)) (shapeCast S2x4096x4096 (addf (mulf (mulf (subf a2 (broadcastInDim S8192x4096 ![0, 1] bcast_S8192x1_S8192x4096_0_1 (extractStridedSlice S8192x1 ![0, 0] a3 slices_S8192x2_S8192x1_0_0))) (broadcastInDim S8192x4096 ![0, 1] bcast_S8192x1_S8192x4096_0_1 (extractStridedSlice S8192x1 ![0, 1] a3 slices_S8192x2_S8192x1_0_1))) (broadcastInDim S8192x4096 ![0, 1] bcast_S1x4096_S8192x4096_0_1 a4)) (broadcastInDim S8192x4096 ![0, 1] bcast_S1x4096_S8192x4096_0_1 a5)) shapeCasts_S8192x4096_S2x4096x4096)) (mulf (broadcastInDim S2x4096x4096 ![0, 1, 2] bcast_S2x1x4096_S2x4096x4096_0_1_2 a6) (shapeCast S2x4096x4096 (Host.dotGeneral dot_S8192x11008_S11008x4096_S8192x4096_1_0_0_1_n_n none (extf .f32 a0 bitsLt_bf16_f32) (extf .f32 a1 bitsLt_bf16_f32)) shapeCasts_S8192x4096_S2x4096x4096))) shapeCasts_S2x4096x4096_S8192x4096 : FVec Ideal S8192x4096 .f32) (ix2 p q)
      = summed a0 a1 a2 a3 a4 a5 a6 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun i => summed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run m ρ)
  funext i
  obtain ⟨p, q, rfl⟩ : ∃ (p : Fin 8192) (q : Fin 4096), i = ix2 p q := ⟨_, _, eq_ix2 i⟩
  exact point_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) p q

end Cert.Proof.NormedResidRef
end
-- ==== Proof.MixerIn.lean ====
/- The projection in front of the first layer's mixer, off the turned weights: the kernel's call against the reference. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Proof.MixerIn

open Idealize.ShloMosaic Idealize.ShloMosaic.TcCoe Idealize.ShloMosaic.Tactic Idealize.SL.Sem
open Cert.Kernel4Ideal Cert.Kernel4Ideal.Gen

/-- A vanishing bias adds nothing. -/
theorem plus_zero (s : EReal) {b : EReal} (h : b = 0) : s + b = s := by rw [h, add_zero]

/-- Column `j` of the product of row `r` with the weights, whose last columns (the gates') are another call's. -/
def product (a : (⟨2, ![8192, 4096]⟩ : Shape).Idx → EReal) (w : (⟨3, ![1, 4096, 12304]⟩ : Shape).Idx → EReal) (r : Fin 8192) (j : Fin 12288) : EReal :=
  ∑ k : Fin 4096, a (ix2 r k) * w (ix3 0 k ⟨j.val, by omega⟩)

/-- Where each window's block lies, point by point. -/
theorem idx : ∀ t : Fin cfg0.N, win0_0.index t = ![t.val / 24, 0] ∧ win0_1.index t = ![0, t.val % 24, 0]
    ∧ win0_2.index t = ![0, t.val % 24] ∧ win0_3.index t = ![t.val / 24, t.val % 24] :=
  (by decide +kernel : ∀ t : Fin grid0.N, win0_0.index t = ![t.val / 24, 0] ∧ win0_1.index t = ![0, t.val % 24, 0]
    ∧ win0_2.index t = ![0, t.val % 24] ∧ win0_3.index t = ![t.val / 24, t.val % 24])

variable (m : (ℓ : Loc nD τ sig) → Buf (Elt Ideal) ℓ) (c : Dev nD)

/-- One point's block of the result, of the blocks it reads. -/
theorem pay_at (v0 : Vec Ideal S2048x4096 .bf16) (v1 : Vec Ideal S1x512x4096 .f32) (v5 : Vec Ideal S1x512 .f32) (r : Fin 2048) (d : Fin 512) :
    k0_pay1 v0 v1 v5 (ix2 r d) = (∑ k : Fin 4096, v0 (ix2 r k) * v1 (ix3 0 d k)) + v5 (ix2 0 d) := by
  pointwise [k0_pay1]

/-- The weights' buffer at a point: no fetch of it is cut, so every entry is the block's. -/
theorem weights_at (t : Fin cfg0.N) (d : Fin 512) (k : Fin 4096) :
    (show Vec Ideal S1x512x4096 .f32 from X0_1 m c t) (ix3 0 d k)
      = m ((c : Thread nD τ).loc main_arg1) (ix3 0 k ⟨t.val % 24 * 512 + d.val, by omega⟩) := by
  obtain ⟨e0, e1, e2, e3⟩ := idx t
  show X0_1 m c t (ix3 0 d k) = _
  unfold X0_1 Pipeline.Window.fill
  rw [dif_pos (moved0_1 t _)]
  blk_simp [iblk, e1]
  entry_read
  pointwise
  blk_ext [e1]

/-- The array the kernel leaves as its result. -/
theorem out : (dats m 0 c).arrAt 3 cfg0.N = fun i => product (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  unfold outsAt0 out0_A_3
  frame_open
  frame_out
  obtain ⟨r, d, rfl⟩ : ∃ (r : Fin 2048) (d : Fin 512), y = ix2 r d := ⟨_, _, eq_ix2 y⟩
  obtain ⟨e0, e1, e2, e3⟩ := idx t
  rw [pay_at]
  have hz : (show Vec Ideal S1x512 .f32 from iblk m c 2 t) (ix2 0 d) = (0 : EReal) := by
    blk_simp [iblk, e2]
    entry_read
    pointwise
  refine (plus_zero _ hz).trans ?_
  unfold product
  refine Finset.sum_congr rfl fun k _ => congrArg₂ (· * ·) ?_ ((weights_at m c t d k).trans ?_)
  · blk_ext [iblk, V, e0, e3]
  · blk_ext [e3]

/-- The kernel terminates with its result at `product` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v2) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out m c), (h c).2⟩) (Value.run_blocks m ρ)

end Cert.Proof.MixerIn

namespace Cert.Proof.MixerInRef

open Idealize.ShloMosaic Idealize.ShloMosaic.TcCoe Idealize.SL.Sem
open Cert.Reference4Ideal Cert.Reference4Ideal.Gen Cert.Proof.MixerIn

/-- The reference's term at one index. -/
theorem point_at (a0 : FVec Ideal S8192x4096 .bf16) (a1 : FVec Ideal S1x4096x12304 .f32) (p : Fin 8192) (q : Fin 12288) :
    (truncf .bf16 (extractStridedSlice S8192x12288 ![0, 0] (Host.dotGeneral dot_S8192x4096_S4096x12304_S8192x12304_1_0_0_1_n_n none (extf .f32 a0 bitsLt_bf16_f32) (shapeCast S4096x12304 a1 shapeCasts_S1x4096x12304_S4096x12304)) slices_S8192x12304_S8192x12288_0_0) bitsLt_bf16_f32 : FVec Ideal S8192x12288 .bf16) (ix2 p q)
      = product a0 a1 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨p, q, rfl⟩ : ∃ (p : Fin 8192) (q : Fin 12288), i = ix2 p q := ⟨_, _, eq_ix2 i⟩
  exact point_at (m ((c.tc : Thread nD τ).loc main_arg0)) (m ((c.tc : Thread nD τ).loc main_arg1)) p q

end Cert.Proof.MixerInRef
end
-- ==== Proof.Projection.lean ====
/- A projection of the modulated rows by one matrix: the kernel's call against the reference. -/
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Proof.Projection

open Idealize.ShloMosaic Idealize.ShloMosaic.TcCoe Idealize.ShloMosaic.Tactic Idealize.SL.Sem
open Cert.Kernel5Ideal Cert.Kernel5Ideal.Gen

/-- A vanishing bias adds nothing. -/
theorem plus_zero (s : EReal) {b : EReal} (h : b = 0) : s + b = s := by rw [h, add_zero]

/-- Column `j` of the product of row `r` with the weights. -/
def product (a : (⟨2, ![8192, 4096]⟩ : Shape).Idx → EReal) (w : (⟨3, ![1, 4096, 4096]⟩ : Shape).Idx → EReal) (r : Fin 8192) (j : Fin 4096) : EReal :=
  ∑ k : Fin 4096, a (ix2 r k) * w (ix3 0 k j)

/-- Where each window's block lies, point by point. -/
theorem idx : ∀ t : Fin cfg0.N, win0_0.index t = ![t.val / 8, 0] ∧ win0_1.index t = ![0, 0, t.val % 8]
    ∧ win0_2.index t = ![0, t.val % 8] ∧ win0_3.index t = ![t.val / 8, t.val % 8] :=
  (by decide +kernel : ∀ t : Fin grid0.N, win0_0.index t = ![t.val / 8, 0] ∧ win0_1.index t = ![0, 0, t.val % 8]
    ∧ win0_2.index t = ![0, t.val % 8] ∧ win0_3.index t = ![t.val / 8, t.val % 8])

variable (m : (ℓ : Loc nD τ sig) → Buf (Elt Ideal) ℓ) (c : Dev nD)

/-- One point's block of the result, of the blocks it reads. -/
theorem pay_at (v0 : Vec Ideal S2048x4096 .bf16) (v1 : Vec Ideal S1x4096x512 .f32) (v5 : Vec Ideal S1x512 .f32) (r : Fin 2048) (d : Fin 512) :
    k0_pay1 v0 v1 v5 (ix2 r d) = (∑ k : Fin 4096, v0 (ix2 r k) * v1 (ix3 0 k d)) + v5 (ix2 0 d) := by
  pointwise [k0_pay1]

/-- The array the kernel leaves as its result. -/
theorem out : (dats m 0 c).arrAt 3 cfg0.N = fun i => product (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  frame_out
  obtain ⟨r, d, rfl⟩ : ∃ (r : Fin 2048) (d : Fin 512), y = ix2 r d := ⟨_, _, eq_ix2 y⟩
  obtain ⟨e0, e1, e2, e3⟩ := idx t
  rw [pay_at]
  have hz : (show Vec Ideal S1x512 .f32 from iblk m c 2 t) (ix2 0 d) = (0 : EReal) := by
    blk_simp [iblk, e2]
    entry_read
    pointwise
  refine (plus_zero _ hz).trans ?_
  unfold product
  refine Finset.sum_congr rfl fun k _ => congrArg₂ (· * ·) ?_ ?_
  · blk_ext [iblk, V, e0, e3]
  · blk_ext [iblk, V, e1, e3]

/-- The kernel terminates with its result at `product` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out m c), (h c).2⟩) (Value.run_blocks m ρ)

end Cert.Proof.Projection

namespace Cert.Proof.ProjectionRef

open Idealize.ShloMosaic Idealize.ShloMosaic.TcCoe Idealize.SL.Sem
open Cert.Reference5Ideal Cert.Reference5Ideal.Gen Cert.Proof.Projection

/-- The reference's term at one index. -/
theorem point_at (a0 : FVec Ideal S8192x4096 .bf16) (a1 : FVec Ideal S1x4096x4096 .f32) (p : Fin 8192) (q : Fin 4096) :
    (truncf .bf16 (Host.dotGeneral dot_S8192x4096_S4096x4096_S8192x4096_1_0_0_1_n_n none (extf .f32 a0 bitsLt_bf16_f32) (shapeCast S4096x4096 a1 shapeCasts_S1x4096x4096_S4096x4096)) bitsLt_bf16_f32 : FVec Ideal S8192x4096 .bf16) (ix2 p q)
      = product a0 a1 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨p, q, rfl⟩ : ∃ (p : Fin 8192) (q : Fin 4096), i = ix2 p q := ⟨_, _, eq_ix2 i⟩
  exact point_at (m ((c.tc : Thread nD τ).loc main_arg0)) (m ((c.tc : Thread nD τ).loc main_arg1)) p q

end Cert.Proof.ProjectionRef
end
-- ==== Proof.Resid.lean ====
/- The residual sum behind the first layer's mixer: the kernel's call against the reference. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Proof.Resid

open Idealize.ShloMosaic Idealize.ShloMosaic.TcCoe Idealize.ShloMosaic.Tactic Idealize.SL.Sem
open Cert.Kernel6Ideal Cert.Kernel6Ideal.Gen

/-- The literal scale of the residual: the fourth root of four as the kernel writes it. -/
def alpha : EReal := (Scalar.ofBits .f32 0x3FB504F3#32 : Ideal .f32)

/-- The batch a row belongs to. -/
def batchOf (r : Fin 8192) : Fin 2 := ⟨r.val / 4096, by omega⟩

/-- The result at row `r`, column `j`: the scaled row plus the gated product. -/
def summed (a : (⟨2, ![8192, 4096]⟩ : Shape).Idx → EReal) (w : (⟨2, ![4096, 4096]⟩ : Shape).Idx → EReal) (x : (⟨2, ![8192, 4096]⟩ : Shape).Idx → EReal)
    (g : (⟨3, ![2, 1, 4096]⟩ : Shape).Idx → EReal) (r : Fin 8192) (j : Fin 4096) : EReal :=
  alpha * x (ix2 r j) + g (ix3 (batchOf r) 0 j) * ∑ k : Fin 4096, a (ix2 r k) * w (ix2 k j)

/-- Where each window's block lies, point by point. -/
theorem idx : ∀ t : Fin cfg0.N, win0_0.index t = ![t.val / 4, 0] ∧ win0_1.index t = ![0, t.val % 4]
    ∧ win0_2.index t = ![t.val / 4, t.val % 4] ∧ win0_3.index t = ![t.val / 16, 0, t.val % 4]
    ∧ win0_4.index t = ![t.val / 4, t.val % 4] :=
  (by decide +kernel : ∀ t : Fin grid0.N, win0_0.index t = ![t.val / 4, 0] ∧ win0_1.index t = ![0, t.val % 4]
    ∧ win0_2.index t = ![t.val / 4, t.val % 4] ∧ win0_3.index t = ![t.val / 16, 0, t.val % 4]
    ∧ win0_4.index t = ![t.val / 4, t.val % 4])

variable (m : (ℓ : Loc nD τ sig) → Buf (Elt Ideal) ℓ) (c : Dev nD)

/-- One point's block of the result, of the blocks it reads. -/
theorem pay_at (v0 : Vec Ideal S1024x1024 .f32) (v3 : Vec Ideal S1x1x1024 .f32) (v5 : Vec Ideal S1024x4096 .bf16)
    (v6 : Vec Ideal S4096x1024 .bf16) (r : Fin 1024) (d : Fin 1024) :
    k0_pay1 v0 v3 v5 v6 (ix2 r d)
      = alpha * v0 (ix2 r d) + v3 (ix3 0 0 d) * ∑ k : Fin 4096, v5 (ix2 r k) * v6 (ix2 k d) := by
  pointwise [k0_pay1]
  rfl

/-- The array the kernel leaves as its result. -/
theorem out : (dats m 0 c).arrAt 4 cfg0.N = fun i => summed (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  frame_out
  obtain ⟨r, d, rfl⟩ : ∃ (r : Fin 1024) (d : Fin 1024), y = ix2 r d := ⟨_, _, eq_ix2 y⟩
  obtain ⟨e0, e1, e2, e3, e4⟩ := idx t
  rw [pay_at]
  unfold summed
  refine congrArg₂ (· + ·) (congrArg (alpha * ·) ?_) (congrArg₂ (· * ·) ?_
    (Finset.sum_congr rfl fun k _ => congrArg₂ (· * ·) ?_ ?_))
  · blk_ext [iblk, V, e2, e4]
  · blk_ext [iblk, V, e3, e4, batchOf]
  · blk_ext [iblk, V, e0, e4]
  · blk_ext [iblk, V, e1, e4]

/-- The kernel terminates with its result at `summed` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = (fun i => summed (m ((c.tc : Thread nD τ).loc main_arg0)) (m ((c.tc : Thread nD τ).loc main_arg1)) (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out m c), (h c).2⟩) (Value.run_blocks m ρ)

end Cert.Proof.Resid

namespace Cert.Proof.ResidRef

open Idealize.ShloMosaic Idealize.ShloMosaic.TcCoe Idealize.SL.Sem
open Cert.Reference6Ideal Cert.Reference6Ideal.Gen Cert.Proof.Resid

/-- The reference's term at one index. -/
theorem point_at (a0 : FVec Ideal S8192x4096 .bf16) (a1 : FVec Ideal S4096x4096 .bf16) (a2 : FVec Ideal S8192x4096 .f32) (a3 : FVec Ideal S2x1x4096 .f32) (p : Fin 8192) (q : Fin 4096) :
    (shapeCast S8192x4096 (addf (mulf (broadcastInDim S2x4096x4096 ![] bcast_S_S2x4096x4096 (constant S_ .f32 0x3FB504F3#32)) (shapeCast S2x4096x4096 a2 shapeCasts_S8192x4096_S2x4096x4096)) (mulf (broadcastInDim S2x4096x4096 ![0, 1, 2] bcast_S2x1x4096_S2x4096x4096_0_1_2 a3) (shapeCast S2x4096x4096 (Host.dotGeneral dot_S8192x4096_S4096x4096_S8192x4096_1_0_0_1_n_n none (extf .f32 a0 bitsLt_bf16_f32) (extf .f32 a1 bitsLt_bf16_f32)) shapeCasts_S8192x4096_S2x4096x4096))) shapeCasts_S2x4096x4096_S8192x4096 : FVec Ideal S8192x4096 .f32) (ix2 p q)
      = summed a0 a1 a2 a3 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v10) = (fun i => summed (m ((c.tc : Thread nD τ).loc main_arg0)) (m ((c.tc : Thread nD τ).loc main_arg1)) (m ((c.tc : Thread nD τ).loc main_arg2)) (m ((c.tc : Thread nD τ).loc main_arg3)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  funext i
  obtain ⟨p, q, rfl⟩ : ∃ (p : Fin 8192) (q : Fin 4096), i = ix2 p q := ⟨_, _, eq_ix2 i⟩
  exact point_at (m ((c.tc : Thread nD τ).loc main_arg0)) (m ((c.tc : Thread nD τ).loc main_arg1)) (m ((c.tc : Thread nD τ).loc main_arg2)) (m ((c.tc : Thread nD τ).loc main_arg3)) p q

end Cert.Proof.ResidRef
end
-- ==== Proof.LastNorm.lean ====
/- The last layer norm: the kernel's call against the reference. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Proof.LastNorm

open Idealize.ShloMosaic Idealize.ShloMosaic.TcCoe Idealize.ShloMosaic.Tactic Idealize.SL.Sem
open Cert.Kernel7Ideal Cert.Kernel7Ideal.Gen

/-- The mean of a row's 4096 entries. -/
def mean (x : Fin 4096 → EReal) : EReal := Ideal.div (∑ k : Fin 4096, x k) (Scalar.ofBits .f32 0x45800000#32 : Ideal .f32)

/-- A row normed: off its mean, over the root of its variance with the small literal added. -/
def centred (x : Fin 4096 → EReal) (j : Fin 4096) : EReal :=
  (x j - mean x) * Ideal.rsqrt (mean (fun k => (x k - mean x) * (x k - mean x)) + (Scalar.ofBits .f32 0x3727C5AC#32 : Ideal .f32))

/-- The result at row `r`, column `j`. -/
def normed (x : (⟨2, ![8192, 4096]⟩ : Shape).Idx → EReal) (g b : (⟨2, ![1, 4096]⟩ : Shape).Idx → EReal) (r : Fin 8192) (j : Fin 4096) : EReal :=
  centred (fun k => x (ix2 r k)) j * g (ix2 0 j) + b (ix2 0 j)

/-- Where each window's block lies, point by point. -/
theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, win0_0.index t = ![t.val, 0] ∧ win0_1.index t = ![0, 0]
    ∧ win0_2.index t = ![0, 0] ∧ win0_3.index t = ![t.val, 0])

variable (m : (ℓ : Loc nD τ sig) → Buf (Elt Ideal) ℓ) (c : Dev nD)

/-- One point's block of the result, of the blocks it reads. -/
theorem pay_at (v0 : Vec Ideal S256x4096 .f32) (v15 v16 : Vec Ideal S1x4096 .f32) (r : Fin 256) (d : Fin 4096) :
    k0_pay1 v0 v15 v16 (ix2 r d) = centred (fun k => v0 (ix2 r k)) d * v15 (ix2 0 d) + v16 (ix2 0 d) := by
  pointwise [k0_pay1]
  rfl

/-- The array the kernel leaves as its result. -/
theorem out : (dats m 0 c).arrAt 3 cfg0.N = fun i => normed (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  frame_out
  obtain ⟨r, d, rfl⟩ : ∃ (r : Fin 256) (d : Fin 4096), y = ix2 r d := ⟨_, _, eq_ix2 y⟩
  obtain ⟨e0, e1, e2, e3⟩ := idx t
  rw [pay_at]
  unfold normed
  refine congrArg₂ (· + ·) (congrArg₂ (· * ·) (congrArg₂ (fun x j => centred x j) (funext fun k => ?_) ?_) ?_) ?_
  · blk_ext [iblk, V, e0, e3]
  · apply Fin.ext
    blk_simp [e3]
  · blk_ext [iblk, V, e1, e3]
  · blk_ext [iblk, V, e2, e3]

/-- The kernel terminates with its result at `normed` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = (fun i => normed (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out m c), (h c).2⟩) (Value.run_blocks m ρ)

end Cert.Proof.LastNorm

namespace Cert.Proof.LastNormRef

open Idealize.ShloMosaic Idealize.ShloMosaic.TcCoe Idealize.SL.Sem
open Cert.Reference7Ideal Cert.Reference7Ideal.Gen Cert.Proof.LastNorm

/-- The reference's term at one index. -/
theorem point_at (a0 : FVec Ideal S8192x4096 .f32) (a1 : FVec Ideal S1x4096 .f32) (a2 : FVec Ideal S1x4096 .f32) (p : Fin 8192) (q : Fin 4096) :
    (addf (mulf (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 a1)) (broadcastInDim S8192x4096 ![0, 1] bcast_S1x4096_S8192x4096_0_1 a2) : FVec Ideal S8192x4096 .f32) (ix2 p q)
      = normed a0 a1 a2 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = (fun i => normed (m ((c.tc : Thread nD τ).loc main_arg0)) (m ((c.tc : Thread nD τ).loc main_arg1)) (m ((c.tc : Thread nD τ).loc main_arg2)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  funext i
  obtain ⟨p, q, rfl⟩ : ∃ (p : Fin 8192) (q : Fin 4096), i = ix2 p q := ⟨_, _, eq_ix2 i⟩
  exact point_at (m ((c.tc : Thread nD τ).loc main_arg0)) (m ((c.tc : Thread nD τ).loc main_arg1)) (m ((c.tc : Thread nD τ).loc main_arg2)) p q

end Cert.Proof.LastNormRef
end
-- ==== Proof.MixerResid.lean ====
/- The residual sum behind the second mixer, whose row is normed on the way: the kernel's call against the reference. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Proof.MixerResid

open Idealize.ShloMosaic Idealize.ShloMosaic.TcCoe Idealize.ShloMosaic.Tactic Idealize.SL.Sem
open Cert.Kernel8Ideal Cert.Kernel8Ideal.Gen

/-- The literal scale of the residual: the fourth root of four as the kernel writes it. -/
def alpha : EReal := (Scalar.ofBits .f32 0x3FB504F3#32 : Ideal .f32)

/-- The batch a row belongs to. -/
def batchOf (r : Fin 8192) : Fin 2 := ⟨r.val / 4096, by omega⟩

/-- Entry `j` of row `r` normed with the row's mean and inverse deviation. -/
def normed (z : (⟨2, ![8192, 4096]⟩ : Shape).Idx → EReal) (s : (⟨2, ![8192, 2]⟩ : Shape).Idx → EReal) (g b : (⟨2, ![1, 4096]⟩ : Shape).Idx → EReal)
    (r : Fin 8192) (j : Fin 4096) : EReal :=
  (z (ix2 r j) - s (ix2 r 0)) * s (ix2 r 1) * g (ix2 0 j) + b (ix2 0 j)

/-- The result at row `r`, column `j`: the scaled normed row plus the gated product. -/
def summed (a : (⟨2, ![8192, 4096]⟩ : Shape).Idx → EReal) (w : (⟨2, ![4096, 4096]⟩ : Shape).Idx → EReal) (z : (⟨2, ![8192, 4096]⟩ : Shape).Idx → EReal)
    (s : (⟨2, ![8192, 2]⟩ : Shape).Idx → EReal) (g b : (⟨2, ![1, 4096]⟩ : Shape).Idx → EReal) (gate : (⟨3, ![2, 1, 4096]⟩ : Shape).Idx → EReal)
    (r : Fin 8192) (j : Fin 4096) : EReal :=
  alpha * normed z s g b r j + gate (ix3 (batchOf r) 0 j) * ∑ k : Fin 4096, a (ix2 r k) * w (ix2 k j)

/-- Where each window's block lies, point by point. -/
theorem idx : ∀ t : Fin cfg0.N, win0_0.index t = ![t.val / 4, 0] ∧ win0_1.index t = ![0, t.val % 4]
    ∧ win0_2.index t = ![t.val / 4, t.val % 4] ∧ win0_3.index t = ![t.val / 16, 0, t.val % 4]
    ∧ win0_4.index t = ![t.val / 4, 0] ∧ win0_5.index t = ![0, t.val % 4] ∧ win0_6.index t = ![0, t.val % 4]
    ∧ win0_7.index t = ![t.val / 4, t.val % 4] :=
  (by decide +kernel : ∀ t : Fin grid0.N, win0_0.index t = ![t.val / 4, 0] ∧ win0_1.index t = ![0, t.val % 4]
    ∧ win0_2.index t = ![t.val / 4, t.val % 4] ∧ win0_3.index t = ![t.val / 16, 0, t.val % 4]
    ∧ win0_4.index t = ![t.val / 4, 0] ∧ win0_5.index t = ![0, t.val % 4] ∧ win0_6.index t = ![0, t.val % 4]
    ∧ win0_7.index t = ![t.val / 4, t.val % 4])

variable (m : (ℓ : Loc nD τ sig) → Buf (Elt Ideal) ℓ) (c : Dev nD)

/-- One point's block of the result, of the blocks it reads. -/
theorem pay_at (v0 : Vec Ideal S1024x2 .f32) (v1 : Vec Ideal S1024x1024 .f32) (v4 v5 : Vec Ideal S1x1024 .f32)
    (v16 : Vec Ideal S1x1x1024 .f32) (v18 : Vec Ideal S1024x4096 .bf16) (v19 : Vec Ideal S4096x1024 .bf16)
    (r : Fin 1024) (d : Fin 1024) :
    k0_pay1 v0 v1 v4 v5 v16 v18 v19 (ix2 r d)
      = alpha * ((v1 (ix2 r d) - v0 (ix2 r 0)) * v0 (ix2 r 1) * v4 (ix2 0 d) + v5 (ix2 0 d))
        + v16 (ix3 0 0 d) * ∑ k : Fin 4096, v18 (ix2 r k) * v19 (ix2 k d) := by
  pointwise [k0_pay1]
  rfl

/-- The array the kernel leaves as its result. -/
theorem out : (dats m 0 c).arrAt 7 cfg0.N = fun i => summed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) := by
  refine (dats m 0 c).arrAt_eq_of_covers 7 _ (by decide +kernel) fun t hf y => ?_
  blk_simp
  rw [after0_7]
  frame_out
  obtain ⟨r, d, rfl⟩ : ∃ (r : Fin 1024) (d : Fin 1024), y = ix2 r d := ⟨_, _, eq_ix2 y⟩
  obtain ⟨e0, e1, e2, e3, e4, e5, e6, e7⟩ := idx t
  rw [pay_at]
  unfold summed normed
  refine congrArg₂ (· + ·) (congrArg (alpha * ·) (congrArg₂ (· + ·) (congrArg₂ (· * ·) (congrArg₂ (· * ·)
    (congrArg₂ (· - ·) ?_ ?_) ?_) ?_) ?_)) (congrArg₂ (· * ·) ?_ (Finset.sum_congr rfl fun k _ => congrArg₂ (· * ·) ?_ ?_))
  · blk_ext [iblk, V, e2, e7]
  · blk_ext [iblk, V, e4, e7]
  · blk_ext [iblk, V, e4, e7]
  · blk_ext [iblk, V, e5, e7]
  · blk_ext [iblk, V, e6, e7]
  · blk_ext [iblk, V, e3, e7, batchOf]
  · blk_ext [iblk, V, e0, e7]
  · blk_ext [iblk, V, e1, e7]

/-- The kernel terminates with its result at `summed` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = (fun i => summed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (out m c), (h c).2⟩) (Value.run_blocks m ρ)

end Cert.Proof.MixerResid

namespace Cert.Proof.MixerResidRef

open Idealize.ShloMosaic Idealize.ShloMosaic.TcCoe Idealize.SL.Sem
open Cert.Reference8Ideal Cert.Reference8Ideal.Gen Cert.Proof.MixerResid

/-- The reference's term at one index. -/
theorem point_at (a0 : FVec Ideal S8192x4096 .bf16) (a1 : FVec Ideal S4096x4096 .bf16) (a2 : FVec Ideal S8192x4096 .f32) (a3 : FVec Ideal S8192x2 .f32) (a4 : FVec Ideal S1x4096 .f32) (a5 : FVec Ideal S1x4096 .f32) (a6 : FVec Ideal S2x1x4096 .f32) (p : Fin 8192) (q : Fin 4096) :
    (shapeCast S8192x4096 (addf (mulf (broadcastInDim S2x4096x4096 ![] bcast_S_S2x4096x4096 (constant S_ .f32 0x3FB504F3#32)) (shapeCast S2x4096x4096 (addf (mulf (mulf (subf a2 (broadcastInDim S8192x4096 ![0, 1] bcast_S8192x1_S8192x4096_0_1 (extractStridedSlice S8192x1 ![0, 0] a3 slices_S8192x2_S8192x1_0_0))) (broadcastInDim S8192x4096 ![0, 1] bcast_S8192x1_S8192x4096_0_1 (extractStridedSlice S8192x1 ![0, 1] a3 slices_S8192x2_S8192x1_0_1))) (broadcastInDim S8192x4096 ![0, 1] bcast_S1x4096_S8192x4096_0_1 a4)) (broadcastInDim S8192x4096 ![0, 1] bcast_S1x4096_S8192x4096_0_1 a5)) shapeCasts_S8192x4096_S2x4096x4096)) (mulf (broadcastInDim S2x4096x4096 ![0, 1, 2] bcast_S2x1x4096_S2x4096x4096_0_1_2 a6) (shapeCast S2x4096x4096 (Host.dotGeneral dot_S8192x4096_S4096x4096_S8192x4096_1_0_0_1_n_n none (extf .f32 a0 bitsLt_bf16_f32) (extf .f32 a1 bitsLt_bf16_f32)) shapeCasts_S8192x4096_S2x4096x4096))) shapeCasts_S2x4096x4096_S8192x4096 : FVec Ideal S8192x4096 .f32) (ix2 p q)
      = summed a0 a1 a2 a3 a4 a5 a6 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun i => summed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun _ h c => ⟨(h c).1.trans ?_, (h c).2⟩) (Value.run m ρ)
  funext i
  obtain ⟨p, q, rfl⟩ : ∃ (p : Fin 8192) (q : Fin 4096), i = ix2 p q := ⟨_, _, eq_ix2 i⟩
  exact point_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) p q

end Cert.Proof.MixerResidRef
end
-- ==== Proof.Decay.lean ====
/- The first half of the decay's low-rank projection: the kernel's call against the reference. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384

noncomputable section

namespace Cert.Proof.Decay

open Idealize.ShloMosaic Idealize.ShloMosaic.TcCoe Idealize.ShloMosaic.Tactic Idealize.SL.Sem
open Cert.Kernel9Ideal Cert.Kernel9Ideal.Gen

/-- A vanishing bias adds nothing. -/
theorem plus_zero (s : EReal) {b : EReal} (h : b = 0) : s + b = s := by rw [h, add_zero]

/-- Column `j` of the product of row `r` with the weights, under the call's function. -/
def product (a : (⟨2, ![8192, 4096]⟩ : Shape).Idx → EReal) (w : (⟨3, ![1, 4096, 128]⟩ : Shape).Idx → EReal) (r : Fin 8192) (j : Fin 128) : EReal :=
  Ideal.tanh (∑ k : Fin 4096, a (ix2 r k) * w (ix3 0 k j))

/-- Where each window's block lies, point by point. -/
theorem idx : ∀ t : Fin cfg0.N, win0_0.index t = ![t.val, 0] ∧ win0_1.index t = ![0, 0, 0]
    ∧ win0_2.index t = ![0, 0] ∧ win0_3.index t = ![t.val, 0] :=
  (by decide +kernel : ∀ t : Fin grid0.N, win0_0.index t = ![t.val, 0] ∧ win0_1.index t = ![0, 0, 0]
    ∧ win0_2.index t = ![0, 0] ∧ win0_3.index t = ![t.val, 0])

variable (m : (ℓ : Loc nD τ sig) → Buf (Elt Ideal) ℓ) (c : Dev nD)

/-- One point's block of the result, of the blocks it reads. -/
theorem pay_at (v0 : Vec Ideal S2048x4096 .bf16) (v1 : Vec Ideal S1x4096x128 .f32) (v5 : Vec Ideal S1x128 .f32) (r : Fin 2048) (d : Fin 128) :
    k0_pay1 v0 v1 v5 (ix2 r d) = Ideal.tanh ((∑ k : Fin 4096, v0 (ix2 r k) * v1 (ix3 0 k d)) + v5 (ix2 0 d)) := by
  pointwise [k0_pay1]

/-- The array the kernel leaves as its result. -/
theorem out : (dats m 0 c).arrAt 3 cfg0.N = fun i => product (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  frame_out
  obtain ⟨r, d, rfl⟩ : ∃ (r : Fin 2048) (d : Fin 128), y = ix2 r d := ⟨_, _, eq_ix2 y⟩
  obtain ⟨e0, e1, e2, e3⟩ := idx t
  rw [pay_at]
  have hz : (show Vec Ideal S1x128 .f32 from iblk m c 2 t) (ix2 0 d) = (0 : EReal) := by
    blk_simp [iblk, e2]
    entry_read
    pointwise
  refine (congrArg Ideal.tanh (plus_zero _ hz)).trans ?_
  unfold product
  refine congrArg Ideal.tanh (Finset.sum_congr rfl fun k _ => congrArg₂ (· * ·) ?_ ?_)
  · blk_ext [iblk, V, e0, e3]
  · blk_ext [iblk, V, e1, e3]

/-- The kernel terminates with its result at `product` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out m c), (h c).2⟩) (Value.run_blocks m ρ)

end Cert.Proof.Decay

namespace Cert.Proof.DecayRef

open Idealize.ShloMosaic Idealize.ShloMosaic.TcCoe Idealize.SL.Sem
open Cert.Reference9Ideal Cert.Reference9Ideal.Gen Cert.Proof.Decay

/-- The reference's term at one index. -/
theorem point_at (a0 : FVec Ideal S8192x4096 .bf16) (a1 : FVec Ideal S1x4096x128 .f32) (p : Fin 8192) (q : Fin 128) :
    (truncf .bf16 (Host.tanh (Host.dotGeneral dot_S8192x4096_S4096x128_S8192x128_1_0_0_1_n_n none (extf .f32 a0 bitsLt_bf16_f32) (shapeCast S4096x128 a1 shapeCasts_S1x4096x128_S4096x128))) bitsLt_bf16_f32 : FVec Ideal S8192x128 .bf16) (ix2 p q)
      = product a0 a1 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨p, q, rfl⟩ : ∃ (p : Fin 8192) (q : Fin 128), i = ix2 p q := ⟨_, _, eq_ix2 i⟩
  exact point_at (m ((c.tc : Thread nD τ).loc main_arg0)) (m ((c.tc : Thread nD τ).loc main_arg1)) p q

end Cert.Proof.DecayRef
end
-- ==== Proof.Rate.lean ====
/- The first half of the learning rate's low-rank projection: the kernel's call against the reference. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.ValueKit

@[expose] public section

set_option maxRecDepth 16384

noncomputable section

namespace Cert.Proof.Rate

open Idealize.ShloMosaic Idealize.ShloMosaic.TcCoe Idealize.ShloMosaic.Tactic Idealize.SL.Sem
open Cert.Kernel10Ideal Cert.Kernel10Ideal.Gen

/-- A vanishing bias adds nothing. -/
theorem plus_zero (s : EReal) {b : EReal} (h : b = 0) : s + b = s := by rw [h, add_zero]

/-- Column `j` of the product of row `r` with the weights. -/
def product (a : (⟨2, ![8192, 4096]⟩ : Shape).Idx → EReal) (w : (⟨3, ![1, 4096, 128]⟩ : Shape).Idx → EReal) (r : Fin 8192) (j : Fin 128) : EReal :=
  ∑ k : Fin 4096, a (ix2 r k) * w (ix3 0 k j)

/-- Where each window's block lies, point by point. -/
theorem idx : ∀ t : Fin cfg0.N, win0_0.index t = ![t.val, 0] ∧ win0_1.index t = ![0, 0, 0]
    ∧ win0_2.index t = ![0, 0] ∧ win0_3.index t = ![t.val, 0] :=
  (by decide +kernel : ∀ t : Fin grid0.N, win0_0.index t = ![t.val, 0] ∧ win0_1.index t = ![0, 0, 0]
    ∧ win0_2.index t = ![0, 0] ∧ win0_3.index t = ![t.val, 0])

variable (m : (ℓ : Loc nD τ sig) → Buf (Elt Ideal) ℓ) (c : Dev nD)

/-- One point's block of the result, of the blocks it reads. -/
theorem pay_at (v0 : Vec Ideal S2048x4096 .bf16) (v1 : Vec Ideal S1x4096x128 .f32) (v5 : Vec Ideal S1x128 .f32) (r : Fin 2048) (d : Fin 128) :
    k0_pay1 v0 v1 v5 (ix2 r d) = (∑ k : Fin 4096, v0 (ix2 r k) * v1 (ix3 0 k d)) + v5 (ix2 0 d) := by
  pointwise [k0_pay1]

/-- The array the kernel leaves as its result. -/
theorem out : (dats m 0 c).arrAt 3 cfg0.N = fun i => product (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  frame_out
  obtain ⟨r, d, rfl⟩ : ∃ (r : Fin 2048) (d : Fin 128), y = ix2 r d := ⟨_, _, eq_ix2 y⟩
  obtain ⟨e0, e1, e2, e3⟩ := idx t
  rw [pay_at]
  have hz : (show Vec Ideal S1x128 .f32 from iblk m c 2 t) (ix2 0 d) = (0 : EReal) := by
    blk_simp [iblk, e2]
    entry_read
    pointwise
  refine (plus_zero _ hz).trans ?_
  unfold product
  refine Finset.sum_congr rfl fun k _ => congrArg₂ (· * ·) ?_ ?_
  · blk_ext [iblk, V, e0, e3]
  · blk_ext [iblk, V, e1, e3]

/-- The kernel terminates with its result at `product` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out m c), (h c).2⟩) (Value.run_blocks m ρ)

end Cert.Proof.Rate

namespace Cert.Proof.RateRef

open Idealize.ShloMosaic Idealize.ShloMosaic.TcCoe Idealize.SL.Sem
open Cert.Reference10Ideal Cert.Reference10Ideal.Gen Cert.Proof.Rate

/-- The reference's term at one index. -/
theorem point_at (a0 : FVec Ideal S8192x4096 .bf16) (a1 : FVec Ideal S1x4096x128 .f32) (p : Fin 8192) (q : Fin 128) :
    (truncf .bf16 (Host.dotGeneral dot_S8192x4096_S4096x128_S8192x128_1_0_0_1_n_n none (extf .f32 a0 bitsLt_bf16_f32) (shapeCast S4096x128 a1 shapeCasts_S1x4096x128_S4096x128)) bitsLt_bf16_f32 : FVec Ideal S8192x128 .bf16) (ix2 p q)
      = product a0 a1 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨p, q, rfl⟩ : ∃ (p : Fin 8192) (q : Fin 128), i = ix2 p q := ⟨_, _, eq_ix2 i⟩
  exact point_at (m ((c.tc : Thread nD τ).loc main_arg0)) (m ((c.tc : Thread nD τ).loc main_arg1)) p q

end Cert.Proof.RateRef
end
-- ==== Proof.Gate.lean ====
/- The first half of the output gate's low-rank projection: the kernel's call against the reference. -/
module

public import proofs.«01_k».proof.Proof.Gen.Kernel11Ideal.Value
public import proofs.«01_k».proof.Proof.Gen.Reference11Ideal.Run
public import proofs.«01_k».proof.Proof.Spec
public import Idealize.ShloMosaic.Lib.Pointwise
public import Idealize.ShloMosaic.Lib.Pipeline.ValueKit

@[expose] public section

set_option maxRecDepth 16384

noncomputable section

namespace Cert.Proof.Gate

open Idealize.ShloMosaic Idealize.ShloMosaic.TcCoe Idealize.ShloMosaic.Tactic Idealize.SL.Sem
open Cert.Kernel11Ideal Cert.Kernel11Ideal.Gen

/-- A vanishing bias adds nothing. -/
theorem plus_zero (s : EReal) {b : EReal} (h : b = 0) : s + b = s := by rw [h, add_zero]

/-- The logistic function. -/
def sigmoid (x : EReal) : EReal := Ideal.div 1 (1 + Ideal.exp (-x))

/-- Column `j` of the product of row `r` with the weights, under the call's function. -/
def product (a : (⟨2, ![8192, 4096]⟩ : Shape).Idx → EReal) (w : (⟨3, ![1, 4096, 480]⟩ : Shape).Idx → EReal) (r : Fin 8192) (j : Fin 480) : EReal :=
  sigmoid (∑ k : Fin 4096, a (ix2 r k) * w (ix3 0 k j))

/-- Where each window's block lies, point by point. -/
theorem idx : ∀ t : Fin cfg0.N, win0_0.index t = ![t.val, 0] ∧ win0_1.index t = ![0, 0, 0]
    ∧ win0_2.index t = ![0, 0] ∧ win0_3.index t = ![t.val, 0] :=
  (by decide +kernel : ∀ t : Fin grid0.N, win0_0.index t = ![t.val, 0] ∧ win0_1.index t = ![0, 0, 0]
    ∧ win0_2.index t = ![0, 0] ∧ win0_3.index t = ![t.val, 0])

variable (m : (ℓ : Loc nD τ sig) → Buf (Elt Ideal) ℓ) (c : Dev nD)

/-- One point's block of the result, of the blocks it reads. -/
theorem pay_at (v0 : Vec Ideal S2048x4096 .bf16) (v1 : Vec Ideal S1x4096x480 .f32) (v5 : Vec Ideal S1x480 .f32) (r : Fin 2048) (d : Fin 480) :
    k0_pay1 v0 v1 v5 (ix2 r d) = sigmoid ((∑ k : Fin 4096, v0 (ix2 r k) * v1 (ix3 0 k d)) + v5 (ix2 0 d)) := by
  pointwise [k0_pay1]
  simp only [Spec.zero_sub']
  rfl

/-- The array the kernel leaves as its result. -/
theorem out : (dats m 0 c).arrAt 3 cfg0.N = fun i => product (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  frame_out
  obtain ⟨r, d, rfl⟩ : ∃ (r : Fin 2048) (d : Fin 480), y = ix2 r d := ⟨_, _, eq_ix2 y⟩
  obtain ⟨e0, e1, e2, e3⟩ := idx t
  rw [pay_at]
  have hz : (show Vec Ideal S1x480 .f32 from iblk m c 2 t) (ix2 0 d) = (0 : EReal) := by
    blk_simp [iblk, e2]
    entry_read
    pointwise
  refine (congrArg sigmoid (plus_zero _ hz)).trans ?_
  unfold product
  refine congrArg sigmoid (Finset.sum_congr rfl fun k _ => congrArg₂ (· * ·) ?_ ?_)
  · blk_ext [iblk, V, e0, e3]
  · blk_ext [iblk, V, e1, e3]

/-- The kernel terminates with its result at `product` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out m c), (h c).2⟩) (Value.run_blocks m ρ)

end Cert.Proof.Gate

namespace Cert.Proof.GateRef

open Idealize.ShloMosaic Idealize.ShloMosaic.TcCoe Idealize.SL.Sem
open Cert.Reference11Ideal Cert.Reference11Ideal.Gen Cert.Proof.Gate

/-- The reference's term at one index. -/
theorem point_at (a0 : FVec Ideal S8192x4096 .bf16) (a1 : FVec Ideal S1x4096x480 .f32) (p : Fin 8192) (q : Fin 480) :
    (truncf .bf16 (Host.divf (broadcastInDim S8192x480 ![] bcast_S_S8192x480 (constant S_ .f32 0x3F800000#32)) (addf (broadcastInDim S8192x480 ![] bcast_S_S8192x480 (constant S_ .f32 0x3F800000#32)) (Host.exp (Host.negf (Host.dotGeneral dot_S8192x4096_S4096x480_S8192x480_1_0_0_1_n_n none (extf .f32 a0 bitsLt_bf16_f32) (shapeCast S4096x480 a1 shapeCasts_S1x4096x480_S4096x480)))))) bitsLt_bf16_f32 : FVec Ideal S8192x480 .bf16) (ix2 p q)
      = product a0 a1 p q := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = (fun i => product (m ((c.tc : Thread nD τ).loc main_arg0)) (m ((c.tc : Thread nD τ).loc main_arg1)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩) (Value.run m ρ)
  funext i
  obtain ⟨p, q, rfl⟩ : ∃ (p : Fin 8192) (q : Fin 480), i = ix2 p q := ⟨_, _, eq_ix2 i⟩
  exact point_at (m ((c.tc : Thread nD τ).loc main_arg0)) (m ((c.tc : Thread nD τ).loc main_arg1)) p q

end Cert.Proof.GateRef
end
-- ==== Proof.Modulate.lean ====
/- The modulated stream and its gates: the kernel's call against the reference. The kernel's gates lie side by side in the
   first sixteen of 128 columns; weights and biases are zero behind them. -/
module

public import proofs.«01_k».proof.Proof.Spec
public import proofs.«01_k».proof.Proof.Gen.Kernel12Ideal.Value
public import proofs.«01_k».proof.Proof.Gen.Reference12Ideal.Run
public import Idealize.ShloMosaic.Lib.Pointwise
public import Idealize.ShloMosaic.Lib.WordCmp
public import Idealize.ShloMosaic.Lib.Pipeline.ValueKit

@[expose] public section

set_option maxRecDepth 16384

noncomputable section

namespace Cert.Proof.Modulate

open Idealize.ShloMosaic Idealize.ShloMosaic.TcCoe Idealize.ShloMosaic.Tactic Idealize.SL.Sem
open Cert.Kernel12Ideal Cert.Kernel12Ideal.Gen

/-- The batch a row belongs to. -/
def batchOf (r : Fin 8192) : Fin 2 := ⟨r.val / 4096, by omega⟩

/-- The modulated stream at row `r`, column `j`. -/
def stream (x : (⟨2, ![8192, 4096]⟩ : Shape).Idx → EReal) (sc sh : (⟨3, ![2, 1, 4096]⟩ : Shape).Idx → EReal) (r : Fin 8192) (j : Fin 4096) : EReal :=
  x (ix2 r j) * (1 + sc (ix3 (batchOf r) 0 j)) + sh (ix3 (batchOf r) 0 j)

/-- The cap of the input gates. -/
def cap : EReal := Ideal.ofBits .f32 0x41700000#32

/-- An input gate's soft cap. -/
def capped (y : EReal) : EReal := cap * Ideal.tanh (Ideal.div y cap)

/-- The logarithm of the logistic function, as both sides take it. -/
def logSig (y : EReal) : EReal := -(max (-y) 0 + Ideal.log1p (Ideal.exp (-(max (-y) (- -y)))))

/-- The gate in column `j`: the input gates are capped, the forget gates and the unused columns behind them are log-sigmoids. -/
def act (j : Fin 128) (y : EReal) : EReal := if j.val < 8 then capped y else logSig y

/-- Gate column `j`'s weight at row `k`; zero behind the sixteenth. -/
def weight (w : (⟨3, ![1, 4096, 12304]⟩ : Shape).Idx → EReal) (k : Fin 4096) (j : Fin 128) : EReal :=
  if h : j.val < 16 then w (ix3 0 k ⟨12288 + j.val, by omega⟩) else 0

/-- Gate column `j`'s bias; zero behind the sixteenth. -/
def bias (bi bf : (⟨2, ![1, 8]⟩ : Shape).Idx → EReal) (j : Fin 128) : EReal :=
  if h : j.val < 8 then bi (ix2 0 ⟨j.val, h⟩) else if h : j.val < 16 then bf (ix2 0 ⟨j.val - 8, by omega⟩) else 0

/-- The gate at row `r`, column `j`. -/
def gate (x : (⟨2, ![8192, 4096]⟩ : Shape).Idx → EReal) (sc sh : (⟨3, ![2, 1, 4096]⟩ : Shape).Idx → EReal)
    (w : (⟨3, ![1, 4096, 12304]⟩ : Shape).Idx → EReal) (bi bf : (⟨2, ![1, 8]⟩ : Shape).Idx → EReal) (r : Fin 8192) (j : Fin 128) : EReal :=
  act j ((∑ k : Fin 4096, stream x sc sh r k * weight w k j) + bias bi bf j)

/-- The integer zero as a number. -/
theorem int_zero : (FloatOps.sitofp .f32 (0#32 : BitVec 32) : Ideal .f32) = (0 : EReal) := by
  show (((0#32 : BitVec 32).toInt : ℝ) : EReal) = 0
  simp

/-- Where each window's block lies, point by point. -/
theorem idx : ∀ t : Fin cfg0.N, win0_0.index t = ![t.val, 0] ∧ win0_1.index t = ![t.val / 8, 0, 0]
    ∧ win0_2.index t = ![t.val / 8, 0, 0] ∧ win0_3.index t = ![0, 0, 0] ∧ win0_4.index t = ![0, 0]
    ∧ win0_5.index t = ![t.val, 0] ∧ win0_6.index t = ![t.val, 0] :=
  (by decide +kernel : ∀ t : Fin grid0.N, win0_0.index t = ![t.val, 0] ∧ win0_1.index t = ![t.val / 8, 0, 0]
    ∧ win0_2.index t = ![t.val / 8, 0, 0] ∧ win0_3.index t = ![0, 0, 0] ∧ win0_4.index t = ![0, 0]
    ∧ win0_5.index t = ![t.val, 0] ∧ win0_6.index t = ![t.val, 0])

variable (m : (ℓ : Loc nD τ sig) → Buf (Elt Ideal) ℓ) (c : Dev nD)

/-- One point's block of the stream, of the blocks it reads. -/
theorem stream_at (v0 : Vec Ideal S512x4096 .f32) (v1 v7 : Vec Ideal S1x1x4096 .f32) (r : Fin 512) (d : Fin 4096) :
    k0_pay2 v0 v1 v7 (ix2 r d) = v0 (ix2 r d) * (1 + v1 (ix3 0 0 d)) + v7 (ix3 0 0 d) := by
  pointwise [k0_pay2]

/-- One point's gates before the activation. -/
theorem pre_at (v0 : Vec Ideal S512x4096 .f32) (v1 v7 : Vec Ideal S1x1x4096 .f32) (v13 : Vec Ideal S1x4096x128 .f32) (v17 : Vec Ideal S1x128 .f32) (r : Fin 512) (d : Fin 128) :
    k0_pay3 v0 v1 v7 v13 v17 (ix2 r d) = (∑ k : Fin 4096, (v0 (ix2 r k) * (1 + v1 (ix3 0 0 k)) + v7 (ix3 0 0 k)) * v13 (ix3 0 k d)) + v17 (ix2 0 d) := by
  pointwise [k0_pay3, k0_pay2]

/-- The activation, column by column. -/
theorem act_at (Y : FVec Ideal S512x128 .f32) (r : Fin 512) (d : Fin 128) :
    k0_pay1 (iota .tc S512x128 32 [1] iota_S512x128_d1_w32)
      (mulf (broadcast S512x128 (Scalar.ofBits .f32 0x41700000#32)) (tanh (divf Y (broadcast S512x128 (Scalar.ofBits .f32 0x41700000#32)))))
      (maximumf (subf (broadcast S512x128 (Scalar.ofBits .f32 0x00000000#32)) Y) (broadcast S512x128 (Scalar.ofBits .f32 0x00000000#32)))
      (log1p (exp (subf (broadcast S512x128 (Scalar.ofBits .f32 0x00000000#32)) (absf (subf (broadcast S512x128 (Scalar.ofBits .f32 0x00000000#32)) Y))))) (ix2 r d)
      = act d (Y (ix2 r d)) := by
  pointwise [k0_pay1]
  simp only [Spec.zero_sub']
  rw [WordCmp.cmpi_slt_ofNat (by omega) (by omega)]
  unfold act
  by_cases h : d.val < 8
  · simp only [h, decide_true, if_true]
    rfl
  · simp only [h, decide_false, if_false]
    rfl

/-- The weights as the call finds them. -/
theorem entry3 : V m c main_v1 = (pad S1x4096x128 ![0, 0, 0] ![0, 0, 112] ![0, 0, 0] (extractStridedSlice S1x4096x16 ![0, 0, 12288] (m ((c : Thread nD τ).loc main_arg3)) slices_S1x4096x12304_S1x4096x16_0_0_12288) (sitofp .f32 (constantI S_ 32 0#32)) pads_S1x4096x16_S1x4096x128_000_000_01120 h_S_ : FVec Ideal S1x4096x128 .f32) := by
  unfold V
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results_simp

/-- The biases as the call finds them. -/
theorem entry4 : V m c main_v6 = (shapeCast S1x128 (pad S128 ![0] ![112] ![0] (concatenate S16 0 [⟨S8, (shapeCast S8 (m ((c : Thread nD τ).loc main_arg4)) shapeCasts_S1x8_S8 : FVec Ideal S8 .f32)⟩, ⟨S8, (shapeCast S8 (m ((c : Thread nD τ).loc main_arg5)) shapeCasts_S1x8_S8 : FVec Ideal S8 .f32)⟩] concatenates_S8_S8_S16_d0) (sitofp .f32 (constantI S_ 32 0#32)) pads_S16_S128_01120 h_S_) shapeCasts_S128_S1x128 : FVec Ideal S1x128 .f32) := by
  unfold V
  simp only [hostOps0, hostOps0_1, hostOps0_2, hostOps0_3, hostOps0_4, List.flatten_cons, List.flatten_nil, List.append_nil, List.cons_append,
    List.nil_append, StableHlo.TRef.unary, StableHlo.TRef.binary, StableHlo.TRef.toBuf, StableHlo.TRef.ofBuf, cast_eq]
  after_results_simp
  rfl

/-- The weight's block: the padded gate columns. -/
theorem weight_at (t : Fin cfg0.N) (k : Fin 4096) (d : Fin 128) :
    (show Vec Ideal S1x4096x128 .f32 from iblk m c 3 t) (ix3 0 k d) = weight (m ((c : Thread nD τ).loc main_arg3)) k d := by
  obtain ⟨e0, e1, e2, e3, e4, e5, e6⟩ := idx t
  blk_simp [iblk, e3]
  rw [entry3]
  pointwise
  have ek : (((View.whole main_v1).slice (win0_3.rect t)).emb (ix3 0 k d) 1 : Fin 4096) = k := by
    apply Fin.ext
    blk_simp [e3]
  have ed : (((View.whole main_v1).slice (win0_3.rect t)).emb (ix3 0 k d) 2 : Fin 128) = d := by
    apply Fin.ext
    blk_simp [e3]
  unfold weight
  simp only [ek, ed, int_zero]

/-- The bias's block: the padded biases. -/
theorem bias_at (t : Fin cfg0.N) (d : Fin 128) :
    (show Vec Ideal S1x128 .f32 from iblk m c 4 t) (ix2 0 d) = bias (m ((c : Thread nD τ).loc main_arg4)) (m ((c : Thread nD τ).loc main_arg5)) d := by
  obtain ⟨e0, e1, e2, e3, e4, e5, e6⟩ := idx t
  blk_simp [iblk, e4]
  rw [entry4]
  pointwise
  have ed : (((View.whole main_v6).slice (win0_4.rect t)).emb (ix2 0 d) 1 : Fin 128) = d := by
    apply Fin.ext
    blk_simp [e4]
  unfold bias
  simp only [ed, int_zero]
  by_cases h : d.val < 8
  · have h' : d.val < 16 := by omega
    simp only [dif_pos h, dif_pos h']
  · by_cases h' : d.val < 16
    · simp only [dif_neg h, dif_pos h']
    · simp only [dif_neg h, dif_neg h']

/-- The array the kernel leaves as its first result. -/
theorem out5 : (dats m 0 c).arrAt 5 cfg0.N = fun i => stream (m ((c : Thread nD τ).loc main_arg0)) (m ((c : Thread nD τ).loc main_arg1)) (m ((c : Thread nD τ).loc main_arg2)) (i 0) (i 1) := by
  refine (dats m 0 c).arrAt_eq_of_covers 5 _ (by decide +kernel) fun t hf y => ?_
  blk_simp
  rw [after0_5]
  frame_out
  obtain ⟨r, d, rfl⟩ : ∃ (r : Fin 512) (d : Fin 4096), y = ix2 r d := ⟨_, _, eq_ix2 y⟩
  obtain ⟨e0, e1, e2, e3, e4, e5, e6⟩ := idx t
  rw [stream_at]
  unfold stream
  refine congrArg₂ (· + ·) (congrArg₂ (· * ·) ?_ (congrArg (1 + ·) ?_)) ?_
  · blk_ext [iblk, V, e0, e5]
  · blk_ext [iblk, V, e1, e5, batchOf]
  · blk_ext [iblk, V, e2, e5, batchOf]

/-- The array the kernel leaves as its second result. -/
theorem out6 : (dats m 0 c).arrAt 6 cfg0.N = fun i => gate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  frame_out
  obtain ⟨r, d, rfl⟩ : ∃ (r : Fin 512) (d : Fin 128), y = ix2 r d := ⟨_, _, eq_ix2 y⟩
  obtain ⟨e0, e1, e2, e3, e4, e5, e6⟩ := idx t
  refine (act_at _ r d).trans ?_
  rw [pre_at]
  unfold gate
  have ed : (((cfg0.win 6).blk t).view.emb (ix2 r d) 1 : Fin 128) = d := by
    apply Fin.ext
    blk_simp [e6]
  refine congrArg₂ act ed.symm (congrArg₂ (· + ·) (Finset.sum_congr rfl fun k _ => congrArg₂ (· * ·) ?_ ((weight_at m c t k d).trans (congrArg _ ed.symm))) ((bias_at m c t d).trans (congrArg _ ed.symm)))
  unfold stream
  refine congrArg₂ (· + ·) (congrArg₂ (· * ·) ?_ (congrArg (1 + ·) ?_)) ?_
  · blk_ext [iblk, V, e0, e6]
  · blk_ext [iblk, V, e1, e6, batchOf]
  · blk_ext [iblk, V, e2, e6, batchOf]

/-- The kernel terminates with its results at `stream` and `gate` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v7_0) = (fun i => stream (m ((c.tc : Thread nD τ).loc main_arg0)) (m ((c.tc : Thread nD τ).loc main_arg1)) (m ((c.tc : Thread nD τ).loc main_arg2)) (i 0) (i 1))
      ∧ r.2.mem ((c.tc : Thread nD τ).loc main_v7_1) = (fun i => gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out5 m c), (h c).2.1.trans (out6 m c), (h c).2.2⟩) (Value.run_blocks m ρ)

end Cert.Proof.Modulate

namespace Cert.Proof.ModulateRef

open Idealize.ShloMosaic Idealize.ShloMosaic.TcCoe Idealize.SL.Sem
open Cert.Reference12Ideal Cert.Reference12Ideal.Gen Cert.Proof.Modulate

/-- The reference's first term at one index. -/
theorem stream_at (a0 : FVec Ideal S8192x4096 .f32) (a1 a2 : FVec Ideal S2x1x4096 .f32) (p : Fin 8192) (q : Fin 4096) :
    (truncf .bf16 (shapeCast S8192x4096 (addf (mulf (shapeCast S2x4096x4096 a0 shapeCasts_S8192x4096_S2x4096x4096) (broadcastInDim S2x4096x4096 ![0, 1, 2] bcast_S2x1x4096_S2x4096x4096_0_1_2 (addf (broadcastInDim S2x1x4096 ![] bcast_S_S2x1x4096 (constant S_ .f32 0x3F800000#32)) a1))) (broadcastInDim S2x4096x4096 ![0, 1, 2] bcast_S2x1x4096_S2x4096x4096_0_1_2 a2)) shapeCasts_S2x4096x4096_S8192x4096) bitsLt_bf16_f32 : FVec Ideal S8192x4096 .bf16) (ix2 p q) = stream a0 a1 a2 p q := by
  pointwise
  rfl

/-- The reference's projection at one index. -/
theorem dot_at (a0 : FVec Ideal S8192x4096 .f32) (a1 a2 : FVec Ideal S2x1x4096 .f32) (a3 : FVec Ideal S1x4096x12304 .f32) (p : Fin 8192) (q : Fin 12304) :
    ((Host.dotGeneral dot_S8192x4096_S4096x12304_S8192x12304_1_0_0_1_n_n none (shapeCast S8192x4096 (addf (mulf (shapeCast S2x4096x4096 a0 shapeCasts_S8192x4096_S2x4096x4096) (broadcastInDim S2x4096x4096 ![0, 1, 2] bcast_S2x1x4096_S2x4096x4096_0_1_2 (addf (broadcastInDim S2x1x4096 ![] bcast_S_S2x1x4096 (constant S_ .f32 0x3F800000#32)) a1))) (broadcastInDim S2x4096x4096 ![0, 1, 2] bcast_S2x1x4096_S2x4096x4096_0_1_2 a2)) shapeCasts_S2x4096x4096_S8192x4096) (shapeCast S4096x12304 a3 shapeCasts_S1x4096x12304_S4096x12304)) : FVec Ideal S8192x12304 .f32) (ix2 p q) = ∑ k : Fin 4096, stream a0 a1 a2 p k * a3 (ix3 0 k q) := by
  pointwise
  rfl

/-- The activation of what the reference projects, at one index. -/
theorem act_at (G : FVec Ideal S8192x12304 .f32) (a4 a5 : FVec Ideal S1x8 .f32) (p : Fin 8192) (q : Fin 128) :
    ((concatenate S8192x128 1 [⟨S8192x8, ((mulf (broadcastInDim S8192x8 ![] bcast_S_S8192x8 (constant S_ .f32 0x41700000#32)) (Host.tanh (Host.divf (addf (extractStridedSlice S8192x8 ![0, 0] (extractStridedSlice S8192x16 ![0, 12288] G slices_S8192x12304_S8192x16_0_12288) slices_S8192x16_S8192x8_0_0) (broadcastInDim S8192x8 ![0, 1] bcast_S1x8_S8192x8_0_1 (broadcastInDim S1x8 ![1] bcast_S8_S1x8_1 (shapeCast S8 a4 shapeCasts_S1x8_S8)))) (broadcastInDim S8192x8 ![] bcast_S_S8192x8 (constant S_ .f32 0x41700000#32))))) : FVec Ideal S8192x8 .f32)⟩, ⟨S8192x8, ((Host.negf (select (cmpf .une (subf (Host.negf (addf (extractStridedSlice S8192x8 ![0, 8] (extractStridedSlice S8192x16 ![0, 12288] G slices_S8192x12304_S8192x16_0_12288) slices_S8192x16_S8192x8_0_8) (broadcastInDim S8192x8 ![0, 1] bcast_S1x8_S8192x8_0_1 (broadcastInDim S1x8 ![1] bcast_S8_S1x8_1 (shapeCast S8 a5 shapeCasts_S1x8_S8))))) (broadcastInDim S8192x8 ![] bcast_S_S8192x8 (constant S_ .f32 0x00000000#32))) (subf (Host.negf (addf (extractStridedSlice S8192x8 ![0, 8] (extractStridedSlice S8192x16 ![0, 12288] G slices_S8192x12304_S8192x16_0_12288) slices_S8192x16_S8192x8_0_8) (broadcastInDim S8192x8 ![0, 1] bcast_S1x8_S8192x8_0_1 (broadcastInDim S1x8 ![1] bcast_S8_S1x8_1 (shapeCast S8 a5 shapeCasts_S1x8_S8))))) (broadcastInDim S8192x8 ![] bcast_S_S8192x8 (constant S_ .f32 0x00000000#32)))) (addf (Host.negf (addf (extractStridedSlice S8192x8 ![0, 8] (extractStridedSlice S8192x16 ![0, 12288] G slices_S8192x12304_S8192x16_0_12288) slices_S8192x16_S8192x8_0_8) (broadcastInDim S8192x8 ![0, 1] bcast_S1x8_S8192x8_0_1 (broadcastInDim S1x8 ![1] bcast_S8_S1x8_1 (shapeCast S8 a5 shapeCasts_S1x8_S8))))) (broadcastInDim S8192x8 ![] bcast_S_S8192x8 (constant S_ .f32 0x00000000#32))) (addf (maximumf (Host.negf (addf (extractStridedSlice S8192x8 ![0, 8] (extractStridedSlice S8192x16 ![0, 12288] G slices_S8192x12304_S8192x16_0_12288) slices_S8192x16_S8192x8_0_8) (broadcastInDim S8192x8 ![0, 1] bcast_S1x8_S8192x8_0_1 (broadcastInDim S1x8 ![1] bcast_S8_S1x8_1 (shapeCast S8 a5 shapeCasts_S1x8_S8))))) (broadcastInDim S8192x8 ![] bcast_S_S8192x8 (constant S_ .f32 0x00000000#32))) (Host.log1p (Host.exp (Host.negf (Host.absf (subf (Host.negf (addf (extractStridedSlice S8192x8 ![0, 8] (extractStridedSlice S8192x16 ![0, 12288] G slices_S8192x12304_S8192x16_0_12288) slices_S8192x16_S8192x8_0_8) (broadcastInDim S8192x8 ![0, 1] bcast_S1x8_S8192x8_0_1 (broadcastInDim S1x8 ![1] bcast_S8_S1x8_1 (shapeCast S8 a5 shapeCasts_S1x8_S8))))) (broadcastInDim S8192x8 ![] bcast_S_S8192x8 (constant S_ .f32 0x00000000#32)))))))))) : FVec Ideal S8192x8 .f32)⟩, ⟨S8192x112, ((Host.negf (select (cmpf .une (subf (Host.negf (broadcastInDim S8192x112 ![] bcast_S_S8192x112 (constant S_ .f32 0x00000000#32))) (broadcastInDim S8192x112 ![] bcast_S_S8192x112 (constant S_ .f32 0x00000000#32)) : FVec Ideal S8192x112 .f32) (subf (Host.negf (broadcastInDim S8192x112 ![] bcast_S_S8192x112 (constant S_ .f32 0x00000000#32))) (broadcastInDim S8192x112 ![] bcast_S_S8192x112 (constant S_ .f32 0x00000000#32)))) (addf (Host.negf (broadcastInDim S8192x112 ![] bcast_S_S8192x112 (constant S_ .f32 0x00000000#32))) (broadcastInDim S8192x112 ![] bcast_S_S8192x112 (constant S_ .f32 0x00000000#32))) (addf (maximumf (Host.negf (broadcastInDim S8192x112 ![] bcast_S_S8192x112 (constant S_ .f32 0x00000000#32))) (broadcastInDim S8192x112 ![] bcast_S_S8192x112 (constant S_ .f32 0x00000000#32))) (Host.log1p (Host.exp (Host.negf (Host.absf (subf (Host.negf (broadcastInDim S8192x112 ![] bcast_S_S8192x112 (constant S_ .f32 0x00000000#32))) (broadcastInDim S8192x112 ![] bcast_S_S8192x112 (constant S_ .f32 0x00000000#32)))))))))) : FVec Ideal S8192x112 .f32)⟩] concatenates_S8192x8_S8192x8_S8192x112_S8192x128_d1 : FVec Ideal S8192x128 .f32) : FVec Ideal S8192x128 .f32) (ix2 p q)
      = act q ((if h : q.val < 16 then G (ix2 p ⟨12288 + q.val, by omega⟩) else 0) + bias a4 a5 q) := by
  pointwise
  unfold act bias
  by_cases h : q.val < 8
  · have h' : q.val < 16 := by omega
    simp only [dif_pos h, dif_pos h', if_pos h]
    rfl
  · by_cases h' : q.val < 16
    · have h8 : q.val - 8 < 8 := by omega
      have e : (⟨12288 + (8 + (q.val - 8)), by omega⟩ : Fin 12304) = ⟨12288 + q.val, by omega⟩ := Fin.ext (by show 12288 + (8 + (q.val - 8)) = 12288 + q.val; omega)
      simp only [dif_neg h, dif_pos h', dif_pos h8, if_neg h, e, ne_eq, not_true_eq_false, if_false]
      rfl
    · have h8 : ¬ q.val - 8 < 8 := by omega
      simp only [dif_neg h, dif_neg h', dif_neg h8, if_neg h, ne_eq, not_true_eq_false, if_false, add_zero]
      rfl

/-- The reference's second term at one index. -/
theorem gate_at (a0 : FVec Ideal S8192x4096 .f32) (a1 a2 : FVec Ideal S2x1x4096 .f32) (a3 : FVec Ideal S1x4096x12304 .f32) (a4 a5 : FVec Ideal S1x8 .f32) (p : Fin 8192) (q : Fin 128) :
    act q ((if h : q.val < 16 then ((Host.dotGeneral dot_S8192x4096_S4096x12304_S8192x12304_1_0_0_1_n_n none (shapeCast S8192x4096 (addf (mulf (shapeCast S2x4096x4096 a0 shapeCasts_S8192x4096_S2x4096x4096) (broadcastInDim S2x4096x4096 ![0, 1, 2] bcast_S2x1x4096_S2x4096x4096_0_1_2 (addf (broadcastInDim S2x1x4096 ![] bcast_S_S2x1x4096 (constant S_ .f32 0x3F800000#32)) a1))) (broadcastInDim S2x4096x4096 ![0, 1, 2] bcast_S2x1x4096_S2x4096x4096_0_1_2 a2)) shapeCasts_S2x4096x4096_S8192x4096) (shapeCast S4096x12304 a3 shapeCasts_S1x4096x12304_S4096x12304)) : FVec Ideal S8192x12304 .f32) (ix2 p ⟨12288 + q.val, by omega⟩) else 0) + bias a4 a5 q)
      = gate a0 a1 a2 a3 a4 a5 p q := by
  unfold gate weight
  refine congrArg (act q) (congrArg (· + bias a4 a5 q) ?_)
  by_cases h : q.val < 16
  · simp only [dif_pos h]
    exact dot_at a0 a1 a2 a3 p _
  · simp only [dif_neg h, mul_zero, Finset.sum_const_zero]

/-- The reference terminates with its results at `stream` and `gate` of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = (fun i => stream (m ((c.tc : Thread nD τ).loc main_arg0)) (m ((c.tc : Thread nD τ).loc main_arg1)) (m ((c.tc : Thread nD τ).loc main_arg2)) (i 0) (i 1))
      ∧ r.2.mem ((c.tc : Thread nD τ).loc main_v30) = (fun i => gate (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans ?_, (h c).2.2⟩) (Value.run m ρ)
  · funext i
    obtain ⟨p, q, rfl⟩ : ∃ (p : Fin 8192) (q : Fin 4096), i = ix2 p q := ⟨_, _, eq_ix2 i⟩
    exact stream_at (m ((c.tc : Thread nD τ).loc main_arg0)) (m ((c.tc : Thread nD τ).loc main_arg1)) (m ((c.tc : Thread nD τ).loc main_arg2)) p q
  · funext i
    obtain ⟨p, q, rfl⟩ : ∃ (p : Fin 8192) (q : Fin 128), i = ix2 p q := ⟨_, _, eq_ix2 i⟩
    unfold Cert.Reference12Ideal.Value.res_main_v30
    exact (act_at _ (m ((c.tc : Thread nD τ).loc main_arg4)) (m ((c.tc : Thread nD τ).loc main_arg5)) p q).trans (gate_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) p q)

end Cert.Proof.ModulateRef
end
-- ==== Proof.Condition.lean ====
/- The modulation vectors off the conditioning: the kernel's call against the reference. -/
module

public import proofs.«01_k».proof.Proof.Spec
public import proofs.«01_k».proof.Proof.Gen.Kernel13Ideal.Value
public import proofs.«01_k».proof.Proof.Gen.Reference13Ideal.Run
public import Idealize.ShloMosaic.Lib.Pointwise
public import Idealize.ShloMosaic.Lib.Pipeline.ValueKit

@[expose] public section

set_option maxRecDepth 16384

noncomputable section

namespace Cert.Proof.Condition

open Idealize.ShloMosaic Idealize.ShloMosaic.TcCoe Idealize.ShloMosaic.Tactic Idealize.SL.Sem
open Cert.Kernel13Ideal Cert.Kernel13Ideal.Gen

/-- An entry times its own logistic function. -/
def silu (x : EReal) : EReal := x * Ideal.div 1 (1 + Ideal.exp (-x))

/-- Entry `j` of layer `l`'s modulation of batch `b`. -/
def modulation (a : (⟨2, ![2, 4096]⟩ : Shape).Idx → EReal) (w : (⟨3, ![2, 4096, 24576]⟩ : Shape).Idx → EReal)
    (v : (⟨2, ![2, 24576]⟩ : Shape).Idx → EReal) (l : Fin 2) (b : Fin 2) (j : Fin 24576) : EReal :=
  (∑ k : Fin 4096, silu (a (ix2 b k)) * w (ix3 l k j)) + v (ix2 l j)

/-- Where each window's block lies, point by point. -/
theorem idx : ∀ t : Fin cfg0.N, win0_0.index t = ![0, 0] ∧ win0_1.index t = ![t.val / 24, 0, t.val % 24]
    ∧ win0_2.index t = ![t.val / 24, 0, t.val % 24] ∧ win0_3.index t = ![t.val / 24, 0, t.val % 24] :=
  (by decide +kernel : ∀ t : Fin grid0.N, win0_0.index t = ![0, 0] ∧ win0_1.index t = ![t.val / 24, 0, t.val % 24]
    ∧ win0_2.index t = ![t.val / 24, 0, t.val % 24] ∧ win0_3.index t = ![t.val / 24, 0, t.val % 24])

variable (m : (ℓ : Loc nD τ sig) → Buf (Elt Ideal) ℓ) (c : Dev nD)

/-- One point's block of the result, of the blocks it reads. -/
theorem pay_at (v0 : Vec Ideal S2x4096 .f32) (v10 : Vec Ideal S1x4096x1024 .f32) (v14 : Vec Ideal S1x1x1024 .f32) (b : Fin 2) (d : Fin 1024) :
    k0_pay1 v0 v10 v14 (ix3 0 b d) = (∑ k : Fin 4096, silu (v0 (ix2 b k)) * v10 (ix3 0 k d)) + v14 (ix3 0 0 d) := by
  pointwise [k0_pay1]
  simp only [Spec.zero_sub']
  rfl

/-- The bias's block at a point. -/
theorem bias_at (t : Fin cfg0.N) (d : Fin 1024) :
    (show Vec Ideal S1x1x1024 .f32 from iblk m c 2 t) (ix3 0 0 d)
      = m ((c : Thread nD τ).loc main_arg2) (ix2 ⟨t.val / 24, (by have h : t.val < 48 := t.isLt; omega)⟩ ⟨t.val % 24 * 1024 + d.val, by omega⟩) := by
  obtain ⟨e0, e1, e2, e3⟩ := idx t
  blk_simp [iblk, e2]
  entry_read
  pointwise
  blk_ext [e2]

/-- The array the kernel leaves as its result. -/
theorem out : (dats m 0 c).arrAt 3 cfg0.N = fun i => modulation (m ((c : Thread nD τ).loc main_arg0)) (m ((c : Thread nD τ).loc main_arg1)) (m ((c : Thread nD τ).loc main_arg2)) (i 0) (i 1) (i 2) := by
  refine (dats m 0 c).arrAt_eq_of_covers 3 _ (by decide +kernel) fun t hf y => ?_
  blk_simp
  rw [after0_3]
  frame_out
  obtain ⟨z, b, d, rfl⟩ : ∃ (z : Fin 1) (b : Fin 2) (d : Fin 1024), y = ix3 z b d := ⟨_, _, _, eq_ix3 y⟩
  obtain rfl : z = 0 := Subsingleton.elim _ _
  obtain ⟨e0, e1, e2, e3⟩ := idx t
  rw [pay_at]
  unfold modulation
  refine congrArg₂ (· + ·) (Finset.sum_congr rfl fun k _ => congrArg₂ (· * ·) (congrArg silu ?_) ?_) ((bias_at m c t d).trans ?_)
  · blk_ext [iblk, V, e0, e3]
  · blk_ext [iblk, V, e1, e3]
  · blk_ext [e3]

/-- The kernel terminates with its result at `modulation` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v1) = (fun i => modulation (m ((c.tc : Thread nD τ).loc main_arg0)) (m ((c.tc : Thread nD τ).loc main_arg1)) (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (out m c), (h c).2⟩) (Value.run_blocks m ρ)

end Cert.Proof.Condition

namespace Cert.Proof.ConditionRef

open Idealize.ShloMosaic Idealize.ShloMosaic.TcCoe Idealize.SL.Sem
open Cert.Reference13Ideal Cert.Reference13Ideal.Gen Cert.Proof.Condition

/-- The reference's term at one index. -/
theorem point_at (a0 : FVec Ideal S2x4096 .f32) (a1 : FVec Ideal S2x4096x24576 .f32) (a2 : FVec Ideal S2x24576 .f32) (l b : Fin 2) (j : Fin 24576) :
    (addf (transpose S2x2x24576 [1, 0, 2] (Host.dotGeneral dot_S2x4096_S2x4096x24576_S2x2x24576_1_1_0_02_n_n none (mulf a0 (Host.divf (broadcastInDim S2x4096 ![] bcast_S_S2x4096 (constant S_ .f32 0x3F800000#32)) (addf (broadcastInDim S2x4096 ![] bcast_S_S2x4096 (constant S_ .f32 0x3F800000#32)) (Host.exp (Host.negf a0))))) a1) transposes_S2x2x24576_S2x2x24576_1_0_2) (broadcastInDim S2x2x24576 ![0, 1, 2] bcast_S2x1x24576_S2x2x24576_0_1_2 (broadcastInDim S2x1x24576 ![0, 2] bcast_S2x24576_S2x1x24576_0_2 a2)) : FVec Ideal S2x2x24576 .f32) (ix3 l b j)
      = modulation a0 a1 a2 l b j := by
  pointwise
  rfl

/-- The reference terminates with its result at the same function of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun i => modulation (m ((c.tc : Thread nD τ).loc main_arg0)) (m ((c.tc : Thread nD τ).loc main_arg1)) (m ((c.tc : Thread nD τ).loc main_arg2)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun _ h c => ⟨(h c).1.trans ?_, (h c).2⟩) (Value.run m ρ)
  funext i
  obtain ⟨l, b, j, rfl⟩ : ∃ (l b : Fin 2) (j : Fin 24576), i = ix3 l b j := ⟨_, _, _, eq_ix3 i⟩
  exact point_at (m ((c.tc : Thread nD τ).loc main_arg0)) (m ((c.tc : Thread nD τ).loc main_arg1)) (m ((c.tc : Thread nD τ).loc main_arg2)) l b j

end Cert.Proof.ConditionRef
end
-- ==== Proof.NormMod.lean ====
/- A layer norm with the modulation behind it, and the statistics it leaves: the kernel's call against the reference. The kernel
   multiplies the weight and the bias by the scale first; that is the same where bias and scale are finite. -/
module

public import proofs.«01_k».proof.Proof.LastNorm
public import proofs.«01_k».proof.Proof.Gen.Kernel14Ideal.Value
public import proofs.«01_k».proof.Proof.Gen.Reference14Ideal.Run
public import proofs.«01_k».proof.Proof.Gen.Pre_finite_mod
public import Idealize.ShloMosaic.Lib.Pointwise
public import Idealize.ShloMosaic.Lib.ReduceAll
public import Idealize.ShloMosaic.Lib.Pipeline.ValueKit

@[expose] public section

set_option maxRecDepth 16384

noncomputable section

namespace Cert.Proof.NormMod

open Idealize.ShloMosaic Idealize.ShloMosaic.TcCoe Idealize.ShloMosaic.Tactic Idealize.SL.Sem
open Cert.Kernel14Ideal Cert.Kernel14Ideal.Gen
open Cert.Proof.LastNorm (mean centred)

/-- The inverse deviation of a row, with the small literal under the root. -/
def invDev (x : Fin 4096 → EReal) : EReal :=
  Ideal.rsqrt (mean (fun k => (x k - mean x) * (x k - mean x)) + (Scalar.ofBits .f32 0x3727C5AC#32 : Ideal .f32))

/-- The statistics of row `r`: its mean in the first column, its inverse deviation in the second. -/
def stats (z : (⟨2, ![8192, 4096]⟩ : Shape).Idx → EReal) (r : Fin 8192) (j : Fin 2) : EReal :=
  if j = 0 then mean (fun k => z (ix2 r k)) else invDev (fun k => z (ix2 r k))

/-- The batch a row belongs to. -/
def batchOf (r : Fin 8192) : Fin 2 := ⟨r.val / 4096, by omega⟩

/-- The modulated norm at row `r`, column `j`, as the reference has it. -/
def modulated (z : (⟨2, ![8192, 4096]⟩ : Shape).Idx → EReal) (g b : (⟨2, ![1, 4096]⟩ : Shape).Idx → EReal)
    (sc sh : (⟨3, ![2, 1, 4096]⟩ : Shape).Idx → EReal) (r : Fin 8192) (j : Fin 4096) : EReal :=
  (centred (fun k => z (ix2 r k)) j * g (ix2 0 j) + b (ix2 0 j)) * (1 + sc (ix3 (batchOf r) 0 j)) + sh (ix3 (batchOf r) 0 j)

/-- The same as the kernel has it: weight and bias are scaled first. -/
def folded (z : (⟨2, ![8192, 4096]⟩ : Shape).Idx → EReal) (g b : (⟨2, ![1, 4096]⟩ : Shape).Idx → EReal)
    (sc sh : (⟨3, ![2, 1, 4096]⟩ : Shape).Idx → EReal) (r : Fin 8192) (j : Fin 4096) : EReal :=
  centred (fun k => z (ix2 r k)) j * (g (ix2 0 j) * (1 + sc (ix3 (batchOf r) 0 j)))
    + (b (ix2 0 j) * (1 + sc (ix3 (batchOf r) 0 j)) + sh (ix3 (batchOf r) 0 j))

/-- A sum with a finite term times a finite factor is the sum of the products. -/
theorem distrib (a : EReal) (b s : ℝ) : (a + (b : EReal)) * (s : EReal) = a * s + b * s := by
  induction a with
  | bot =>
    rcases lt_trichotomy s 0 with h | rfl | h
    · rw [EReal.bot_add, EReal.bot_mul_coe_of_neg h, ← EReal.coe_mul, EReal.top_add_coe]
    · simp
    · rw [EReal.bot_add, EReal.bot_mul_coe_of_pos h, EReal.bot_add]
  | top =>
    rcases lt_trichotomy s 0 with h | rfl | h
    · rw [EReal.top_add_coe, EReal.top_mul_coe_of_neg h, EReal.bot_add]
    · simp
    · rw [EReal.top_add_coe, EReal.top_mul_coe_of_pos h, ← EReal.coe_mul, EReal.top_add_coe]
  | coe a => norm_cast; ring

/-- An extended real whose absolute value is below infinity is a real. -/
theorem real_of_lt {x : EReal} (h : Ideal.cmp .olt (max x (-x)) (Ideal.ofBits .f32 0x7F800000#32) = 1#1) : ∃ y : ℝ, x = y := by
  have e : Ideal.ofBits .f32 0x7F800000#32 = ⊤ := by simp [Ideal.ofBits, Ideal.ieee]
  rw [e] at h
  have lt : max x (-x) < ⊤ := by
    by_contra hn
    simp [Ideal.cmp, hn] at h
  induction x with
  | bot => simp at lt
  | top => simp at lt
  | coe y => exact ⟨y, rfl⟩

/-- Both forms agree where the bias and the scale are real. -/
theorem folded_eq (z : (⟨2, ![8192, 4096]⟩ : Shape).Idx → EReal) (g b : (⟨2, ![1, 4096]⟩ : Shape).Idx → EReal)
    (sc sh : (⟨3, ![2, 1, 4096]⟩ : Shape).Idx → EReal) (hb : ∀ i, ∃ y : ℝ, b i = y) (hs : ∀ i, ∃ y : ℝ, sc i = y)
    (r : Fin 8192) (j : Fin 4096) : folded z g b sc sh r j = modulated z g b sc sh r j := by
  unfold folded modulated
  obtain ⟨u, hu⟩ := hb (ix2 0 j)
  obtain ⟨v, hv⟩ := hs (ix3 (batchOf r) 0 j)
  have e : (1 : EReal) + sc (ix3 (batchOf r) 0 j) = ((1 + v : ℝ) : EReal) := by rw [hv]; norm_cast
  rw [e, hu, distrib, ← mul_assoc, add_assoc]

/-- The precondition gives a real bias and a real scale. -/
theorem finite (a0 : FVec Ideal Pre_finite_mod.S8192x4096 .f32) (a1 a2 : FVec Ideal Pre_finite_mod.S1x4096 .f32) (a3 a4 : FVec Ideal Pre_finite_mod.S2x1x4096 .f32)
    (h : Cert.Pre_finite_mod.fn a0 a1 a2 a3 a4 = fun _ => 1#1) : (∀ i, ∃ y : ℝ, a2 i = y) ∧ (∀ i, ∃ y : ℝ, a3 i = y) := by
  have h0 := congrFun h ix0
  unfold Cert.Pre_finite_mod.fn at h0
  obtain ⟨hb, hs⟩ := IntOp.andi_eq_one.1 h0
  have : Subsingleton Pre_finite_mod.S_.Idx := ⟨fun a b => funext fun i => i.elim0⟩
  exact ⟨fun i => real_of_lt (Host.reduce_andi_all _ _ _ _ _ hb i), fun i => real_of_lt (Host.reduce_andi_all _ _ _ _ _ hs i)⟩

/-- Where each window's block lies, point by point. -/
theorem idx : ∀ t : Fin cfg0.N, win0_0.index t = ![t.val, 0] ∧ win0_1.index t = ![0, 0]
    ∧ win0_2.index t = ![0, 0] ∧ win0_3.index t = ![t.val / 16, 0, 0] ∧ win0_4.index t = ![t.val / 16, 0, 0]
    ∧ win0_5.index t = ![t.val, 0] ∧ win0_6.index t = ![t.val, 0] :=
  (by decide +kernel : ∀ t : Fin grid0.N, win0_0.index t = ![t.val, 0] ∧ win0_1.index t = ![0, 0]
    ∧ win0_2.index t = ![0, 0] ∧ win0_3.index t = ![t.val / 16, 0, 0] ∧ win0_4.index t = ![t.val / 16, 0, 0]
    ∧ win0_5.index t = ![t.val, 0] ∧ win0_6.index t = ![t.val, 0])

variable (m : (ℓ : Loc nD τ sig) → Buf (Elt Ideal) ℓ) (c : Dev nD)

/-- One point's means, of the rows it reads. -/
theorem mean_at (v0 : Vec Ideal S256x4096 .f32) (r : Fin 256) (d : Fin 1) :
    k0_pay2 v0 (ix2 r d) = mean (fun k => v0 (ix2 r k)) := by
  pointwise [k0_pay2]
  rfl

/-- One point's inverse deviations, of the rows it reads. -/
theorem dev_at (v0 : Vec Ideal S256x4096 .f32) (r : Fin 256) (d : Fin 1) :
    k0_pay3 v0 (ix2 r d) = invDev (fun k => v0 (ix2 r k)) := by
  pointwise [k0_pay3, k0_pay2]
  rfl

/-- One point's block of the second result, of the blocks it reads. -/
theorem pay_at (v0 : Vec Ideal S256x4096 .f32) (v17 v25 : Vec Ideal S1x1x4096 .f32) (v21 v23 : Vec Ideal S1x4096 .f32) (r : Fin 256) (d : Fin 4096) :
    k0_pay1 (k0_pay5 v0 v17 v21) (k0_pay6 v17 v23 v25) (ix2 r d)
      = centred (fun k => v0 (ix2 r k)) d * (v21 (ix2 0 d) * (1 + v17 (ix3 0 0 d))) + (v23 (ix2 0 d) * (1 + v17 (ix3 0 0 d)) + v25 (ix3 0 0 d)) := by
  pointwise [k0_pay1, k0_pay5, k0_pay6, k0_pay4, k0_pay3, k0_pay2]
  rfl

/-- The array the kernel leaves as its first result. -/
theorem out5 : (dats m 0 c).arrAt 5 cfg0.N = fun i => stats (m ((c : Thread nD τ).loc main_arg0)) (i 0) (i 1) := by
  refine (dats m 0 c).arrAt_eq_of_covers 5 _ (by decide +kernel) fun t hf y => ?_
  blk_simp
  rw [after0_5]
  obtain ⟨e0, e1, e2, e3, e4, e5, e6⟩ := idx t
  unfold out0_5
  canon_tiles x h using cover0_5 ..
  · frame_out
    obtain ⟨r, d, rfl⟩ : ∃ (r : Fin 256) (d : Fin 1), x = ix2 r d := ⟨_, _, eq_ix2 x⟩
    rw [dev_at]
    unfold stats
    rw [if_neg]
    · refine congrArg invDev (funext fun k => ?_)
      blk_ext [iblk, V, e0, e5, h0]
    · intro hz
      have hz' := congrArg Fin.val hz
      blk_simp [e5, h1] at hz'
      exact Nat.one_ne_zero hz'
  · frame_out
    obtain ⟨r, d, rfl⟩ : ∃ (r : Fin 256) (d : Fin 1), x = ix2 r d := ⟨_, _, eq_ix2 x⟩
    rw [mean_at]
    unfold stats
    rw [if_pos]
    · refine congrArg mean (funext fun k => ?_)
      blk_ext [iblk, V, e0, e5, h0]
    · apply Fin.ext
      blk_simp [e5, h1]
      rfl

/-- The array the kernel leaves as its second result. -/
theorem out6 : (dats m 0 c).arrAt 6 cfg0.N = fun i => folded (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  frame_out
  obtain ⟨r, d, rfl⟩ : ∃ (r : Fin 256) (d : Fin 4096), y = ix2 r d := ⟨_, _, eq_ix2 y⟩
  obtain ⟨e0, e1, e2, e3, e4, e5, e6⟩ := idx t
  rw [pay_at]
  unfold folded
  refine congrArg₂ (· + ·) (congrArg₂ (· * ·) (congrArg₂ (fun x j => centred x j) (funext fun k => ?_) ?_) (congrArg₂ (· * ·) ?_ (congrArg (1 + ·) ?_)))
    (congrArg₂ (· + ·) (congrArg₂ (· * ·) ?_ (congrArg (1 + ·) ?_)) ?_)
  · blk_ext [iblk, V, e0, e6]
  · apply Fin.ext
    blk_simp [e6]
  · blk_ext [iblk, V, e1, e6]
  · blk_ext [iblk, V, e3, e6, batchOf]
  · blk_ext [iblk, V, e2, e6]
  · blk_ext [iblk, V, e3, e6, batchOf]
  · blk_ext [iblk, V, e4, e6, batchOf]

/-- The kernel terminates with its results at `stats` and `folded` of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (fun i => stats (m ((c.tc : Thread nD τ).loc main_arg0)) (i 0) (i 1))
      ∧ r.2.mem ((c.tc : Thread nD τ).loc main_v0_1) = (fun i => folded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (out5 m c), (h c).2.1.trans (out6 m c), (h c).2.2⟩) (Value.run_blocks m ρ)

end Cert.Proof.NormMod

namespace Cert.Proof.NormModRef

open Idealize.ShloMosaic Idealize.ShloMosaic.TcCoe Idealize.SL.Sem
open Cert.Reference14Ideal Cert.Reference14Ideal.Gen Cert.Proof.NormMod

/-- The reference's first term at one index. -/
theorem stats_at (a0 : FVec Ideal S8192x4096 .f32) (p : Fin 8192) (q : Fin 2) :
    (concatenate S8192x2 1 [⟨S8192x1, (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))⟩, ⟨S8192x1, (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32))))⟩] concatenates_S8192x1_S8192x1_S8192x2_d1 : FVec Ideal S8192x2 .f32) (ix2 p q)
      = stats a0 p q := by
  pointwise
  unfold stats
  by_cases h : q = 0
  · subst h
    rfl
  · have hq : ¬ q.val < 1 := fun hl => h (Fin.ext (by omega))
    rw [dif_neg hq, if_neg h]
    rfl

/-- The reference's second term at one index. -/
theorem point_at (a0 : FVec Ideal S8192x4096 .f32) (a1 a2 : FVec Ideal S1x4096 .f32) (a3 a4 : FVec Ideal S2x1x4096 .f32) (p : Fin 8192) (q : Fin 4096) :
    (truncf .bf16 (shapeCast S8192x4096 (addf (mulf (shapeCast S2x4096x4096 (addf (mulf (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 a1)) (broadcastInDim S8192x4096 ![0, 1] bcast_S1x4096_S8192x4096_0_1 a2)) shapeCasts_S8192x4096_S2x4096x4096) (broadcastInDim S2x4096x4096 ![0, 1, 2] bcast_S2x1x4096_S2x4096x4096_0_1_2 (addf (broadcastInDim S2x1x4096 ![] bcast_S_S2x1x4096 (constant S_ .f32 0x3F800000#32)) a3))) (broadcastInDim S2x4096x4096 ![0, 1, 2] bcast_S2x1x4096_S2x4096x4096_0_1_2 a4)) shapeCasts_S2x4096x4096_S8192x4096) bitsLt_bf16_f32 : FVec Ideal S8192x4096 .bf16) (ix2 p q)
      = modulated a0 a1 a2 a3 a4 p q := by
  pointwise
  rfl

/-- The reference terminates with its results at `stats` and `modulated` of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v30) = (fun i => stats (m ((c.tc : Thread nD τ).loc main_arg0)) (i 0) (i 1))
      ∧ r.2.mem ((c.tc : Thread nD τ).loc main_v31) = (fun i => modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans ?_, (h c).2.1.trans ?_, (h c).2.2⟩) (Value.run m ρ)
  · funext i
    obtain ⟨p, q, rfl⟩ : ∃ (p : Fin 8192) (q : Fin 2), i = ix2 p q := ⟨_, _, eq_ix2 i⟩
    exact stats_at (m ((c.tc : Thread nD τ).loc main_arg0)) p q
  · funext i
    obtain ⟨p, q, rfl⟩ : ∃ (p : Fin 8192) (q : Fin 4096), i = ix2 p q := ⟨_, _, eq_ix2 i⟩
    exact point_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) p q

end Cert.Proof.NormModRef
end
-- ==== Proof.Shift.lean ====
/- A layer norm with the modulation behind it and the six mixes of each row with the row before it, and the statistics it
   leaves: the kernel's call against the reference. -/
module

public import proofs.«01_k».proof.Proof.NormMod
public import proofs.«01_k».proof.Proof.Gen.Kernel15Ideal.Value
public import proofs.«01_k».proof.Proof.Gen.Reference15Ideal.Run
public import proofs.«01_k».proof.Proof.Gen.Pre_finite_shift
public import Idealize.ShloMosaic.Lib.Pointwise
public import Idealize.ShloMosaic.Lib.ReduceAll
public import Idealize.ShloMosaic.Lib.Pipeline.ValueKit

@[expose] public section

set_option maxRecDepth 16384

noncomputable section

namespace Cert.Proof.Shift

open Idealize.ShloMosaic Idealize.ShloMosaic.TcCoe Idealize.ShloMosaic.Tactic Idealize.SL.Sem
open Cert.Kernel15Ideal Cert.Kernel15Ideal.Gen
open Cert.Proof.LastNorm (mean centred)
open Cert.Proof.NormMod (invDev stats batchOf modulated folded folded_eq real_of_lt)

/-- A sum over 4096 columns taken in eight chunks of 512. -/
theorem sum_chunks (f : Fin 4096 → EReal) :
    ∑ e : Fin 512, (f ⟨e.val, by omega⟩ + f ⟨512 + e.val, by omega⟩ + f ⟨1024 + e.val, by omega⟩ + f ⟨1536 + e.val, by omega⟩
      + f ⟨2048 + e.val, by omega⟩ + f ⟨2560 + e.val, by omega⟩ + f ⟨3072 + e.val, by omega⟩ + f ⟨3584 + e.val, by omega⟩)
      = ∑ k : Fin 4096, f k := by
  rw [← (finProdFinEquiv (m := 8) (n := 512)).sum_comp f, Fintype.sum_prod_type]
  simp only [Fin.sum_univ_eight, Finset.sum_add_distrib]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact Finset.sum_congr rfl fun e _ => congrArg f (Fin.ext (by simp [finProdFinEquiv]; try omega))

/-- A product with 1/4096 is a quotient by 4096. -/
theorem times_eq (s : EReal) : s * Ideal.ofBits .f32 0x39800000#32 = Ideal.div s (Ideal.ofBits .f32 0x45800000#32) := by
  have e1 : Ideal.ofBits .f32 0x39800000#32 = (((4096 : ℝ)⁻¹ : ℝ) : EReal) := by
    simp [Ideal.ofBits, Ideal.ieee]
    norm_cast
    norm_num
  have e2 : Ideal.ofBits .f32 0x45800000#32 = ((4096 : ℝ) : EReal) := by
    simp [Ideal.ofBits, Ideal.ieee]
    norm_cast
    norm_num
  rw [e1, e2]
  unfold Ideal.div
  rw [if_neg (by norm_cast), EReal.coe_inv]

/-- A chunk of the columns read at one index. -/
theorem cols128 (x : Vec Ideal S128x4096 .f32) (o : Nat) (ho : o + 512 ≤ 4096) (inb) (r : Fin 128) (e : Fin 512) :
    View.ld x (Rect.unit (s := S128x4096) ![0, o] S128x512.size inb) (ix2 r e) = x (ix2 r ⟨o + e.val, by omega⟩) :=
  View.ld_unit_apply_of x _ _ _ _ _ (by intro a; fin_cases a <;> simp)

/-- The same of the eight rows before the point's rows. -/
theorem cols8 (x : Vec Ideal S8x4096 .f32) (o : Nat) (ho : o + 512 ≤ 4096) (inb) (r : Fin 8) (e : Fin 512) :
    View.ld x (Rect.unit (s := S8x4096) ![0, o] S8x512.size inb) (ix2 r e) = x (ix2 r ⟨o + e.val, by omega⟩) :=
  View.ld_unit_apply_of x _ _ _ _ _ (by intro a; fin_cases a <;> simp)

/-- The same of a row of weights. -/
theorem cols1 (x : Vec Ideal S1x4096 .f32) (o : Nat) (ho : o + 512 ≤ 4096) (inb) (e : Fin 512) :
    View.ld x (Rect.unit (s := S1x4096) ![0, o] S1x512.size inb) (ix2 0 e) = x (ix2 0 ⟨o + e.val, by omega⟩) :=
  View.ld_unit_apply_of x _ _ _ _ _ (by intro a; fin_cases a <;> simp)

/-- The same of one of the six mixing rows. -/
theorem cols6 (x : Vec Ideal S6x4096 .f32) (j : Fin 6) (o : Nat) (ho : o + 512 ≤ 4096) (inb) (e : Fin 512) :
    View.ld x (Rect.unit (s := S6x4096) ![j.val, o] S1x512.size inb) (ix2 0 e) = x (ix2 j ⟨o + e.val, by omega⟩) :=
  View.ld_unit_apply_of x _ _ _ _ _ (by intro a; fin_cases a <;> simp)

/-- The same of a batch's scale or shift. -/
theorem cols11 (x : Vec Ideal S1x1x4096 .f32) (o : Nat) (ho : o + 512 ≤ 4096) (inb) (e : Fin 512) :
    View.ld x (Rect.unit (s := S1x1x4096) ![0, 0, o] S1x1x512.size inb) (ix3 0 0 e) = x (ix3 0 0 ⟨o + e.val, by omega⟩) :=
  View.ld_unit_apply_of x _ _ _ _ _ (by intro a; fin_cases a <;> simp)

/-- One point's means, of the rows it reads. -/
theorem mean_at (x0 : Vec Ideal S128x4096 .f32) (r : Fin 128) (d : Fin 1) :
    k0_pay1 (View.ld x0 r0_0) (View.ld x0 r0_1) (View.ld x0 r0_2) (View.ld x0 r0_3) (View.ld x0 r0_4) (View.ld x0 r0_5) (View.ld x0 r0_6) (View.ld x0 r0_7) (ix2 r d)
      = mean (fun k => x0 (ix2 r k)) := by
  pointwise [k0_pay1]
  rw [times_eq]
  refine congrArg (fun s => Ideal.div s _) ?_
  rw [← sum_chunks]

/-- The means of the eight rows before. -/
theorem meanp_at (x1 : Vec Ideal S8x4096 .f32) (r : Fin 8) (d : Fin 1) :
    k0_pay4 (View.ld x1 r0_10) (View.ld x1 r0_11) (View.ld x1 r0_12) (View.ld x1 r0_13) (View.ld x1 r0_14) (View.ld x1 r0_15) (View.ld x1 r0_16) (View.ld x1 r0_17) (ix2 r d)
      = mean (fun k => x1 (ix2 r k)) := by
  pointwise [k0_pay4]
  rw [times_eq]
  refine congrArg (fun s => Ideal.div s _) ?_
  rw [← sum_chunks]

variable (i : grid0.Coords) (x0 : Vec Ideal S128x4096 .f32) (x1 : Vec Ideal S8x4096 .f32) (x2 x3 : Vec Ideal S1x4096 .f32)
  (x4 x5 : Vec Ideal S1x1x4096 .f32) (x6 : Vec Ideal S6x4096 .f32)

/-- One point's inverse deviations, of the rows it reads. -/
theorem dev_at (r : Fin 128) (d : Fin 1) : k0_pay116 i x0 x1 x2 x3 x4 x5 x6 (ix2 r d) = invDev (fun k => x0 (ix2 r k)) := by
  unfold k0_pay116 k0_pay115 k0_pay114
  pointwise [k0_pay3, k0_pay2]
  rw [times_eq, mean_at]
  refine congrArg Ideal.rsqrt (congrArg (· + _) (congrArg (fun s => Ideal.div s _) ?_))
  rw [← sum_chunks]

/-- The inverse deviations of the eight rows before. -/
theorem devp_at (r : Fin 8) (d : Fin 1) : k0_pay118 i x0 x1 x2 x3 x4 x5 x6 (ix2 r d) = invDev (fun k => x1 (ix2 r k)) := by
  unfold k0_pay118 k0_pay117
  pointwise [k0_pay6, k0_pay5]
  rw [times_eq, meanp_at]
  refine congrArg Ideal.rsqrt (congrArg (· + _) (congrArg (fun s => Ideal.div s _) ?_))
  rw [← sum_chunks]

/-- One row's modulated norm at a column, of the blocks a point reads. -/
def cell (x : Fin 4096 → EReal) (d : Fin 4096) : EReal :=
  centred x d * (x2 (ix2 0 d) * (1 + x4 (ix3 0 0 d))) + (x3 (ix2 0 d) * (1 + x4 (ix3 0 0 d)) + x5 (ix3 0 0 d))

/-- One mixed chunk of a point, of the chunks it is computed from. -/
def piece (mu rs : FVec Ideal S128x1 .f32) (mup rsp : FVec Ideal S8x1 .f32) (n k : BitVec 32) (p q : BitVec 1)
    (sc sh : Vec Ideal S1x1x512 .f32) (g b : Vec Ideal S1x512 .f32) (z : Vec Ideal S128x512 .f32) (zp : Vec Ideal S8x512 .f32)
    (mx : Vec Ideal S1x512 .f32) : FVec Ideal S128x512 .bf16 :=
  k0_pay16 (k0_pay10 mu rs sc g b sh z) (k0_pay11 mup rsp n k p q sc g b sh zp) (k0_pay12 mu rs sc g b sh z) k0_pay13 mx

/-- Whether a point's first row begins a sequence, as the kernel's words say it. -/
abbrev firstWord (n k : BitVec 32) (p q : BitVec 1) : BitVec 1 :=
  Scalar.cmpi CmpIPredicate.eq (Scalar.select (Scalar.andi q p) (Scalar.addi k n) k) 0#32

/-- That chunk at one index. -/
theorem piece_at (mu rs : FVec Ideal S128x1 .f32) (mup rsp : FVec Ideal S8x1 .f32) (n k : BitVec 32) (p q : BitVec 1)
    (sc sh : Vec Ideal S1x1x512 .f32) (g b : Vec Ideal S1x512 .f32) (z : Vec Ideal S128x512 .f32) (zp : Vec Ideal S8x512 .f32)
    (mx : Vec Ideal S1x512 .f32) (r : Fin 128) (e : Fin 512) : piece mu rs mup rsp n k p q sc sh g b z zp mx (ix2 r e)
      = (z (ix2 r e) - mu (ix2 r 0)) * rs (ix2 r 0) * (g (ix2 0 e) * (1 + sc (ix3 0 0 e))) + (b (ix2 0 e) * (1 + sc (ix3 0 0 e)) + sh (ix3 0 0 e))
        + (Scalar.select (IntOp.cmpi CmpIPredicate.eq (BitVec.ofNat 32 r.val) 0#32)
            (Scalar.select (firstWord n k p q) 0
              ((zp (ix2 7 e) - mup (ix2 7 0)) * rsp (ix2 7 0) * (g (ix2 0 e) * (1 + sc (ix3 0 0 e))) + (b (ix2 0 e) * (1 + sc (ix3 0 0 e)) + sh (ix3 0 0 e))))
            ((z (ix2 ⟨(r.val + 128 - 1) % 128, by omega⟩ e) - mu (ix2 ⟨(r.val + 128 - 1) % 128, by omega⟩ 0)) * rs (ix2 ⟨(r.val + 128 - 1) % 128, by omega⟩ 0)
                * (g (ix2 0 e) * (1 + sc (ix3 0 0 e))) + (b (ix2 0 e) * (1 + sc (ix3 0 0 e)) + sh (ix3 0 0 e)))
          - ((z (ix2 r e) - mu (ix2 r 0)) * rs (ix2 r 0) * (g (ix2 0 e) * (1 + sc (ix3 0 0 e))) + (b (ix2 0 e) * (1 + sc (ix3 0 0 e)) + sh (ix3 0 0 e))))
          * mx (ix2 0 e) := by
  pointwise [piece, k0_pay16, k0_pay14, k0_pay15, k0_pay13, k0_pay12, k0_pay11, k0_pay10, k0_pay9, k0_pay8, k0_pay7]

/-- The length of a sequence, as the word the kernel divides by. -/
abbrev four : BitVec 32 := Scalar.select (Scalar.cmpi .eq 4096#32 0#32) 1#32 4096#32

/-- The remainder of the first row's number, as the kernel's word. -/
abbrev rest (i : grid0.Coords) : BitVec 32 := Scalar.remsi (Scalar.muli (BitVec.ofNat 32 (i 0).val) 128#32) four

/-- One mixed chunk of a point: mixing row `j`, columns from `o`. -/
def chunk (j : Fin 6) (o : Nat) (h128 : ∀ a : Fin S128x4096.rank, ![0, o] a + S128x512.size a ≤ S128x4096.size a) (h8 : ∀ a : Fin S8x4096.rank, ![0, o] a + S8x512.size a ≤ S8x4096.size a)
    (h1 : ∀ a : Fin S1x4096.rank, ![0, o] a + S1x512.size a ≤ S1x4096.size a) (h6 : ∀ a : Fin S6x4096.rank, ![j.val, o] a + S1x512.size a ≤ S6x4096.size a)
    (h11 : ∀ a : Fin S1x1x4096.rank, ![0, 0, o] a + S1x1x512.size a ≤ S1x1x4096.size a) : FVec Ideal S128x512 .bf16 :=
  piece (k0_pay114 i x0 x1 x2 x3 x4 x5 x6) (k0_pay116 i x0 x1 x2 x3 x4 x5 x6) (k0_pay117 i x0 x1 x2 x3 x4 x5 x6) (k0_pay118 i x0 x1 x2 x3 x4 x5 x6)
    four (rest i) (Scalar.cmpi .ne (rest i) 0#32) (Scalar.xori (Scalar.cmpi .slt (rest i) 0#32) (Scalar.cmpi .slt four 0#32))
    (View.ld x4 (Rect.unit (s := S1x1x4096) ![0, 0, o] S1x1x512.size h11)) (View.ld x5 (Rect.unit (s := S1x1x4096) ![0, 0, o] S1x1x512.size h11))
    (View.ld x2 (Rect.unit (s := S1x4096) ![0, o] S1x512.size h1)) (View.ld x3 (Rect.unit (s := S1x4096) ![0, o] S1x512.size h1))
    (View.ld x0 (Rect.unit (s := S128x4096) ![0, o] S128x512.size h128)) (View.ld x1 (Rect.unit (s := S8x4096) ![0, o] S8x512.size h8))
    (View.ld x6 (Rect.unit (s := S6x4096) ![j.val, o] S1x512.size h6))

/-- The kernel's word for "begins a sequence". -/
abbrev begins (i : grid0.Coords) : BitVec 1 :=
  firstWord four (rest i) (Scalar.cmpi .ne (rest i) 0#32) (Scalar.xori (Scalar.cmpi .slt (rest i) 0#32) (Scalar.cmpi .slt four 0#32))

/-- That chunk at one index, in the point's modulated norms. -/
theorem chunk_at (j : Fin 6) (o : Nat) (ho : o + 512 ≤ 4096) (h128 : ∀ a : Fin S128x4096.rank, ![0, o] a + S128x512.size a ≤ S128x4096.size a) (h8 : ∀ a : Fin S8x4096.rank, ![0, o] a + S8x512.size a ≤ S8x4096.size a)
    (h1 : ∀ a : Fin S1x4096.rank, ![0, o] a + S1x512.size a ≤ S1x4096.size a) (h6 : ∀ a : Fin S6x4096.rank, ![j.val, o] a + S1x512.size a ≤ S6x4096.size a)
    (h11 : ∀ a : Fin S1x1x4096.rank, ![0, 0, o] a + S1x1x512.size a ≤ S1x1x4096.size a) (r : Fin 128) (e : Fin 512) (d : Fin 4096) (hd : d.val = o + e.val) :
    chunk i x0 x1 x2 x3 x4 x5 x6 j o h128 h8 h1 h6 h11 (ix2 r e)
      = cell x2 x3 x4 x5 (fun k => x0 (ix2 r k)) d
        + ((if r.val = 0 then (if begins i = 1#1 then 0 else cell x2 x3 x4 x5 (fun k => x1 (ix2 7 k)) d)
              else cell x2 x3 x4 x5 (fun k => x0 (ix2 ⟨r.val - 1, by omega⟩ k)) d)
            - cell x2 x3 x4 x5 (fun k => x0 (ix2 r k)) d) * x6 (ix2 j d) := by
  have lt : o + e.val < 4096 := by omega
  obtain rfl : d = ⟨o + e.val, lt⟩ := Fin.ext hd
  unfold chunk
  rw [piece_at, cols128 x0 o ho, cols128 x0 o ho, cols8 x1 o ho, cols1 x2 o ho, cols1 x3 o ho, cols11 x4 o ho, cols11 x5 o ho, cols6 x6 j o ho, dev_at, dev_at, devp_at]
  unfold k0_pay114 k0_pay117
  rw [mean_at, mean_at, meanp_at]
  by_cases hr : r.val = 0
  · rw [if_pos hr]
    have e1 : IntOp.cmpi CmpIPredicate.eq (BitVec.ofNat 32 r.val) 0#32 = 1#1 := by rw [hr]; rfl
    rw [e1]
    by_cases hb : begins i = 1#1
    · have hb' : firstWord four (rest i) (Scalar.cmpi .ne (rest i) 0#32) (Scalar.xori (Scalar.cmpi .slt (rest i) 0#32) (Scalar.cmpi .slt four 0#32)) = 1#1 := hb
      rw [if_pos hb, hb']; rfl
    · rw [if_neg hb]
      have e2 : begins i = 0#1 := by
        generalize begins i = w at hb ⊢
        revert hb; revert w; decide
      have e3 : firstWord four (rest i) (Scalar.cmpi .ne (rest i) 0#32) (Scalar.xori (Scalar.cmpi .slt (rest i) 0#32) (Scalar.cmpi .slt four 0#32)) = 0#1 := e2
      rw [e3]; rfl
  · rw [if_neg hr]
    have e1 : IntOp.cmpi CmpIPredicate.eq (BitVec.ofNat 32 r.val) 0#32 = 0#1 := by
      revert hr; revert r; decide +kernel
    have e2 : (⟨(r.val + 128 - 1) % 128, by omega⟩ : Fin 128) = ⟨r.val - 1, by omega⟩ := Fin.ext (by show (r.val + 128 - 1) % 128 = r.val - 1; omega)
    rw [e1, e2]; rfl

/-- Where each window's block lies, point by point. -/
theorem idx : ∀ t : Fin cfg0.N, win0_0.index t = ![t.val, 0] ∧ win0_1.index t = ![16 * t.val - 1, 0]
    ∧ win0_2.index t = ![0, 0] ∧ win0_3.index t = ![0, 0] ∧ win0_4.index t = ![t.val / 32, 0, 0] ∧ win0_5.index t = ![t.val / 32, 0, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, win0_0.index t = ![t.val, 0] ∧ win0_1.index t = ![16 * t.val - 1, 0]
    ∧ win0_2.index t = ![0, 0] ∧ win0_3.index t = ![0, 0] ∧ win0_4.index t = ![t.val / 32, 0, 0] ∧ win0_5.index t = ![t.val / 32, 0, 0]
    ∧ win0_6.index t = ![0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0])

/-- A point's first row begins a sequence at every 32nd point. -/
theorem begins_iff : ∀ t : Fin cfg0.N, begins (grid0.coords t) = 1#1 ↔ t.val % 32 = 0 :=
  (by decide +kernel : ∀ t : Fin grid0.N, begins (grid0.coords t) = 1#1 ↔ t.val % 32 = 0)

/-- The row before row `p` of its sequence; zeros before the first. -/
def before (U : Fin 8192 → Fin 4096 → EReal) (p : Fin 8192) (d : Fin 4096) : EReal :=
  if p.val % 4096 = 0 then 0 else U ⟨p.val - 1, by omega⟩ d

/-- Row `p` mixed with the row before it. -/
def mixed (U : Fin 8192 → Fin 4096 → EReal) (mix : (⟨2, ![6, 4096]⟩ : Shape).Idx → EReal) (j : Fin 6) (p : Fin 8192) (d : Fin 4096) : EReal :=
  U p d + (before U p d - U p d) * mix (ix2 j d)

variable (m : (ℓ : Loc nD τ sig) → Buf (Elt Ideal) ℓ) (c : Dev nD)

/-- The modulated norms of the kernel's arguments. -/
abbrev norms : Fin 8192 → Fin 4096 → EReal :=
  folded (m ((c : Thread nD τ).loc main_arg0)) (m ((c : Thread nD τ).loc main_arg1)) (m ((c : Thread nD τ).loc main_arg2)) (m ((c : Thread nD τ).loc main_arg3)) (m ((c : Thread nD τ).loc main_arg4))

/-- A row whose batch is the point's: its cell is the norm there. -/
theorem cell_eq (t : Fin cfg0.N) (x : Fin 4096 → EReal) (p : Fin 8192) (d : Fin 4096) (hp : p.val / 4096 = t.val / 32)
    (hx : x = fun k => m ((c : Thread nD τ).loc main_arg0) (ix2 p k)) :
    cell (iblk m c 2 t) (iblk m c 3 t) (iblk m c 4 t) (iblk m c 5 t) x d = norms m c p d := by
  obtain ⟨e0, e1, e2, e3, e4, e5, e6, -⟩ := idx t
  subst hx
  unfold cell norms folded
  have s1 : iblk m c 2 t (ix2 0 d) = m ((c : Thread nD τ).loc main_arg1) (ix2 0 d) := by blk_ext [iblk, V, e2]
  have s2 : iblk m c 3 t (ix2 0 d) = m ((c : Thread nD τ).loc main_arg2) (ix2 0 d) := by blk_ext [iblk, V, e3]
  have s3 : iblk m c 4 t (ix3 0 0 d) = m ((c : Thread nD τ).loc main_arg3) (ix3 (batchOf p) 0 d) := by blk_ext [iblk, V, e4, batchOf, hp]
  have s4 : iblk m c 5 t (ix3 0 0 d) = m ((c : Thread nD τ).loc main_arg4) (ix3 (batchOf p) 0 d) := by blk_ext [iblk, V, e5, batchOf, hp]
  exact congrArg₂ (· + ·) (congrArg₂ (· * ·) rfl (congrArg₂ (· * ·) s1 (congrArg (1 + ·) s3))) (congrArg₂ (· + ·) (congrArg₂ (· * ·) s2 (congrArg (1 + ·) s3)) s4)

/-- One stored chunk of a point is the mix of the kernel's arguments there. -/
theorem tile (t : Fin cfg0.N) (j : Fin 6) (o : Nat) (h128 : ∀ a : Fin S128x4096.rank, ![0, o] a + S128x512.size a ≤ S128x4096.size a) (h8 : ∀ a : Fin S8x4096.rank, ![0, o] a + S8x512.size a ≤ S8x4096.size a)
    (h1 : ∀ a : Fin S1x4096.rank, ![0, o] a + S1x512.size a ≤ S1x4096.size a) (h6 : ∀ a : Fin S6x4096.rank, ![j.val, o] a + S1x512.size a ≤ S6x4096.size a)
    (h11 : ∀ a : Fin S1x1x4096.rank, ![0, 0, o] a + S1x1x512.size a ≤ S1x1x4096.size a) (ho : o + 512 ≤ 4096)
    (x : S128x512.Idx) (p : Fin 8192) (d : Fin 4096) (hp : p.val = t.val * 128 + (x 0).val) (hd : d.val = o + (x 1).val) :
    chunk (grid0.coords t) (iblk m c 0 t) (iblk m c 1 t) (iblk m c 2 t) (iblk m c 3 t) (iblk m c 4 t) (iblk m c 5 t) (iblk m c 6 t) j o h128 h8 h1 h6 h11 x
      = mixed (norms m c) (m ((c : Thread nD τ).loc main_arg5)) j p d := by
  obtain ⟨e0, e1, e2, e3, e4, e5, e6, -⟩ := idx t
  obtain ⟨r, e, rfl⟩ : ∃ (r : Fin 128) (e : Fin 512), x = ix2 r e := ⟨_, _, eq_ix2 x⟩
  have ht : t.val < 64 := t.isLt
  have hp' : p.val = t.val * 128 + r.val := hp
  have hr := r.isLt
  have hd' : d.val = o + e.val := hd
  rw [chunk_at _ _ _ _ _ _ _ _ j o ho h128 h8 h1 h6 h11 r e d hd']
  have c0 : cell (iblk m c 2 t) (iblk m c 3 t) (iblk m c 4 t) (iblk m c 5 t) (fun k => iblk m c 0 t (ix2 r k)) d = norms m c p d :=
    cell_eq m c t _ p d (by omega) (funext fun k => by blk_ext [iblk, V, e0, hp'])
  have c6 : iblk m c 6 t (ix2 j d) = m ((c : Thread nD τ).loc main_arg5) (ix2 j d) := by blk_ext [iblk, V, e6]
  unfold mixed
  refine congrArg₂ (· + ·) c0 (congrArg₂ (· * ·) (congrArg₂ (· - ·) ?_ c0) c6)
  unfold before
  by_cases h0 : r.val = 0
  · rw [if_pos h0]
    by_cases hb : t.val % 32 = 0
    · rw [if_pos ((begins_iff t).2 hb), if_pos (by omega)]
    · rw [if_neg (fun h => hb ((begins_iff t).1 h)), if_neg (by omega)]
      exact cell_eq m c t _ _ d (by show (p.val - 1) / 4096 = _; omega) (funext fun k => by blk_ext [iblk, V, e1])
  · rw [if_neg h0, if_neg (by omega)]
    exact cell_eq m c t _ _ d (by show (p.val - 1) / 4096 = _; omega) (funext fun k => by blk_ext [iblk, V, e0])

/-- The array the kernel leaves as its first result. -/
theorem out7 : (dats m 0 c).arrAt 7 cfg0.N = fun i => stats (m ((c : Thread nD τ).loc main_arg0)) (i 0) (i 1) := by
  refine (dats m 0 c).arrAt_eq_of_covers 7 _ (by decide +kernel) fun t hf y => ?_
  blk_simp
  rw [after0_7]
  obtain ⟨e0, e1, e2, e3, e4, e5, e6, e7, -⟩ := idx t
  unfold out0_7
  canon_tiles x h using cover0_7 ..
  · obtain ⟨r, d, rfl⟩ : ∃ (r : Fin 128) (d : Fin 1), x = ix2 r d := ⟨_, _, eq_ix2 x⟩
    refine (dev_at (grid0.coords t) (iblk m c 0 t) (iblk m c 1 t) (iblk m c 2 t) (iblk m c 3 t) (iblk m c 4 t) (iblk m c 5 t) (iblk m c 6 t) r d).trans ?_
    unfold stats
    rw [if_neg]
    · refine congrArg invDev (funext fun k => ?_)
      blk_ext [iblk, V, e0, e7, h0]
    · intro hz
      have hz' := congrArg Fin.val hz
      blk_simp [e7, h1] at hz'
      exact Nat.one_ne_zero hz'
  · obtain ⟨r, d, rfl⟩ : ∃ (r : Fin 128) (d : Fin 1), x = ix2 r d := ⟨_, _, eq_ix2 x⟩
    refine (mean_at (iblk m c 0 t) r d).trans ?_
    unfold stats
    rw [if_pos]
    · refine congrArg mean (funext fun k => ?_)
      blk_ext [iblk, V, e0, e7, h0]
    · apply Fin.ext
      blk_simp [e7, h1]
      rfl

/-- The array the kernel leaves as its second result. -/
theorem out8 : (dats m 0 c).arrAt 8 cfg0.N = fun i => mixed (norms m c) (m ((c : Thread nD τ).loc main_arg5)) 0 (i 0) (i 1) := by
  refine (dats m 0 c).arrAt_eq_of_covers 8 _ (by decide +kernel) fun t hf y => ?_
  blk_simp
  rw [after0_8]
  obtain ⟨-, -, -, -, -, -, -, -, e8, e9, e10, e11, e12, e13⟩ := idx t
  unfold out0_8
  canon_tiles x h using cover0_8 ..
  · exact tile m c t 0 3584 inb_S128x4096_S128x512_0_3584 inb_S8x4096_S8x512_0_3584 inb_S1x4096_S1x512_0_3584 inb_S6x4096_S1x512_0_3584 inb_S1x1x4096_S1x1x512_0_0_3584 (by omega) x _ _ (by blk_simp [e8, h0]) (by blk_simp [e8, h1])
  · exact tile m c t 0 3072 inb_S128x4096_S128x512_0_3072 inb_S8x4096_S8x512_0_3072 inb_S1x4096_S1x512_0_3072 inb_S6x4096_S1x512_0_3072 inb_S1x1x4096_S1x1x512_0_0_3072 (by omega) x _ _ (by blk_simp [e8, h0]) (by blk_simp [e8, h1])
  · exact tile m c t 0 2560 inb_S128x4096_S128x512_0_2560 inb_S8x4096_S8x512_0_2560 inb_S1x4096_S1x512_0_2560 inb_S6x4096_S1x512_0_2560 inb_S1x1x4096_S1x1x512_0_0_2560 (by omega) x _ _ (by blk_simp [e8, h0]) (by blk_simp [e8, h1])
  · exact tile m c t 0 2048 inb_S128x4096_S128x512_0_2048 inb_S8x4096_S8x512_0_2048 inb_S1x4096_S1x512_0_2048 inb_S6x4096_S1x512_0_2048 inb_S1x1x4096_S1x1x512_0_0_2048 (by omega) x _ _ (by blk_simp [e8, h0]) (by blk_simp [e8, h1])
  · exact tile m c t 0 1536 inb_S128x4096_S128x512_0_1536 inb_S8x4096_S8x512_0_1536 inb_S1x4096_S1x512_0_1536 inb_S6x4096_S1x512_0_1536 inb_S1x1x4096_S1x1x512_0_0_1536 (by omega) x _ _ (by blk_simp [e8, h0]) (by blk_simp [e8, h1])
  · exact tile m c t 0 1024 inb_S128x4096_S128x512_0_1024 inb_S8x4096_S8x512_0_1024 inb_S1x4096_S1x512_0_1024 inb_S6x4096_S1x512_0_1024 inb_S1x1x4096_S1x1x512_0_0_1024 (by omega) x _ _ (by blk_simp [e8, h0]) (by blk_simp [e8, h1])
  · exact tile m c t 0 512 inb_S128x4096_S128x512_0_512 inb_S8x4096_S8x512_0_512 inb_S1x4096_S1x512_0_512 inb_S6x4096_S1x512_0_512 inb_S1x1x4096_S1x1x512_0_0_512 (by omega) x _ _ (by blk_simp [e8, h0]) (by blk_simp [e8, h1])
  · exact tile m c t 0 0 inb_S128x4096_S128x512_0_0 inb_S8x4096_S8x512_0_0 inb_S1x4096_S1x512_0_0 inb_S6x4096_S1x512_0_0 inb_S1x1x4096_S1x1x512_0_0_0 (by omega) x _ _ (by blk_simp [e8, h0]) (by blk_simp [e8, h1])

/-- The array the kernel leaves as its third result. -/
theorem out9 : (dats m 0 c).arrAt 9 cfg0.N = fun i => mixed (norms m c) (m ((c : Thread nD τ).loc main_arg5)) 1 (i 0) (i 1) := by
  refine (dats m 0 c).arrAt_eq_of_covers 9 _ (by decide +kernel) fun t hf y => ?_
  blk_simp
  rw [after0_9]
  obtain ⟨-, -, -, -, -, -, -, -, e8, e9, e10, e11, e12, e13⟩ := idx t
  unfold out0_9
  canon_tiles x h using cover0_9 ..
  · exact tile m c t 1 3584 inb_S128x4096_S128x512_0_3584 inb_S8x4096_S8x512_0_3584 inb_S1x4096_S1x512_0_3584 inb_S6x4096_S1x512_1_3584 inb_S1x1x4096_S1x1x512_0_0_3584 (by omega) x _ _ (by blk_simp [e9, h0]) (by blk_simp [e9, h1])
  · exact tile m c t 1 3072 inb_S128x4096_S128x512_0_3072 inb_S8x4096_S8x512_0_3072 inb_S1x4096_S1x512_0_3072 inb_S6x4096_S1x512_1_3072 inb_S1x1x4096_S1x1x512_0_0_3072 (by omega) x _ _ (by blk_simp [e9, h0]) (by blk_simp [e9, h1])
  · exact tile m c t 1 2560 inb_S128x4096_S128x512_0_2560 inb_S8x4096_S8x512_0_2560 inb_S1x4096_S1x512_0_2560 inb_S6x4096_S1x512_1_2560 inb_S1x1x4096_S1x1x512_0_0_2560 (by omega) x _ _ (by blk_simp [e9, h0]) (by blk_simp [e9, h1])
  · exact tile m c t 1 2048 inb_S128x4096_S128x512_0_2048 inb_S8x4096_S8x512_0_2048 inb_S1x4096_S1x512_0_2048 inb_S6x4096_S1x512_1_2048 inb_S1x1x4096_S1x1x512_0_0_2048 (by omega) x _ _ (by blk_simp [e9, h0]) (by blk_simp [e9, h1])
  · exact tile m c t 1 1536 inb_S128x4096_S128x512_0_1536 inb_S8x4096_S8x512_0_1536 inb_S1x4096_S1x512_0_1536 inb_S6x4096_S1x512_1_1536 inb_S1x1x4096_S1x1x512_0_0_1536 (by omega) x _ _ (by blk_simp [e9, h0]) (by blk_simp [e9, h1])
  · exact tile m c t 1 1024 inb_S128x4096_S128x512_0_1024 inb_S8x4096_S8x512_0_1024 inb_S1x4096_S1x512_0_1024 inb_S6x4096_S1x512_1_1024 inb_S1x1x4096_S1x1x512_0_0_1024 (by omega) x _ _ (by blk_simp [e9, h0]) (by blk_simp [e9, h1])
  · exact tile m c t 1 512 inb_S128x4096_S128x512_0_512 inb_S8x4096_S8x512_0_512 inb_S1x4096_S1x512_0_512 inb_S6x4096_S1x512_1_512 inb_S1x1x4096_S1x1x512_0_0_512 (by omega) x _ _ (by blk_simp [e9, h0]) (by blk_simp [e9, h1])
  · exact tile m c t 1 0 inb_S128x4096_S128x512_0_0 inb_S8x4096_S8x512_0_0 inb_S1x4096_S1x512_0_0 inb_S6x4096_S1x512_1_0 inb_S1x1x4096_S1x1x512_0_0_0 (by omega) x _ _ (by blk_simp [e9, h0]) (by blk_simp [e9, h1])

/-- The array the kernel leaves as its fourth result. -/
theorem out10 : (dats m 0 c).arrAt 10 cfg0.N = fun i => mixed (norms m c) (m ((c : Thread nD τ).loc main_arg5)) 2 (i 0) (i 1) := by
  refine (dats m 0 c).arrAt_eq_of_covers 10 _ (by decide +kernel) fun t hf y => ?_
  blk_simp
  rw [after0_10]
  obtain ⟨-, -, -, -, -, -, -, -, e8, e9, e10, e11, e12, e13⟩ := idx t
  unfold out0_10
  canon_tiles x h using cover0_10 ..
  · exact tile m c t 2 3584 inb_S128x4096_S128x512_0_3584 inb_S8x4096_S8x512_0_3584 inb_S1x4096_S1x512_0_3584 inb_S6x4096_S1x512_2_3584 inb_S1x1x4096_S1x1x512_0_0_3584 (by omega) x _ _ (by blk_simp [e10, h0]) (by blk_simp [e10, h1])
  · exact tile m c t 2 3072 inb_S128x4096_S128x512_0_3072 inb_S8x4096_S8x512_0_3072 inb_S1x4096_S1x512_0_3072 inb_S6x4096_S1x512_2_3072 inb_S1x1x4096_S1x1x512_0_0_3072 (by omega) x _ _ (by blk_simp [e10, h0]) (by blk_simp [e10, h1])
  · exact tile m c t 2 2560 inb_S128x4096_S128x512_0_2560 inb_S8x4096_S8x512_0_2560 inb_S1x4096_S1x512_0_2560 inb_S6x4096_S1x512_2_2560 inb_S1x1x4096_S1x1x512_0_0_2560 (by omega) x _ _ (by blk_simp [e10, h0]) (by blk_simp [e10, h1])
  · exact tile m c t 2 2048 inb_S128x4096_S128x512_0_2048 inb_S8x4096_S8x512_0_2048 inb_S1x4096_S1x512_0_2048 inb_S6x4096_S1x512_2_2048 inb_S1x1x4096_S1x1x512_0_0_2048 (by omega) x _ _ (by blk_simp [e10, h0]) (by blk_simp [e10, h1])
  · exact tile m c t 2 1536 inb_S128x4096_S128x512_0_1536 inb_S8x4096_S8x512_0_1536 inb_S1x4096_S1x512_0_1536 inb_S6x4096_S1x512_2_1536 inb_S1x1x4096_S1x1x512_0_0_1536 (by omega) x _ _ (by blk_simp [e10, h0]) (by blk_simp [e10, h1])
  · exact tile m c t 2 1024 inb_S128x4096_S128x512_0_1024 inb_S8x4096_S8x512_0_1024 inb_S1x4096_S1x512_0_1024 inb_S6x4096_S1x512_2_1024 inb_S1x1x4096_S1x1x512_0_0_1024 (by omega) x _ _ (by blk_simp [e10, h0]) (by blk_simp [e10, h1])
  · exact tile m c t 2 512 inb_S128x4096_S128x512_0_512 inb_S8x4096_S8x512_0_512 inb_S1x4096_S1x512_0_512 inb_S6x4096_S1x512_2_512 inb_S1x1x4096_S1x1x512_0_0_512 (by omega) x _ _ (by blk_simp [e10, h0]) (by blk_simp [e10, h1])
  · exact tile m c t 2 0 inb_S128x4096_S128x512_0_0 inb_S8x4096_S8x512_0_0 inb_S1x4096_S1x512_0_0 inb_S6x4096_S1x512_2_0 inb_S1x1x4096_S1x1x512_0_0_0 (by omega) x _ _ (by blk_simp [e10, h0]) (by blk_simp [e10, h1])

/-- The array the kernel leaves as its fifth result. -/
theorem out11 : (dats m 0 c).arrAt 11 cfg0.N = fun i => mixed (norms m c) (m ((c : Thread nD τ).loc main_arg5)) 3 (i 0) (i 1) := by
  refine (dats m 0 c).arrAt_eq_of_covers 11 _ (by decide +kernel) fun t hf y => ?_
  blk_simp
  rw [after0_11]
  obtain ⟨-, -, -, -, -, -, -, -, e8, e9, e10, e11, e12, e13⟩ := idx t
  unfold out0_11
  canon_tiles x h using cover0_11 ..
  · exact tile m c t 3 3584 inb_S128x4096_S128x512_0_3584 inb_S8x4096_S8x512_0_3584 inb_S1x4096_S1x512_0_3584 inb_S6x4096_S1x512_3_3584 inb_S1x1x4096_S1x1x512_0_0_3584 (by omega) x _ _ (by blk_simp [e11, h0]) (by blk_simp [e11, h1])
  · exact tile m c t 3 3072 inb_S128x4096_S128x512_0_3072 inb_S8x4096_S8x512_0_3072 inb_S1x4096_S1x512_0_3072 inb_S6x4096_S1x512_3_3072 inb_S1x1x4096_S1x1x512_0_0_3072 (by omega) x _ _ (by blk_simp [e11, h0]) (by blk_simp [e11, h1])
  · exact tile m c t 3 2560 inb_S128x4096_S128x512_0_2560 inb_S8x4096_S8x512_0_2560 inb_S1x4096_S1x512_0_2560 inb_S6x4096_S1x512_3_2560 inb_S1x1x4096_S1x1x512_0_0_2560 (by omega) x _ _ (by blk_simp [e11, h0]) (by blk_simp [e11, h1])
  · exact tile m c t 3 2048 inb_S128x4096_S128x512_0_2048 inb_S8x4096_S8x512_0_2048 inb_S1x4096_S1x512_0_2048 inb_S6x4096_S1x512_3_2048 inb_S1x1x4096_S1x1x512_0_0_2048 (by omega) x _ _ (by blk_simp [e11, h0]) (by blk_simp [e11, h1])
  · exact tile m c t 3 1536 inb_S128x4096_S128x512_0_1536 inb_S8x4096_S8x512_0_1536 inb_S1x4096_S1x512_0_1536 inb_S6x4096_S1x512_3_1536 inb_S1x1x4096_S1x1x512_0_0_1536 (by omega) x _ _ (by blk_simp [e11, h0]) (by blk_simp [e11, h1])
  · exact tile m c t 3 1024 inb_S128x4096_S128x512_0_1024 inb_S8x4096_S8x512_0_1024 inb_S1x4096_S1x512_0_1024 inb_S6x4096_S1x512_3_1024 inb_S1x1x4096_S1x1x512_0_0_1024 (by omega) x _ _ (by blk_simp [e11, h0]) (by blk_simp [e11, h1])
  · exact tile m c t 3 512 inb_S128x4096_S128x512_0_512 inb_S8x4096_S8x512_0_512 inb_S1x4096_S1x512_0_512 inb_S6x4096_S1x512_3_512 inb_S1x1x4096_S1x1x512_0_0_512 (by omega) x _ _ (by blk_simp [e11, h0]) (by blk_simp [e11, h1])
  · exact tile m c t 3 0 inb_S128x4096_S128x512_0_0 inb_S8x4096_S8x512_0_0 inb_S1x4096_S1x512_0_0 inb_S6x4096_S1x512_3_0 inb_S1x1x4096_S1x1x512_0_0_0 (by omega) x _ _ (by blk_simp [e11, h0]) (by blk_simp [e11, h1])

/-- The array the kernel leaves as its sixth result. -/
theorem out12 : (dats m 0 c).arrAt 12 cfg0.N = fun i => mixed (norms m c) (m ((c : Thread nD τ).loc main_arg5)) 4 (i 0) (i 1) := by
  refine (dats m 0 c).arrAt_eq_of_covers 12 _ (by decide +kernel) fun t hf y => ?_
  blk_simp
  rw [after0_12]
  obtain ⟨-, -, -, -, -, -, -, -, e8, e9, e10, e11, e12, e13⟩ := idx t
  unfold out0_12
  canon_tiles x h using cover0_12 ..
  · exact tile m c t 4 3584 inb_S128x4096_S128x512_0_3584 inb_S8x4096_S8x512_0_3584 inb_S1x4096_S1x512_0_3584 inb_S6x4096_S1x512_4_3584 inb_S1x1x4096_S1x1x512_0_0_3584 (by omega) x _ _ (by blk_simp [e12, h0]) (by blk_simp [e12, h1])
  · exact tile m c t 4 3072 inb_S128x4096_S128x512_0_3072 inb_S8x4096_S8x512_0_3072 inb_S1x4096_S1x512_0_3072 inb_S6x4096_S1x512_4_3072 inb_S1x1x4096_S1x1x512_0_0_3072 (by omega) x _ _ (by blk_simp [e12, h0]) (by blk_simp [e12, h1])
  · exact tile m c t 4 2560 inb_S128x4096_S128x512_0_2560 inb_S8x4096_S8x512_0_2560 inb_S1x4096_S1x512_0_2560 inb_S6x4096_S1x512_4_2560 inb_S1x1x4096_S1x1x512_0_0_2560 (by omega) x _ _ (by blk_simp [e12, h0]) (by blk_simp [e12, h1])
  · exact tile m c t 4 2048 inb_S128x4096_S128x512_0_2048 inb_S8x4096_S8x512_0_2048 inb_S1x4096_S1x512_0_2048 inb_S6x4096_S1x512_4_2048 inb_S1x1x4096_S1x1x512_0_0_2048 (by omega) x _ _ (by blk_simp [e12, h0]) (by blk_simp [e12, h1])
  · exact tile m c t 4 1536 inb_S128x4096_S128x512_0_1536 inb_S8x4096_S8x512_0_1536 inb_S1x4096_S1x512_0_1536 inb_S6x4096_S1x512_4_1536 inb_S1x1x4096_S1x1x512_0_0_1536 (by omega) x _ _ (by blk_simp [e12, h0]) (by blk_simp [e12, h1])
  · exact tile m c t 4 1024 inb_S128x4096_S128x512_0_1024 inb_S8x4096_S8x512_0_1024 inb_S1x4096_S1x512_0_1024 inb_S6x4096_S1x512_4_1024 inb_S1x1x4096_S1x1x512_0_0_1024 (by omega) x _ _ (by blk_simp [e12, h0]) (by blk_simp [e12, h1])
  · exact tile m c t 4 512 inb_S128x4096_S128x512_0_512 inb_S8x4096_S8x512_0_512 inb_S1x4096_S1x512_0_512 inb_S6x4096_S1x512_4_512 inb_S1x1x4096_S1x1x512_0_0_512 (by omega) x _ _ (by blk_simp [e12, h0]) (by blk_simp [e12, h1])
  · exact tile m c t 4 0 inb_S128x4096_S128x512_0_0 inb_S8x4096_S8x512_0_0 inb_S1x4096_S1x512_0_0 inb_S6x4096_S1x512_4_0 inb_S1x1x4096_S1x1x512_0_0_0 (by omega) x _ _ (by blk_simp [e12, h0]) (by blk_simp [e12, h1])

/-- The array the kernel leaves as its seventh result. -/
theorem out13 : (dats m 0 c).arrAt 13 cfg0.N = fun i => mixed (norms m c) (m ((c : Thread nD τ).loc main_arg5)) 5 (i 0) (i 1) := by
  refine (dats m 0 c).arrAt_eq_of_covers 13 _ (by decide +kernel) fun t hf y => ?_
  blk_simp
  rw [after0_13]
  obtain ⟨-, -, -, -, -, -, -, -, e8, e9, e10, e11, e12, e13⟩ := idx t
  unfold out0_13
  canon_tiles x h using cover0_13 ..
  · exact tile m c t 5 3584 inb_S128x4096_S128x512_0_3584 inb_S8x4096_S8x512_0_3584 inb_S1x4096_S1x512_0_3584 inb_S6x4096_S1x512_5_3584 inb_S1x1x4096_S1x1x512_0_0_3584 (by omega) x _ _ (by blk_simp [e13, h0]) (by blk_simp [e13, h1])
  · exact tile m c t 5 3072 inb_S128x4096_S128x512_0_3072 inb_S8x4096_S8x512_0_3072 inb_S1x4096_S1x512_0_3072 inb_S6x4096_S1x512_5_3072 inb_S1x1x4096_S1x1x512_0_0_3072 (by omega) x _ _ (by blk_simp [e13, h0]) (by blk_simp [e13, h1])
  · exact tile m c t 5 2560 inb_S128x4096_S128x512_0_2560 inb_S8x4096_S8x512_0_2560 inb_S1x4096_S1x512_0_2560 inb_S6x4096_S1x512_5_2560 inb_S1x1x4096_S1x1x512_0_0_2560 (by omega) x _ _ (by blk_simp [e13, h0]) (by blk_simp [e13, h1])
  · exact tile m c t 5 2048 inb_S128x4096_S128x512_0_2048 inb_S8x4096_S8x512_0_2048 inb_S1x4096_S1x512_0_2048 inb_S6x4096_S1x512_5_2048 inb_S1x1x4096_S1x1x512_0_0_2048 (by omega) x _ _ (by blk_simp [e13, h0]) (by blk_simp [e13, h1])
  · exact tile m c t 5 1536 inb_S128x4096_S128x512_0_1536 inb_S8x4096_S8x512_0_1536 inb_S1x4096_S1x512_0_1536 inb_S6x4096_S1x512_5_1536 inb_S1x1x4096_S1x1x512_0_0_1536 (by omega) x _ _ (by blk_simp [e13, h0]) (by blk_simp [e13, h1])
  · exact tile m c t 5 1024 inb_S128x4096_S128x512_0_1024 inb_S8x4096_S8x512_0_1024 inb_S1x4096_S1x512_0_1024 inb_S6x4096_S1x512_5_1024 inb_S1x1x4096_S1x1x512_0_0_1024 (by omega) x _ _ (by blk_simp [e13, h0]) (by blk_simp [e13, h1])
  · exact tile m c t 5 512 inb_S128x4096_S128x512_0_512 inb_S8x4096_S8x512_0_512 inb_S1x4096_S1x512_0_512 inb_S6x4096_S1x512_5_512 inb_S1x1x4096_S1x1x512_0_0_512 (by omega) x _ _ (by blk_simp [e13, h0]) (by blk_simp [e13, h1])
  · exact tile m c t 5 0 inb_S128x4096_S128x512_0_0 inb_S8x4096_S8x512_0_0 inb_S1x4096_S1x512_0_0 inb_S6x4096_S1x512_5_0 inb_S1x1x4096_S1x1x512_0_0_0 (by omega) x _ _ (by blk_simp [e13, h0]) (by blk_simp [e13, h1])

/-- The mixes of both forms of the norms agree where the arguments do, and the bias and the scale are real. -/
theorem mixed_eq {z z' : (⟨2, ![8192, 4096]⟩ : Shape).Idx → EReal} {g g' b b' : (⟨2, ![1, 4096]⟩ : Shape).Idx → EReal}
    {sc sc' sh sh' : (⟨3, ![2, 1, 4096]⟩ : Shape).Idx → EReal} {mix mix' : (⟨2, ![6, 4096]⟩ : Shape).Idx → EReal}
    (h0 : z' = z) (h1 : g' = g) (h2 : b' = b) (h3 : sc' = sc) (h4 : sh' = sh) (h5 : mix' = mix)
    (hb : ∀ i, ∃ y : ℝ, b i = y) (hs : ∀ i, ∃ y : ℝ, sc i = y) (j : Fin 6) :
    (fun i : (⟨2, ![8192, 4096]⟩ : Shape).Idx => mixed (modulated z' g' b' sc' sh') mix' j (i 0) (i 1))
      = fun i => mixed (folded z g b sc sh) mix j (i 0) (i 1) := by
  subst h0 h1 h2 h3 h4 h5
  have e : folded z' g' b' sc' sh' = modulated z' g' b' sc' sh' := funext fun p => funext fun d => folded_eq z' g' b' sc' sh' hb hs p d
  rw [e]

/-- The precondition gives a real bias and a real scale. -/
theorem finite (a0 : FVec Ideal Pre_finite_shift.S8192x4096 .f32) (a1 a2 : FVec Ideal Pre_finite_shift.S1x4096 .f32) (a3 a4 : FVec Ideal Pre_finite_shift.S2x1x4096 .f32) (a5 : FVec Ideal Pre_finite_shift.S6x4096 .f32)
    (h : Cert.Pre_finite_shift.fn a0 a1 a2 a3 a4 a5 = fun _ => 1#1) : (∀ i, ∃ y : ℝ, a2 i = y) ∧ (∀ i, ∃ y : ℝ, a3 i = y) := by
  have h0 := congrFun h ix0
  unfold Cert.Pre_finite_shift.fn at h0
  obtain ⟨hb, hs⟩ := IntOp.andi_eq_one.1 h0
  have : Subsingleton Pre_finite_shift.S_.Idx := ⟨fun a b => funext fun i => i.elim0⟩
  exact ⟨fun i => real_of_lt (Host.reduce_andi_all _ _ _ _ _ hb i), fun i => real_of_lt (Host.reduce_andi_all _ _ _ _ _ hs i)⟩

/-- The kernel terminates with its results at `stats` and the mixes of the norms of its arguments, which are unchanged. -/
theorem run (ρ : Dev nD → PrngReg) : θ_run defs (onTc (τ := τ) (main (F := Ideal))) ⟨m, fun _ => 0, ρ⟩ fun r => ∀ c : Dev nD,
      r.2.mem ((c.tc : Thread nD τ).loc main_v0_0) = (fun i => stats (m ((c.tc : Thread nD τ).loc main_arg0)) (i 0) (i 1))
      ∧ r.2.mem ((c.tc : Thread nD τ).loc main_v0_1) = (fun i => mixed (norms m c) (m ((c.tc : Thread nD τ).loc main_arg5)) 0 (i 0) (i 1))
      ∧ r.2.mem ((c.tc : Thread nD τ).loc main_v0_2) = (fun i => mixed (norms m c) (m ((c.tc : Thread nD τ).loc main_arg5)) 1 (i 0) (i 1))
      ∧ r.2.mem ((c.tc : Thread nD τ).loc main_v0_3) = (fun i => mixed (norms m c) (m ((c.tc : Thread nD τ).loc main_arg5)) 2 (i 0) (i 1))
      ∧ r.2.mem ((c.tc : Thread nD τ).loc main_v0_4) = (fun i => mixed (norms m c) (m ((c.tc : Thread nD τ).loc main_arg5)) 3 (i 0) (i 1))
      ∧ r.2.mem ((c.tc : Thread nD τ).loc main_v0_5) = (fun i => mixed (norms m c) (m ((c.tc : Thread nD τ).loc main_arg5)) 4 (i 0) (i 1))
      ∧ r.2.mem ((c.tc : Thread nD τ).loc main_v0_6) = (fun i => mixed (norms m c) (m ((c.tc : Thread nD τ).loc main_arg5)) 5 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out7 m c), (h c).2.1.trans (out8 m c), (h c).2.2.1.trans (out9 m c), (h c).2.2.2.1.trans (out10 m c), (h c).2.2.2.2.1.trans (out11 m c), (h c).2.2.2.2.2.1.trans (out12 m c), (h c).2.2.2.2.2.2.1.trans (out13 m c), (h c).2.2.2.2.2.2.2⟩) (Value.run_blocks m ρ)

end Cert.Proof.Shift

namespace Cert.Proof.ShiftRef

open Idealize.ShloMosaic Idealize.ShloMosaic.TcCoe Idealize.SL.Sem
open Cert.Reference15Ideal Cert.Reference15Ideal.Gen Cert.Proof.NormMod Cert.Proof.Shift

/-- The reference's statistics at one index. -/
theorem stats_at (a0 : FVec Ideal S8192x4096 .f32) (p : Fin 8192) (q : Fin 2) :
    (concatenate S8192x2 1 [⟨S8192x1, (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))⟩, ⟨S8192x1, (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32))))⟩] concatenates_S8192x1_S8192x1_S8192x2_d1 : FVec Ideal S8192x2 .f32) (ix2 p q)
      = stats a0 p q := by
  pointwise
  unfold stats
  by_cases h : q = 0
  · subst h
    rfl
  · have hq : ¬ q.val < 1 := fun hl => h (Fin.ext (by omega))
    rw [dif_neg hq, if_neg h]
    rfl

/-- The reference's modulated norms. -/
def units (a0 : FVec Ideal S8192x4096 .f32) (a1 a2 : FVec Ideal S1x4096 .f32) (a3 a4 : FVec Ideal S2x1x4096 .f32) : FVec Ideal S8192x4096 .f32 :=
  shapeCast S8192x4096 (addf (mulf (shapeCast S2x4096x4096 (addf (mulf (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (broadcastInDim S8192x4096 ![0, 1] bcast_S8192x1_S8192x4096_0_1 (Host.rsqrt (addf (Host.divf (broadcastInDim S8192x1 ![0] bcast_S8192_S8192x1_0 (Host.reduceAdd (mulf (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32))))) (subf a0 (broadcastInDim S8192x4096 ![0, 1] bcast_S8192x1_S8192x4096_0_1 (Host.divf (broadcastInDim S8192x1 ![0] bcast_S8192_S8192x1_0 (Host.reduceAdd a0 (constant S_ .f32 0x00000000#32) reducesTo_S8192x4096_S8192_d1 h_S_)) (broadcastInDim S8192x1 ![] bcast_S_S8192x1 (constant S_ .f32 0x45800000#32)))))) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x3727C5AC#32)))))) (broadcastInDim S8192x4096 ![0, 1] bcast_S1x4096_S8192x4096_0_1 a1)) (broadcastInDim S8192x4096 ![0, 1] bcast_S1x4096_S8192x4096_0_1 a2)) shapeCasts_S8192x4096_S2x4096x4096) (broadcastInDim S2x4096x4096 ![0, 1, 2] bcast_S2x1x4096_S2x4096x4096_0_1_2 (addf (broadcastInDim S2x1x4096 ![] bcast_S_S2x1x4096 (constant S_ .f32 0x3F800000#32)) a3))) (broadcastInDim S2x4096x4096 ![0, 1, 2] bcast_S2x1x4096_S2x4096x4096_0_1_2 a4)) shapeCasts_S2x4096x4096_S8192x4096

/-- Those at one index. -/
theorem units_at (a0 : FVec Ideal S8192x4096 .f32) (a1 a2 : FVec Ideal S1x4096 .f32) (a3 a4 : FVec Ideal S2x1x4096 .f32) (p : Fin 8192) (q : Fin 4096) :
    units a0 a1 a2 a3 a4 (ix2 p q) = modulated a0 a1 a2 a3 a4 p q := by
  pointwise [units]
  rfl

/-- The reference's mix of its norms `u` by one mixing row `sl`. -/
def mix (u : FVec Ideal S8192x4096 .f32) (sl : FVec Ideal S1x4096 .f32) : FVec Ideal S8192x4096 .bf16 :=
  truncf .bf16 (shapeCast S8192x4096 (addf (shapeCast S2x4096x4096 u shapeCasts_S8192x4096_S2x4096x4096) (mulf (subf (extractStridedSlice S2x4096x4096 ![0, 0, 0] (pad S2x4097x4096 ![0, 1, 0] ![0, 0, 0] ![0, 0, 0] (shapeCast S2x4096x4096 u shapeCasts_S8192x4096_S2x4096x4096) (sitofp .f32 (constantI S_ 32 0#32)) pads_S2x4096x4096_S2x4097x4096_000_100_000 h_S_) slices_S2x4097x4096_S2x4096x4096_0_0_0) (shapeCast S2x4096x4096 u shapeCasts_S8192x4096_S2x4096x4096)) (broadcastInDim S2x4096x4096 ![0, 1, 2] bcast_S1x1x4096_S2x4096x4096_0_1_2 (broadcastInDim S1x1x4096 ![2] bcast_S4096_S1x1x4096_2 (shapeCast S4096 sl shapeCasts_S1x4096_S4096))))) shapeCasts_S2x4096x4096_S8192x4096) bitsLt_bf16_f32

/-- That mix at one index. -/
theorem mix_at (u : FVec Ideal S8192x4096 .f32) (sl : FVec Ideal S1x4096 .f32) (p : Fin 8192) (q : Fin 4096) :
    mix u sl (ix2 p q) = u (ix2 p q) + (before (fun p d => u (ix2 p d)) p q - u (ix2 p q)) * sl (ix2 0 q) := by
  pointwise [mix]
  refine congrArg (u (ix2 p q) + ·) (congrArg (· * sl (ix2 0 q)) (congrArg (· - u (ix2 p q)) ?_))
  have hp := p.isLt
  unfold before
  by_cases h0 : p.val % 4096 = 0
  · rw [dif_neg (by omega), if_pos h0]
    show ((((0#32 : BitVec 32).toInt : ℝ)) : EReal) = 0
    simp
  · rw [dif_pos (by omega), if_neg h0]
    exact congrArg u (congrArg (fun r => ix2 r q) (Fin.ext (by show p.val / 4096 * 4096 + (p.val % 4096 - 1) = p.val - 1; omega)))

/-- Mixing row 0 at one column. -/
theorem slice0 (x : FVec Ideal S6x4096 .f32) (q : Fin 4096) :
    extractStridedSlice S1x4096 ![0, 0] x slices_S6x4096_S1x4096_0_0 (ix2 0 q) = x (ix2 0 q) := by
  pointwise

/-- One of the reference's results at one index: mixing row 0. -/
theorem mixed0 (m : (ℓ : Loc nD τ sig) → Buf (Elt Ideal) ℓ) (c : Dev nD) :
    Value.res_main_v41 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 0 (i 0) (i 1) := by
  have e0 : Value.res_main_v41 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![0, 0] (m ((c.tc : Thread nD τ).loc main_arg5) : FVec Ideal S6x4096 .f32) slices_S6x4096_S1x4096_0_0) := by
    unfold Value.res_main_v41 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice0]
  rfl

/-- Mixing row 1 at one column. -/
theorem slice1 (x : FVec Ideal S6x4096 .f32) (q : Fin 4096) :
    extractStridedSlice S1x4096 ![1, 0] x slices_S6x4096_S1x4096_1_0 (ix2 0 q) = x (ix2 1 q) := by
  pointwise

/-- One of the reference's results at one index: mixing row 1. -/
theorem mixed1 (m : (ℓ : Loc nD τ sig) → Buf (Elt Ideal) ℓ) (c : Dev nD) :
    Value.res_main_v49 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 1 (i 0) (i 1) := by
  have e0 : Value.res_main_v49 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![1, 0] (m ((c.tc : Thread nD τ).loc main_arg5) : FVec Ideal S6x4096 .f32) slices_S6x4096_S1x4096_1_0) := by
    unfold Value.res_main_v49 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice1]
  rfl

/-- Mixing row 2 at one column. -/
theorem slice2 (x : FVec Ideal S6x4096 .f32) (q : Fin 4096) :
    extractStridedSlice S1x4096 ![2, 0] x slices_S6x4096_S1x4096_2_0 (ix2 0 q) = x (ix2 2 q) := by
  pointwise

/-- One of the reference's results at one index: mixing row 2. -/
theorem mixed2 (m : (ℓ : Loc nD τ sig) → Buf (Elt Ideal) ℓ) (c : Dev nD) :
    Value.res_main_v57 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 2 (i 0) (i 1) := by
  have e0 : Value.res_main_v57 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![2, 0] (m ((c.tc : Thread nD τ).loc main_arg5) : FVec Ideal S6x4096 .f32) slices_S6x4096_S1x4096_2_0) := by
    unfold Value.res_main_v57 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice2]
  rfl

/-- Mixing row 3 at one column. -/
theorem slice3 (x : FVec Ideal S6x4096 .f32) (q : Fin 4096) :
    extractStridedSlice S1x4096 ![3, 0] x slices_S6x4096_S1x4096_3_0 (ix2 0 q) = x (ix2 3 q) := by
  pointwise

/-- One of the reference's results at one index: mixing row 3. -/
theorem mixed3 (m : (ℓ : Loc nD τ sig) → Buf (Elt Ideal) ℓ) (c : Dev nD) :
    Value.res_main_v65 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 3 (i 0) (i 1) := by
  have e0 : Value.res_main_v65 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![3, 0] (m ((c.tc : Thread nD τ).loc main_arg5) : FVec Ideal S6x4096 .f32) slices_S6x4096_S1x4096_3_0) := by
    unfold Value.res_main_v65 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice3]
  rfl

/-- Mixing row 4 at one column. -/
theorem slice4 (x : FVec Ideal S6x4096 .f32) (q : Fin 4096) :
    extractStridedSlice S1x4096 ![4, 0] x slices_S6x4096_S1x4096_4_0 (ix2 0 q) = x (ix2 4 q) := by
  pointwise

/-- One of the reference's results at one index: mixing row 4. -/
theorem mixed4 (m : (ℓ : Loc nD τ sig) → Buf (Elt Ideal) ℓ) (c : Dev nD) :
    Value.res_main_v73 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 4 (i 0) (i 1) := by
  have e0 : Value.res_main_v73 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![4, 0] (m ((c.tc : Thread nD τ).loc main_arg5) : FVec Ideal S6x4096 .f32) slices_S6x4096_S1x4096_4_0) := by
    unfold Value.res_main_v73 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice4]
  rfl

/-- Mixing row 5 at one column. -/
theorem slice5 (x : FVec Ideal S6x4096 .f32) (q : Fin 4096) :
    extractStridedSlice S1x4096 ![5, 0] x slices_S6x4096_S1x4096_5_0 (ix2 0 q) = x (ix2 5 q) := by
  pointwise

/-- One of the reference's results at one index: mixing row 5. -/
theorem mixed5 (m : (ℓ : Loc nD τ sig) → Buf (Elt Ideal) ℓ) (c : Dev nD) :
    Value.res_main_v81 m c = fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 5 (i 0) (i 1) := by
  have e0 : Value.res_main_v81 m c = mix (units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (extractStridedSlice S1x4096 ![5, 0] (m ((c.tc : Thread nD τ).loc main_arg5) : FVec Ideal S6x4096 .f32) slices_S6x4096_S1x4096_5_0) := by
    unfold Value.res_main_v81 mix units
    rfl
  have e : (fun p d => units (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 p d)) = modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := funext fun p => funext fun d => units_at _ _ _ _ _ p d
  rw [e0]
  funext i
  obtain ⟨p, q, rfl⟩ : ∃ (p : Fin 8192) (q : Fin 4096), i = ix2 p q := ⟨_, _, eq_ix2 i⟩
  rw [mix_at, e, units_at, slice5]
  rfl

/-- The reference terminates with its results at `stats` and the mixes of the modulated norms of its arguments, which are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v82) = (fun i => stats (m ((c.tc : Thread nD τ).loc main_arg0)) (i 0) (i 1))
      ∧ r.2.mem ((c.tc : Thread nD τ).loc main_v41) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 0 (i 0) (i 1))
      ∧ r.2.mem ((c.tc : Thread nD τ).loc main_v49) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 1 (i 0) (i 1))
      ∧ r.2.mem ((c.tc : Thread nD τ).loc main_v57) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 2 (i 0) (i 1))
      ∧ r.2.mem ((c.tc : Thread nD τ).loc main_v65) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 3 (i 0) (i 1))
      ∧ r.2.mem ((c.tc : Thread nD τ).loc main_v73) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 4 (i 0) (i 1))
      ∧ r.2.mem ((c.tc : Thread nD τ).loc main_v81) = (fun i => mixed (modulated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) 5 (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans ?_, (h c).2.1.trans (mixed0 m c), (h c).2.2.1.trans (mixed1 m c), (h c).2.2.2.1.trans (mixed2 m c), (h c).2.2.2.2.1.trans (mixed3 m c), (h c).2.2.2.2.2.1.trans (mixed4 m c), (h c).2.2.2.2.2.2.1.trans (mixed5 m c), (h c).2.2.2.2.2.2.2⟩) (Value.run m ρ)
  funext i
  obtain ⟨p, q, rfl⟩ : ∃ (p : Fin 8192) (q : Fin 2), i = ix2 p q := ⟨_, _, eq_ix2 i⟩
  exact stats_at (m ((c.tc : Thread nD τ).loc main_arg0)) p q

end Cert.Proof.ShiftRef
end
-- ==== Proof.lean ====
/- The claim, assembled: for every call the two runs of the kernel and the run of the reference end with their arguments
   unchanged; the ideal kernel is the kernel with no rewrite; and the ideal kernel's results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Pre_finite_mod
public import proofs.«01_k».proof.Proof.Gen.Pre_finite_shift
public import proofs.«01_k».proof.Proof.Equation
public import proofs.«01_k».proof.Proof.Swiglu
public import proofs.«01_k».proof.Proof.NormedResid
public import proofs.«01_k».proof.Proof.MixerIn
public import proofs.«01_k».proof.Proof.Projection
public import proofs.«01_k».proof.Proof.Resid
public import proofs.«01_k».proof.Proof.LastNorm
public import proofs.«01_k».proof.Proof.MixerResid
public import proofs.«01_k».proof.Proof.Decay
public import proofs.«01_k».proof.Proof.Rate
public import proofs.«01_k».proof.Proof.Gate
public import proofs.«01_k».proof.Proof.Modulate
public import proofs.«01_k».proof.Proof.Condition
public import proofs.«01_k».proof.Proof.NormMod
public import proofs.«01_k».proof.Proof.Shift
public import Idealize.ShloMosaic.Adequacy
public import Idealize.ShloMosaic.Init
public import Idealize.ShloMosaic.Lib.Quiescent

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Pre_finite_mod.Gen.facts,
  Cert.Pre_finite_shift.Gen.facts,
  by
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
      trivial, ?_, trivial, ?_, trivial, ?_, trivial, ?_, trivial, ?_, trivial, ?_, trivial, ?_, trivial, ?_, trivial, ?_, trivial, ?_, trivial, ?_, trivial, ?_, trivial, ?_, trivial, ?_, trivial, ?_⟩
    · intro m g _
      exact Cert.Kernel.Gen.frame m g
    · intro m g _
      exact Cert.KernelIdeal.Gen.frame m g
    · intro m g _
      exact (θ_run _ _ _).mono (fun r h => ⟨fun c => (h c).2.2, sem_eq_zero_of_no_sems (by decide) r.2⟩) (Cert.Proof.Trip.run m g)
    · intro m g _
      exact Cert.Kernel2.Gen.frame m g
    · intro m g _
      exact Cert.Kernel2Ideal.Gen.frame m g
    · intro m g _
      exact (θ_run _ _ _).mono (fun r h => ⟨fun c => (h c).2.2, sem_eq_zero_of_no_sems (by decide) r.2⟩) (Cert.Proof.SwigluRef.run m g)
    · intro m g _
      exact Cert.Kernel3.Gen.frame m g
    · intro m g _
      exact Cert.Kernel3Ideal.Gen.frame m g
    · intro m g _
      exact (θ_run _ _ _).mono (fun r h => ⟨fun c => (h c).2, sem_eq_zero_of_no_sems (by decide) r.2⟩) (Cert.Proof.NormedResidRef.run m g)
    · intro m g _
      exact Cert.Kernel4.Gen.frame m g
    · intro m g _
      exact Cert.Kernel4Ideal.Gen.frame m g
    · intro m g _
      exact (θ_run _ _ _).mono (fun r h => ⟨fun c => (h c).2, sem_eq_zero_of_no_sems (by decide) r.2⟩) (Cert.Proof.MixerInRef.run m g)
    · intro m g _
      exact Cert.Kernel5.Gen.frame m g
    · intro m g _
      exact Cert.Kernel5Ideal.Gen.frame m g
    · intro m g _
      exact (θ_run _ _ _).mono (fun r h => ⟨fun c => (h c).2, sem_eq_zero_of_no_sems (by decide) r.2⟩) (Cert.Proof.ProjectionRef.run m g)
    · intro m g _
      exact Cert.Kernel6.Gen.frame m g
    · intro m g _
      exact Cert.Kernel6Ideal.Gen.frame m g
    · intro m g _
      exact (θ_run _ _ _).mono (fun r h => ⟨fun c => (h c).2, sem_eq_zero_of_no_sems (by decide) r.2⟩) (Cert.Proof.ResidRef.run m g)
    · intro m g _
      exact Cert.Kernel7.Gen.frame m g
    · intro m g _
      exact Cert.Kernel7Ideal.Gen.frame m g
    · intro m g _
      exact (θ_run _ _ _).mono (fun r h => ⟨fun c => (h c).2, sem_eq_zero_of_no_sems (by decide) r.2⟩) (Cert.Proof.LastNormRef.run m g)
    · intro m g _
      exact Cert.Kernel8.Gen.frame m g
    · intro m g _
      exact Cert.Kernel8Ideal.Gen.frame m g
    · intro m g _
      exact (θ_run _ _ _).mono (fun r h => ⟨fun c => (h c).2, sem_eq_zero_of_no_sems (by decide) r.2⟩) (Cert.Proof.MixerResidRef.run m g)
    · intro m g _
      exact Cert.Kernel9.Gen.frame m g
    · intro m g _
      exact Cert.Kernel9Ideal.Gen.frame m g
    · intro m g _
      exact (θ_run _ _ _).mono (fun r h => ⟨fun c => (h c).2, sem_eq_zero_of_no_sems (by decide) r.2⟩) (Cert.Proof.DecayRef.run m g)
    · intro m g _
      exact Cert.Kernel10.Gen.frame m g
    · intro m g _
      exact Cert.Kernel10Ideal.Gen.frame m g
    · intro m g _
      exact (θ_run _ _ _).mono (fun r h => ⟨fun c => (h c).2, sem_eq_zero_of_no_sems (by decide) r.2⟩) (Cert.Proof.RateRef.run m g)
    · intro m g _
      exact Cert.Kernel11.Gen.frame m g
    · intro m g _
      exact Cert.Kernel11Ideal.Gen.frame m g
    · intro m g _
      exact (θ_run _ _ _).mono (fun r h => ⟨fun c => (h c).2, sem_eq_zero_of_no_sems (by decide) r.2⟩) (Cert.Proof.GateRef.run m g)
    · intro m g _
      exact Cert.Kernel12.Gen.frame m g
    · intro m g _
      exact Cert.Kernel12Ideal.Gen.frame m g
    · intro m g _
      exact (θ_run _ _ _).mono (fun r h => ⟨fun c => (h c).2.2, sem_eq_zero_of_no_sems (by decide) r.2⟩) (Cert.Proof.ModulateRef.run m g)
    · intro m g _
      exact Cert.Kernel13.Gen.frame m g
    · intro m g _
      exact Cert.Kernel13Ideal.Gen.frame m g
    · intro m g _
      exact (θ_run _ _ _).mono (fun r h => ⟨fun c => (h c).2, sem_eq_zero_of_no_sems (by decide) r.2⟩) (Cert.Proof.ConditionRef.run m g)
    · intro m g _
      exact Cert.Kernel14.Gen.frame m g
    · intro m g _
      exact Cert.Kernel14Ideal.Gen.frame m g
    · intro m g _
      exact Cert.Kernel14Ideal.Gen.frame m g
    · intro m g _
      exact (θ_run _ _ _).mono (fun r h => ⟨fun c => (h c).2.2, sem_eq_zero_of_no_sems (by decide) r.2⟩) (Cert.Proof.NormModRef.run m g)
    · intro m g _
      exact (θ_run _ _ _).mono (fun r h => ⟨fun c => (h c).2.2, sem_eq_zero_of_no_sems (by decide) r.2⟩) (Cert.Proof.NormModRef.run m g)
    · intro m g _
      exact Cert.Kernel15.Gen.frame m g
    · intro m g _
      exact Cert.Kernel15Ideal.Gen.frame m g
    · intro m g _
      exact Cert.Kernel15Ideal.Gen.frame m g
    · intro m g _
      exact (θ_run _ _ _).mono (fun r h => ⟨fun c => (h c).2.2.2.2.2.2.2, sem_eq_zero_of_no_sems (by decide) r.2⟩) (Cert.Proof.ShiftRef.run m g)
    · intro m g _
      exact (θ_run _ _ _).mono (fun r h => ⟨fun c => (h c).2.2.2.2.2.2.2, sem_eq_zero_of_no_sems (by decide) r.2⟩) (Cert.Proof.ShiftRef.run m g)
    · intro m g m' g' _ hag
      refine ⟨fun c => Cert.KernelIdeal.Value.G9 m c, fun c => Cert.KernelIdeal.Value.G10 m c, Cert.KernelIdeal.Value.run m g, ?_⟩
      refine (θ_run _ _ _).mono (fun _ h c => ?_) (Cert.Proof.Trip.run m' g')
      obtain ⟨a0, a1, a2, a3⟩ := hag c
      exact ⟨(h c).1.trans (Equation.first m m' c a0 a1 a2), (h c).2.1.trans (Equation.second m m' c a3), (h c).2.2⟩
    · intro m g m' g' _ hag
      refine ⟨_, _, Cert.Proof.Swiglu.run m g, ?_⟩
      refine (θ_run _ _ _).mono (fun _ h c => ?_) (Cert.Proof.SwigluRef.run m' g')
      obtain ⟨a0, a1, a2⟩ := hag c
      exact ⟨(h c).1.trans (by rw [a0, a1]; rfl), (h c).2.1.trans (by rw [a2]; rfl), (h c).2.2⟩
    · intro m g m' g' _ hag
      refine ⟨_, Cert.Proof.NormedResid.run m g, ?_⟩
      refine (θ_run _ _ _).mono (fun _ h c => ?_) (Cert.Proof.NormedResidRef.run m' g')
      obtain ⟨a0, a1, a2, a3, a4, a5, a6⟩ := hag c
      exact ⟨(h c).1.trans (by rw [a0, a1, a2, a3, a4, a5, a6]; rfl), (h c).2⟩
    · intro m g m' g' _ hag
      refine ⟨_, Cert.Proof.MixerIn.run m g, ?_⟩
      refine (θ_run _ _ _).mono (fun _ h c => ?_) (Cert.Proof.MixerInRef.run m' g')
      obtain ⟨a0, a1⟩ := hag c
      exact ⟨(h c).1.trans (by rw [a0, a1]; rfl), (h c).2⟩
    · intro m g m' g' _ hag
      refine ⟨_, Cert.Proof.Projection.run m g, ?_⟩
      refine (θ_run _ _ _).mono (fun _ h c => ?_) (Cert.Proof.ProjectionRef.run m' g')
      obtain ⟨a0, a1⟩ := hag c
      exact ⟨(h c).1.trans (by rw [a0, a1]; rfl), (h c).2⟩
    · intro m g m' g' _ hag
      refine ⟨_, Cert.Proof.Resid.run m g, ?_⟩
      refine (θ_run _ _ _).mono (fun _ h c => ?_) (Cert.Proof.ResidRef.run m' g')
      obtain ⟨a0, a1, a2, a3⟩ := hag c
      exact ⟨(h c).1.trans (by rw [a0, a1, a2, a3]; rfl), (h c).2⟩
    · intro m g m' g' _ hag
      refine ⟨_, Cert.Proof.LastNorm.run m g, ?_⟩
      refine (θ_run _ _ _).mono (fun _ h c => ?_) (Cert.Proof.LastNormRef.run m' g')
      obtain ⟨a0, a1, a2⟩ := hag c
      exact ⟨(h c).1.trans (by rw [a0, a1, a2]; rfl), (h c).2⟩
    · intro m g m' g' _ hag
      refine ⟨_, Cert.Proof.MixerResid.run m g, ?_⟩
      refine (θ_run _ _ _).mono (fun _ h c => ?_) (Cert.Proof.MixerResidRef.run m' g')
      obtain ⟨a0, a1, a2, a3, a4, a5, a6⟩ := hag c
      exact ⟨(h c).1.trans (by rw [a0, a1, a2, a3, a4, a5, a6]; rfl), (h c).2⟩
    · intro m g m' g' _ hag
      refine ⟨_, Cert.Proof.Decay.run m g, ?_⟩
      refine (θ_run _ _ _).mono (fun _ h c => ?_) (Cert.Proof.DecayRef.run m' g')
      obtain ⟨a0, a1⟩ := hag c
      exact ⟨(h c).1.trans (by rw [a0, a1]; rfl), (h c).2⟩
    · intro m g m' g' _ hag
      refine ⟨_, Cert.Proof.Rate.run m g, ?_⟩
      refine (θ_run _ _ _).mono (fun _ h c => ?_) (Cert.Proof.RateRef.run m' g')
      obtain ⟨a0, a1⟩ := hag c
      exact ⟨(h c).1.trans (by rw [a0, a1]; rfl), (h c).2⟩
    · intro m g m' g' _ hag
      refine ⟨_, Cert.Proof.Gate.run m g, ?_⟩
      refine (θ_run _ _ _).mono (fun _ h c => ?_) (Cert.Proof.GateRef.run m' g')
      obtain ⟨a0, a1⟩ := hag c
      exact ⟨(h c).1.trans (by rw [a0, a1]; rfl), (h c).2⟩
    · intro m g m' g' _ hag
      refine ⟨_, _, Cert.Proof.Modulate.run m g, ?_⟩
      refine (θ_run _ _ _).mono (fun _ h c => ?_) (Cert.Proof.ModulateRef.run m' g')
      obtain ⟨a0, a1, a2, a3, a4, a5⟩ := hag c
      exact ⟨(h c).1.trans (by rw [a0, a1, a2]; rfl), (h c).2.1.trans (by rw [a0, a1, a2, a3, a4, a5]; rfl), (h c).2.2⟩
    · intro m g m' g' _ hag
      refine ⟨_, Cert.Proof.Condition.run m g, ?_⟩
      refine (θ_run _ _ _).mono (fun _ h c => ?_) (Cert.Proof.ConditionRef.run m' g')
      obtain ⟨a0, a1, a2⟩ := hag c
      exact ⟨(h c).1.trans (by rw [a0, a1, a2]; rfl), (h c).2⟩
    · intro m g m' g' pre hag
      refine ⟨_, _, Cert.Proof.NormMod.run m g, ?_⟩
      refine (θ_run _ _ _).mono (fun _ h c => ?_) (Cert.Proof.NormModRef.run m' g')
      obtain ⟨a0, a1, a2, a3, a4⟩ := hag c
      obtain ⟨hb, hs⟩ := NormMod.finite _ _ _ _ _ (pre c)
      refine ⟨(h c).1.trans (by rw [a0]; rfl), (h c).2.1.trans ?_, (h c).2.2⟩
      rw [a0, a1, a2, a3, a4]
      funext i
      exact (NormMod.folded_eq _ _ _ _ _ hb hs _ _).symm
    · intro m g m' g' pre hag
      refine ⟨_, _, _, _, _, _, _, Cert.Proof.Shift.run m g, ?_⟩
      refine (θ_run _ _ _).mono (fun _ h c => ?_) (Cert.Proof.ShiftRef.run m' g')
      obtain ⟨a0, a1, a2, a3, a4, a5⟩ := hag c
      obtain ⟨hb, hs⟩ := Shift.finite _ _ _ _ _ _ (pre c)
      obtain ⟨h0, h1, h2, h3, h4, h5, h6, hk⟩ := h c
      refine ⟨h0.trans (by rw [a0]; rfl), h1.trans ?_, h2.trans ?_, h3.trans ?_, h4.trans ?_, h5.trans ?_, h6.trans ?_, hk⟩
      all_goals exact Shift.mixed_eq a0 a1 a2 a3 a4 a5 hb hs _⟩

end Cert.Proof

end
